-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S64 : Shape := ⟨1, ![64]⟩
abbrev S128 : Shape := ⟨1, ![128]⟩
abbrev S8192x2048 : Shape := ⟨2, ![8192, 2048]⟩
abbrev S16384x17664 : Shape := ⟨2, ![16384, 17664]⟩
abbrev S2x512x8x2x64 : Shape := ⟨5, ![2, 512, 8, 2, 64]⟩
abbrev S2x512x8x128 : Shape := ⟨4, ![2, 512, 8, 128]⟩
abbrev S_ : Shape := ⟨0, ![]⟩
abbrev S8192x1024 : Shape := ⟨2, ![8192, 1024]⟩

class Facts : Prop where
  bcast_S_S64 : S_.BroadcastsInDim S64 (![] : Fin 0 → Fin S64.rank)
  reducesTo_S64_S_d0 : S64.ReducesTo [0] S_
  h_S_ : 0 < S_.numel
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  slices_S16384x17664_S8192x1024_8192_8192 : S16384x17664.Slices ![8192, 8192] S8192x1024
  bcast_S_S8192x1024 : S_.BroadcastsInDim S8192x1024 (![] : Fin 0 → Fin S8192x1024.rank)
  reducesTo_S8192x1024_S_d0_1 : S8192x1024.ReducesTo [0, 1] S_
  bcast_S_S2x512x8x2x64 : S_.BroadcastsInDim S2x512x8x2x64 (![] : Fin 0 → Fin S2x512x8x2x64.rank)
  reducesTo_S2x512x8x2x64_S_d0_1_2_3_4 : S2x512x8x2x64.ReducesTo [0, 1, 2, 3, 4] S_
  bcast_S_S2x512x8x128 : S_.BroadcastsInDim S2x512x8x128 (![] : Fin 0 → Fin S2x512x8x128.rank)
  reducesTo_S2x512x8x128_S_d0_1_2_3 : S2x512x8x128.ReducesTo [0, 1, 2, 3] S_

variable [Facts]

def fn_part2 {F : FTy → Type} [FloatOps F] (main_arg8 : FVec F S2x512x8x128 .f32) (main_v31 : IVec S_ 1) (main_v34 : IVec S2x512x8x2x64 1) : IVec S_ 1 :=
  let main_c_11 : IVec S_ 1 := constantI S_ 1 1#1
  let main_v35 : IVec S_ 1 := (fun x v => Host.reduce IntOp.andi x v reducesTo_S2x512x8x2x64_S_d0_1_2_3_4 h_S_) main_v34 main_c_11
  let main_v36 : IVec S_ 1 := andi main_v31 main_v35
  let main_v37 : FVec F S2x512x8x128 .f32 := Host.absf main_arg8
  let main_cst_12 : FVec F S_ .f32 := constant S_ .f32 0x7F800000#32
  let main_v38 : FVec F S2x512x8x128 .f32 := broadcastInDim S2x512x8x128 ![] bcast_S_S2x512x8x128 main_cst_12
  let main_v39 : IVec S2x512x8x128 1 := cmpf .olt main_v37 main_v38
  let main_c_13 : IVec S_ 1 := constantI S_ 1 1#1
  let main_v40 : IVec S_ 1 := (fun x v => Host.reduce IntOp.andi x v reducesTo_S2x512x8x128_S_d0_1_2_3 h_S_) main_v39 main_c_13
  let main_v41 : IVec S_ 1 := andi main_v36 main_v40
  main_v41

def fn_part1 {F : FTy → Type} [FloatOps F] (main_arg5 : FVec F S8192x2048 .bf16) (main_arg6 : FVec F S16384x17664 .bf16) (main_arg7 : FVec F S2x512x8x2x64 .f32) (main_arg8 : FVec F S2x512x8x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8192x2048 .f32 := (extf .f32 · bitsLt_bf16_f32) main_arg5
  let main_v20 : FVec F S8192x2048 .f32 := Host.absf main_v19
  let main_cst_6 : FVec F S_ .f32 := constant S_ .f32 0x7F800000#32
  let main_v21 : FVec F S8192x2048 .f32 := broadcastInDim S8192x2048 ![] bcast_S_S8192x2048 main_cst_6
  let main_v22 : IVec S8192x2048 1 := cmpf .olt main_v20 main_v21
  let main_c_7 : IVec S_ 1 := constantI S_ 1 1#1
  let main_v23 : IVec S_ 1 := (fun x v => Host.reduce IntOp.andi x v reducesTo_S8192x2048_S_d0_1 h_S_) main_v22 main_c_7
  let main_v24 : IVec S_ 1 := andi main_v18 main_v23
  let main_v25 : FVec F S8192x1024 .bf16 := (extractStridedSlice S8192x1024 ![8192, 8192] · slices_S16384x17664_S8192x1024_8192_8192) main_arg6
  let main_v26 : FVec F S8192x1024 .f32 := (extf .f32 · bitsLt_bf16_f32) main_v25
  let main_v27 : FVec F S8192x1024 .f32 := Host.absf main_v26
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_c_9 : IVec S_ 1 := constantI S_ 1 1#1
  let main_v30 : IVec S_ 1 := (fun x v => Host.reduce IntOp.andi x v reducesTo_S8192x1024_S_d0_1 h_S_) main_v29 main_c_9
  let main_v31 : IVec S_ 1 := andi main_v24 main_v30
  let main_v32 : FVec F S2x512x8x2x64 .f32 := Host.absf main_arg7
  let main_cst_10 : FVec F S_ .f32 := constant S_ .f32 0x7F800000#32
  let main_v33 : FVec F S2x512x8x2x64 .f32 := broadcastInDim S2x512x8x2x64 ![] bcast_S_S2x512x8x2x64 main_cst_10
  let main_v34 : IVec S2x512x8x2x64 1 := cmpf .olt main_v32 main_v33
  fn_part2 (F := F) main_arg8 main_v31 main_v34

def fn {F : FTy → Type} [FloatOps F] (main_arg0 : FVec F S64 .f32) (main_arg1 : FVec F S64 .f32) (main_arg2 : FVec F S64 .f32) (main_arg3 : FVec F S64 .f32) (main_arg4 : FVec F S128 .f32) (main_arg5 : FVec F S8192x2048 .bf16) (main_arg6 : FVec F S16384x17664 .bf16) (main_arg7 : FVec F S2x512x8x2x64 .f32) (main_arg8 : FVec F S2x512x8x128 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Pre_finite6.lean ====
abbrev S16384x17664 : Shape := ⟨2, ![16384, 17664]⟩
abbrev S16384x1024 : Shape := ⟨2, ![16384, 1024]⟩
abbrev S2x16384x1024 : Shape := ⟨3, ![2, 16384, 1024]⟩
abbrev S8192x1024 : Shape := ⟨2, ![8192, 1024]⟩
abbrev S_ : Shape := ⟨0, ![]⟩
abbrev S2x8192x1024 : Shape := ⟨3, ![2, 8192, 1024]⟩

class Facts : Prop where
  slices_S16384x17664_S8192x1024_0_15360 : S16384x17664.Slices ![0, 15360] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S16384x1024_S8192x1024_0_0 : S16384x1024.Slices ![0, 0] S8192x1024
  slices_S2x16384x1024_S2x8192x1024_0_0_0 : S2x16384x1024.Slices ![0, 0, 0] S2x8192x1024
  bcast_S_S2x8192x1024 : S_.BroadcastsInDim S2x8192x1024 (![] : Fin 0 → Fin S2x8192x1024.rank)
  reducesTo_S2x8192x1024_S_d0_1_2 : S2x8192x1024.ReducesTo [0, 1, 2] S_

variable [Facts]

def fn_part1 {F : FTy → Type} [FloatOps F] (main_arg3 : FVec F S2x16384x1024 .f32) (main_arg4 : FVec F S2x16384x1024 .f32) (main_v17 : IVec S_ 1) : IVec S_ 1 :=
  let main_v18 : FVec F S2x8192x1024 .f32 := (extractStridedSlice S2x8192x1024 ![0, 0, 0] · slices_S2x16384x1024_S2x8192x1024_0_0_0) main_arg3
  let main_v19 : FVec F S2x8192x1024 .f32 := Host.absf main_v18
  let main_cst_4 : FVec F S_ .f32 := constant S_ .f32 0x7F800000#32
  let main_v20 : FVec F S2x8192x1024 .f32 := broadcastInDim S2x8192x1024 ![] bcast_S_S2x8192x1024 main_cst_4
  let main_v21 : IVec S2x8192x1024 1 := cmpf .olt main_v19 main_v20
  let main_c_5 : IVec S_ 1 := constantI S_ 1 1#1
  let main_v22 : IVec S_ 1 := (fun x v => Host.reduce IntOp.andi x v reducesTo_S2x8192x1024_S_d0_1_2 h_S_) main_v21 main_c_5
  let main_v23 : IVec S_ 1 := andi main_v17 main_v22
  let main_v24 : FVec F S2x8192x1024 .f32 := (extractStridedSlice S2x8192x1024 ![0, 0, 0] · slices_S2x16384x1024_S2x8192x1024_0_0_0) main_arg4
  let main_v25 : FVec F S2x8192x1024 .f32 := Host.absf main_v24
  let main_cst_6 : FVec F S_ .f32 := constant S_ .f32 0x7F800000#32
  let main_v26 : FVec F S2x8192x1024 .f32 := broadcastInDim S2x8192x1024 ![] bcast_S_S2x8192x1024 main_cst_6
  let main_v27 : IVec S2x8192x1024 1 := cmpf .olt main_v25 main_v26
  let main_c_7 : IVec S_ 1 := constantI S_ 1 1#1
  let main_v28 : IVec S_ 1 := (fun x v => Host.reduce IntOp.andi x v reducesTo_S2x8192x1024_S_d0_1_2 h_S_) main_v27 main_c_7
  let main_v29 : IVec S_ 1 := andi main_v23 main_v28
  main_v29

def fn {F : FTy → Type} [FloatOps F] (main_arg0 : FVec F S16384x17664 .bf16) (main_arg1 : FVec F S16384x1024 .f32) (main_arg2 : FVec F S2x16384x1024 .f32) (main_arg3 : FVec F S2x16384x1024 .f32) (main_arg4 : FVec F S2x16384x1024 .f32) : IVec S_ 1 :=
  let main_v0 : FVec F S8192x1024 .bf16 := (extractStridedSlice S8192x1024 ![0, 15360] · slices_S16384x17664_S8192x1024_0_15360) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S8192x1024 .f32 := (extractStridedSlice S8192x1024 ![0, 0] · slices_S16384x1024_S8192x1024_0_0) main_arg1
  let main_v7 : FVec F S8192x1024 .f32 := Host.absf main_v6
  let main_cst_0 : FVec F S_ .f32 := constant S_ .f32 0x7F800000#32
  let main_v8 : FVec F S8192x1024 .f32 := broadcastInDim S8192x1024 ![] bcast_S_S8192x1024 main_cst_0
  let main_v9 : IVec S8192x1024 1 := cmpf .olt main_v7 main_v8
  let main_c_1 : IVec S_ 1 := constantI S_ 1 1#1
  let main_v10 : IVec S_ 1 := (fun x v => Host.reduce IntOp.andi x v reducesTo_S8192x1024_S_d0_1 h_S_) main_v9 main_c_1
  let main_v11 : IVec S_ 1 := andi main_v5 main_v10
  let main_v12 : FVec F S2x8192x1024 .f32 := (extractStridedSlice S2x8192x1024 ![0, 0, 0] · slices_S2x16384x1024_S2x8192x1024_0_0_0) main_arg2
  let main_v13 : FVec F S2x8192x1024 .f32 := Host.absf main_v12
  let main_cst_2 : FVec F S_ .f32 := constant S_ .f32 0x7F800000#32
  let main_v14 : FVec F S2x8192x1024 .f32 := broadcastInDim S2x8192x1024 ![] bcast_S_S2x8192x1024 main_cst_2
  let main_v15 : IVec S2x8192x1024 1 := cmpf .olt main_v13 main_v14
  let main_c_3 : IVec S_ 1 := constantI S_ 1 1#1
  let main_v16 : IVec S_ 1 := (fun x v => Host.reduce IntOp.andi x v reducesTo_S2x8192x1024_S_d0_1_2 h_S_) main_v15 main_c_3
  let main_v17 : IVec S_ 1 := andi main_v11 main_v16
  fn_part1 (F := F) main_arg3 main_arg4 main_v17
-- ==== Kernel.lean ====
abbrev S64 : Shape := ⟨1, ![64]⟩
abbrev S128 : Shape := ⟨1, ![128]⟩
abbrev S8192x2048 : Shape := ⟨2, ![8192, 2048]⟩
abbrev S16384x17664 : Shape := ⟨2, ![16384, 17664]⟩
abbrev S2x512x8x2x64 : Shape := ⟨5, ![2, 512, 8, 2, 64]⟩
abbrev S2x512x8x128 : Shape := ⟨4, ![2, 512, 8, 128]⟩
abbrev S1x64 : Shape := ⟨2, ![1, 64]⟩
abbrev S4x64 : Shape := ⟨2, ![4, 64]⟩
abbrev S1x128 : Shape := ⟨2, ![1, 128]⟩
abbrev S1024x1024 : Shape := ⟨2, ![1024, 1024]⟩
abbrev S8192x1024 : Shape := ⟨2, ![8192, 1024]⟩
abbrev S1024x128 : Shape := ⟨2, ![1024, 128]⟩
abbrev S4096x128 : Shape := ⟨2, ![4096, 128]⟩
abbrev S512x128 : Shape := ⟨2, ![512, 128]⟩
abbrev S1 : Shape := ⟨1, ![1]⟩
abbrev S1x1 : Shape := ⟨2, ![1, 1]⟩
abbrev S128x128 : Shape := ⟨2, ![128, 128]⟩
abbrev S4608x128 : Shape := ⟨2, ![4608, 128]⟩
abbrev S4608x256 : Shape := ⟨2, ![4608, 256]⟩
abbrev S256x128 : Shape := ⟨2, ![256, 128]⟩
abbrev S256x4608 : Shape := ⟨2, ![256, 4608]⟩
abbrev S256 : Shape := ⟨1, ![256]⟩
abbrev S256x1 : Shape := ⟨2, ![256, 1]⟩
abbrev S256x256 : Shape := ⟨2, ![256, 256]⟩
abbrev S128x1 : Shape := ⟨2, ![128, 1]⟩

abbrev nBuf : Space → Nat
  | .hbm => 20
  | .vmem => 16
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S8192x2048, .bf16⟩
  | .hbm, ⟨6, _⟩ => ⟨S16384x17664, .bf16⟩
  | .hbm, ⟨7, _⟩ => ⟨S2x512x8x2x64, .f32⟩
  | .hbm, ⟨8, _⟩ => ⟨S2x512x8x128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S4x64, .f32⟩
  | .hbm, ⟨14, _⟩ => ⟨S1x128, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S8192x1024, .bf16⟩
  | .local _ .vmem, ⟨0, _⟩ => ⟨S4x64, .f32⟩
  | .local _ .vmem, ⟨1, _⟩ => ⟨S1x128, .f32⟩
  | .local _ .vmem, ⟨2, _⟩ => ⟨S1024x128, .bf16⟩
  | .local _ .vmem, ⟨3, _⟩ => ⟨S1024x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1024x128, .bf16⟩
  | .local _ .vmem, ⟨9, _⟩ => ⟨S1024x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1024x128, .bf16⟩
  | .local _ .vmem, ⟨15, _⟩ => ⟨S1024x128, .bf16⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c64_i32 : BitVec 32 := 64#32
  let v1 : BitVec 32 := Scalar.addi c64_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg2
  let c72_i32 : BitVec 32 := 72#32
  let v3 : BitVec 32 := Scalar.addi c72_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S64 : Shape := ⟨1, ![64]⟩
abbrev S128 : Shape := ⟨1, ![128]⟩
abbrev S8192x2048 : Shape := ⟨2, ![8192, 2048]⟩
abbrev S16384x17664 : Shape := ⟨2, ![16384, 17664]⟩
abbrev S2x512x8x2x64 : Shape := ⟨5, ![2, 512, 8, 2, 64]⟩
abbrev S2x512x8x128 : Shape := ⟨4, ![2, 512, 8, 128]⟩
abbrev S8192x1024 : Shape := ⟨2, ![8192, 1024]⟩
abbrev S2x4096x8x2x64 : Shape := ⟨5, ![2, 4096, 8, 2, 64]⟩
abbrev S_ : Shape := ⟨0, ![]⟩
abbrev S2x4096x8x128 : Shape := ⟨4, ![2, 4096, 8, 128]⟩
abbrev S2x4608x8x2x64 : Shape := ⟨5, ![2, 4608, 8, 2, 64]⟩
abbrev S2x4608x8x128 : Shape := ⟨4, ![2, 4608, 8, 128]⟩
abbrev S2x8x2x4096x4608 : Shape := ⟨5, ![2, 8, 2, 4096, 4608]⟩
abbrev S2x8x2x4096 : Shape := ⟨4, ![2, 8, 2, 4096]⟩
abbrev S2x8x2x4096x1 : Shape := ⟨5, ![2, 8, 2, 4096, 1]⟩
abbrev S2x8x1x4096x4608 : Shape := ⟨5, ![2, 8, 1, 4096, 4608]⟩
abbrev S2x8x4096x4608 : Shape := ⟨4, ![2, 8, 4096, 4608]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 97
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S8192x2048, .bf16⟩
  | .hbm, ⟨6, _⟩ => ⟨S16384x17664, .bf16⟩
  | .hbm, ⟨7, _⟩ => ⟨S2x512x8x2x64, .f32⟩
  | .hbm, ⟨8, _⟩ => ⟨S2x512x8x128, .f32⟩
  | .hbm, ⟨9, _⟩ => ⟨S8192x1024, .bf16⟩
  | .hbm, ⟨10, _⟩ => ⟨S8192x1024, .f32⟩
  | .hbm, ⟨11, _⟩ => ⟨S2x4096x8x2x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x4096x8x2x64, .f32⟩
  | .hbm, ⟨17, _⟩ => ⟨S2x4096x8x2x64, .f32⟩
  | .hbm, ⟨18, _⟩ => ⟨S8192x1024, .bf16⟩
  | .hbm, ⟨19, _⟩ => ⟨S8192x1024, .f32⟩
  | .hbm, ⟨20, _⟩ => ⟨S2x4096x8x2x64, .f32⟩
  | .hbm, ⟨21, _⟩ => ⟨S8192x1024, .bf16⟩
  | .hbm, ⟨22, _⟩ => ⟨S8192x1024, .f32⟩
  | .hbm, ⟨23, _⟩ => ⟨S2x4096x8x128, .f32⟩
  | .hbm, ⟨24, _⟩ => ⟨S8192x1024, .bf16⟩
  | .hbm, ⟨25, _⟩ => ⟨S8192x1024, .f32⟩
  | .hbm, ⟨26, _⟩ => ⟨S2x4608x8x2x64, .f32⟩
  | .hbm, ⟨27, _⟩ => ⟨S2x4608x8x128, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x8x2x4096x4608, .f32⟩
  | .hbm, ⟨40, _⟩ => ⟨S_, .f32⟩
  | .hbm, ⟨41, _⟩ => ⟨S2x8x2x4096x4608, .f32⟩
  | .hbm, ⟨42, _⟩ => ⟨S2x8x2x4096x4608, .f32⟩
  | .hbm, ⟨43, _⟩ => ⟨S_, .f32⟩
  | .hbm, ⟨44, _⟩ => ⟨S2x8x2x4096, .f32⟩
  | .hbm, ⟨45, _⟩ => ⟨S_, .f32⟩
  | .hbm, ⟨46, _⟩ => ⟨S2x8x2x4096, .f32⟩
  | .hbm, ⟨47, _⟩ => ⟨S2x8x2x4096, .f32⟩
  | .hbm, ⟨48, _⟩ => ⟨S2x8x2x4096x1, .f32⟩
  | .hbm, ⟨49, _⟩ => ⟨S2x8x2x4096x4608, .f32⟩
  | .hbm, ⟨50, _⟩ => ⟨S2x8x2x4096x4608, .f32⟩
  | .hbm, ⟨51, _⟩ => ⟨S2x8x2x4096x4608, .f32⟩
  | .hbm, ⟨52, _⟩ => ⟨S_, .f32⟩
  | .hbm, ⟨53, _⟩ => ⟨S2x8x2x4096, .f32⟩
  | .hbm, ⟨54, _⟩ => ⟨S2x8x2x4096x1, .f32⟩
  | .hbm, ⟨55, _⟩ => ⟨S2x8x2x4096x4608, .f32⟩
  | .hbm, ⟨56, _⟩ => ⟨S2x8x2x4096x4608, .f32⟩
  | .hbm, ⟨57, _⟩ => ⟨S2x8x1x4096x4608, .f32⟩
  | .hbm, ⟨58, _⟩ => ⟨S2x8x4096x4608, .f32⟩
  | .hbm, ⟨59, _⟩ => ⟨S2x8x1x4096x4608, .f32⟩
  | .hbm, ⟨60, _⟩ => ⟨S2x8x4096x4608, .f32⟩
  | .hbm, ⟨61, _⟩ => ⟨S2x8x4096x4608, .f32⟩
  | .hbm, ⟨62, _⟩ => ⟨S2x8x4096x4608, .f32⟩
  | .hbm, ⟨63, _⟩ => ⟨S2x8x4096x4608, .f32⟩
  | .hbm, ⟨64, _⟩ => ⟨S2x8x128x4096, .f32⟩
  | .hbm, ⟨65, _⟩ => ⟨S2x4096x8x128, .f32⟩
  | .hbm, ⟨66, _⟩ => ⟨S2x4096x8x128, .f32⟩
  | .hbm, ⟨67, _⟩ => ⟨S_, .f32⟩
  | .hbm, ⟨68, _⟩ => ⟨S2x4096x8, .f32⟩
  | .hbm, ⟨69, _⟩ => ⟨S2x4096x8x1, .f32⟩
  | .hbm, ⟨70, _⟩ => ⟨S_, .f32⟩
  | .hbm, ⟨71, _⟩ => ⟨S2x4096x8x1, .f32⟩
  | .hbm, ⟨72, _⟩ => ⟨S2x4096x8x1, .f32⟩
  | .hbm, ⟨73, _⟩ => ⟨S_, .f32⟩
  | .hbm, ⟨74, _⟩ => ⟨S2x4096x8x1, .f32⟩
  | .hbm, ⟨75, _⟩ => ⟨S2x4096x8x1, .f32⟩
  | .hbm, ⟨76, _⟩ => ⟨S2x4096x8x1, .f32⟩
  | .hbm, ⟨77, _⟩ => ⟨S2x4096x8x128, .f32⟩
  | .hbm, ⟨78, _⟩ => ⟨S2x4096x8x128, .f32⟩
  | .hbm, ⟨79, _⟩ => ⟨S1x1x1x128, .f32⟩
  | .hbm, ⟨80, _⟩ => ⟨S2x4096x8x128, .f32⟩
  | .hbm, ⟨81, _⟩ => ⟨S2x4096x8x128, .f32⟩
  | .hbm, ⟨82, _⟩ => ⟨S_, .f32⟩
  | .hbm, ⟨83, _⟩ => ⟨S2x4096x8x128, .f32⟩
  | .hbm, ⟨84, _⟩ => ⟨S2x4096x8x128, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== Kernel2.lean ====
abbrev S16384x2048 : Shape := ⟨2, ![16384, 2048]⟩
abbrev S8x3x2048 : Shape := ⟨3, ![8, 3, 2048]⟩
abbrev S2048 : Shape := ⟨1, ![2048]⟩
abbrev S2048x17664 : Shape := ⟨2, ![2048, 17664]⟩
abbrev S2048x6144 : Shape := ⟨2, ![2048, 6144]⟩
abbrev S2048x11520 : Shape := ⟨2, ![2048, 11520]⟩
abbrev S1x2048 : Shape := ⟨2, ![1, 2048]⟩
abbrev S16384x17664 : Shape := ⟨2, ![16384, 17664]⟩
abbrev S1024x2048 : Shape := ⟨2, ![1024, 2048]⟩
abbrev S1x3x2048 : Shape := ⟨3, ![1, 3, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S8x3x2048, .f32⟩
  | .hbm, ⟨2, _⟩ => ⟨S2048, .f32⟩
  | .hbm, ⟨3, _⟩ => ⟨S2048x17664, .f32⟩
  | .hbm, ⟨4, _⟩ => ⟨S2048x6144, .f32⟩
  | .hbm, ⟨5, _⟩ => ⟨S2048x11520, .f32⟩
  | .hbm, ⟨6, _⟩ => ⟨S2048x17664, .f32⟩
  | .hbm, ⟨7, _⟩ => ⟨S2048x17664, .bf16⟩
  | .hbm, ⟨8, _⟩ => ⟨S1x2048, .f32⟩
  | .hbm, ⟨9, _⟩ => ⟨S16384x17664, .bf16⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S2048x768, .bf16⟩
  | .local _ .vmem, ⟨6, _⟩ => ⟨S2048x768, .bf16⟩
  | .local _ .vmem, ⟨7, _⟩ => ⟨S1024x768, .bf16⟩
  | .local _ .vmem, ⟨8, _⟩ => ⟨S1024x768, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c1024_i32 : BitVec 32 := 1024#32
  let v2 : BitVec 32 := Scalar.muli v1 c1024_i32
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v0 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x2048 : Shape := ⟨2, ![16384, 2048]⟩
abbrev S8x3x2048 : Shape := ⟨3, ![8, 3, 2048]⟩
abbrev S2048 : Shape := ⟨1, ![2048]⟩
abbrev S2048x17664 : Shape := ⟨2, ![2048, 17664]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S8x1x2048 : Shape := ⟨3, ![8, 1, 2048]⟩
abbrev S8x2048 : Shape := ⟨2, ![8, 2048]⟩
abbrev S8192x2048 : Shape := ⟨2, ![8192, 2048]⟩
abbrev S2x2048 : Shape := ⟨2, ![2, 2048]⟩
abbrev S2x1x2048 : Shape := ⟨3, ![2, 1, 2048]⟩
abbrev S2x4096x2048 : Shape := ⟨3, ![2, 4096, 2048]⟩
abbrev S16384x17664 : Shape := ⟨2, ![16384, 17664]⟩
abbrev S16384x6144 : Shape := ⟨2, ![16384, 6144]⟩
abbrev S16384x11520 : Shape := ⟨2, ![16384, 11520]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x3x2048, .f32⟩
  | .hbm, ⟨2, _⟩ => ⟨S2048, .f32⟩
  | .hbm, ⟨3, _⟩ => ⟨S2048x17664, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S8x1x2048, .f32⟩
  | .hbm, ⟨21, _⟩ => ⟨S8x2048, .f32⟩
  | .hbm, ⟨22, _⟩ => ⟨S1x2048, .f32⟩
  | .hbm, ⟨23, _⟩ => ⟨S8192x2048, .f32⟩
  | .hbm, ⟨24, _⟩ => ⟨S2x2048, .f32⟩
  | .hbm, ⟨25, _⟩ => ⟨S2x1x2048, .f32⟩
  | .hbm, ⟨26, _⟩ => ⟨S2x4096x2048, .f32⟩
  | .hbm, ⟨27, _⟩ => ⟨S8192x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S8x1x2048, .f32⟩
  | .hbm, ⟨34, _⟩ => ⟨S8x2048, .f32⟩
  | .hbm, ⟨35, _⟩ => ⟨S1x2048, .f32⟩
  | .hbm, ⟨36, _⟩ => ⟨S8192x2048, .f32⟩
  | .hbm, ⟨37, _⟩ => ⟨S2x2048, .f32⟩
  | .hbm, ⟨38, _⟩ => ⟨S2x1x2048, .f32⟩
  | .hbm, ⟨39, _⟩ => ⟨S2x4096x2048, .f32⟩
  | .hbm, ⟨40, _⟩ => ⟨S8192x2048, .f32⟩
  | .hbm, ⟨41, _⟩ => ⟨S16384x2048, .f32⟩
  | .hbm, ⟨42, _⟩ => ⟨S16384x2048, .f32⟩
  | .hbm, ⟨43, _⟩ => ⟨S16384x17664, .f32⟩
  | .hbm, ⟨44, _⟩ => ⟨S16384x6144, .f32⟩
  | .hbm, ⟨45, _⟩ => ⟨S16384x11520, .f32⟩
  | .hbm, ⟨46, _⟩ => ⟨S16384x17664, .f32⟩
  | .hbm, ⟨47, _⟩ => ⟨S16384x17664, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel3.lean ====
abbrev S8192x1024 : Shape := ⟨2, ![8192, 1024]⟩
abbrev S16384x1024 : Shape := ⟨2, ![16384, 1024]⟩
abbrev S16384x17664 : Shape := ⟨2, ![16384, 17664]⟩
abbrev S1024x2048 : Shape := ⟨2, ![1024, 2048]⟩
abbrev S16384x2048 : Shape := ⟨2, ![16384, 2048]⟩
abbrev S1024x1024 : Shape := ⟨2, ![1024, 1024]⟩
abbrev S1024x512 : Shape := ⟨2, ![1024, 512]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S16384x1024, .bf16⟩
  | .hbm, ⟨3, _⟩ => ⟨S8192x1024, .bf16⟩
  | .hbm, ⟨4, _⟩ => ⟨S8192x1024, .bf16⟩
  | .hbm, ⟨5, _⟩ => ⟨S16384x17664, .bf16⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .bf16⟩
  | .hbm, ⟨10, _⟩ => ⟨S1024x2048, .bf16⟩
  | .hbm, ⟨11, _⟩ => ⟨S1024x2048, .bf16⟩
  | .hbm, ⟨12, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8192x1024 : Shape := ⟨2, ![8192, 1024]⟩
abbrev S16384x1024 : Shape := ⟨2, ![16384, 1024]⟩
abbrev S16384x17664 : Shape := ⟨2, ![16384, 17664]⟩
abbrev S1024x2048 : Shape := ⟨2, ![1024, 2048]⟩
abbrev S16384x2048 : Shape := ⟨2, ![16384, 2048]⟩
abbrev S16384x6144 : Shape := ⟨2, ![16384, 6144]⟩
abbrev S_ : Shape := ⟨0, ![]⟩
abbrev S16384x3x2048 : Shape := ⟨3, ![16384, 3, 2048]⟩
abbrev S16384x1x2048 : Shape := ⟨3, ![16384, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S16384x1024, .bf16⟩
  | .hbm, ⟨3, _⟩ => ⟨S8192x1024, .bf16⟩
  | .hbm, ⟨4, _⟩ => ⟨S8192x1024, .bf16⟩
  | .hbm, ⟨5, _⟩ => ⟨S16384x17664, .bf16⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S16384x1024, .bf16⟩
  | .hbm, ⟨10, _⟩ => ⟨S16384x1024, .f32⟩
  | .hbm, ⟨11, _⟩ => ⟨S16384x2048, .f32⟩
  | .hbm, ⟨12, _⟩ => ⟨S16384x1024, .f32⟩
  | .hbm, ⟨13, _⟩ => ⟨S16384x2048, .f32⟩
  | .hbm, ⟨14, _⟩ => ⟨S16384x1024, .bf16⟩
  | .hbm, ⟨15, _⟩ => ⟨S16384x1024, .f32⟩
  | .hbm, ⟨16, _⟩ => ⟨S16384x2048, .f32⟩
  | .hbm, ⟨17, _⟩ => ⟨S16384x6144, .bf16⟩
  | .hbm, ⟨18, _⟩ => ⟨S16384x6144, .f32⟩
  | .hbm, ⟨19, _⟩ => ⟨S16384x6144, .f32⟩
  | .hbm, ⟨20, _⟩ => ⟨S16384x6144, .f32⟩
  | .hbm, ⟨21, _⟩ => ⟨S_, .f32⟩
  | .hbm, ⟨22, _⟩ => ⟨S16384x6144, .f32⟩
  | .hbm, ⟨23, _⟩ => ⟨S16384x6144, .f32⟩
  | .hbm, ⟨24, _⟩ => ⟨S_, .f32⟩
  | .hbm, ⟨25, _⟩ => ⟨S16384x6144, .f32⟩
  | .hbm, ⟨26, _⟩ => ⟨S16384x6144, .f32⟩
  | .hbm, ⟨27, _⟩ => ⟨S16384x3x2048, .f32⟩
  | .hbm, ⟨28, _⟩ => ⟨S16384x1x2048, .f32⟩
  | .hbm, ⟨29, _⟩ => ⟨S16384x2048, .f32⟩
  | .hbm, ⟨30, _⟩ => ⟨S16384x2048, .f32⟩
  | .hbm, ⟨31, _⟩ => ⟨S16384x1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x1x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S8x3x2048 : Shape := ⟨3, ![8, 3, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S1x3x2048 : Shape := ⟨3, ![1, 3, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S8x3x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x3x2048, .f32⟩
  | .local _ .vmem, ⟨6, _⟩ => ⟨S1x3x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v24 : BitVec 1 := Scalar.cmpi .slt arg0 c16_i32
  let v25 : BitVec 32 := Scalar.extui v24
  let c0_i32 : BitVec 32 := 0#32
  let v26 : BitVec 1 := Scalar.cmpi .ne v25 c0_i32
  v26

def k0_cond2 (i : grid0.Coords) : BitVec 1 :=
  let arg0 : BitVec 32 := BitVec.ofNat 32 (i 0).val
  let c16_i32 : BitVec 32 := 16#32
  let v24 : BitVec 1 := Scalar.cmpi .slt arg0 c16_i32
  let v_true : BitVec 1 := 1#1
  let v27 : BitVec 1 := Scalar.xori v24 v_true
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c512_i32 : BitVec 32 := 512#32
  let v2 : BitVec 32 := Scalar.muli v1 c512_i32
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v0 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S2048x2048 : Shape := ⟨2, ![2048, 2048]⟩
abbrev S8x3x2048 : Shape := ⟨3, ![8, 3, 2048]⟩
abbrev S2048 : Shape := ⟨1, ![2048]⟩
abbrev S8x1x2048 : Shape := ⟨3, ![8, 1, 2048]⟩
abbrev S8x2048 : Shape := ⟨2, ![8, 2048]⟩
abbrev S1x2048 : Shape := ⟨2, ![1, 2048]⟩
abbrev S8192x2048 : Shape := ⟨2, ![8192, 2048]⟩
abbrev S2x2048 : Shape := ⟨2, ![2, 2048]⟩
abbrev S2x1x2048 : Shape := ⟨3, ![2, 1, 2048]⟩
abbrev S2x4096x2048 : Shape := ⟨3, ![2, 4096, 2048]⟩
abbrev S_ : Shape := ⟨0, ![]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S8x3x2048, .f32⟩
  | .hbm, ⟨4, _⟩ => ⟨S2048, .f32⟩
  | .hbm, ⟨5, _⟩ => ⟨S8x1x2048, .f32⟩
  | .hbm, ⟨6, _⟩ => ⟨S8x2048, .f32⟩
  | .hbm, ⟨7, _⟩ => ⟨S1x2048, .f32⟩
  | .hbm, ⟨8, _⟩ => ⟨S8192x2048, .f32⟩
  | .hbm, ⟨9, _⟩ => ⟨S2x2048, .f32⟩
  | .hbm, ⟨10, _⟩ => ⟨S2x1x2048, .f32⟩
  | .hbm, ⟨11, _⟩ => ⟨S2x4096x2048, .f32⟩
  | .hbm, ⟨12, _⟩ => ⟨S8192x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S8192x2048, .f32⟩
  | .hbm, ⟨35, _⟩ => ⟨S8192x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel5.lean ====
abbrev S16384x17664 : Shape := ⟨2, ![16384, 17664]⟩
abbrev S32x2x256x1024 : Shape := ⟨4, ![32, 2, 256, 1024]⟩
abbrev S256x1024 : Shape := ⟨2, ![256, 1024]⟩
abbrev S1x1x256x1024 : Shape := ⟨4, ![1, 1, 256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x17664, .bf16⟩
  | .hbm, ⟨1, _⟩ => ⟨S32x2x256x1024, .f32⟩
  | .hbm, ⟨2, _⟩ => ⟨S32x2x256x1024, .f32⟩
  | .hbm, ⟨3, _⟩ => ⟨S32x2x256x1024, .f32⟩
  | .hbm, ⟨4, _⟩ => ⟨S32x2x256x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1x256x1024, .f32⟩
  | .local _ .vmem, ⟨5, _⟩ => ⟨S1x1x256x1024, .f32⟩
  | .local _ .vmem, ⟨6, _⟩ => ⟨S1x1x256x1024, .f32⟩
  | .local _ .vmem, ⟨7, _⟩ => ⟨S1x1x256x1024, .f32⟩
  | _, _ => ⟨S16384x17664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x17664 : Shape := ⟨2, ![16384, 17664]⟩
abbrev S32x2x256x1024 : Shape := ⟨4, ![32, 2, 256, 1024]⟩
abbrev S8192x1024 : Shape := ⟨2, ![8192, 1024]⟩
abbrev S32x256x1024 : Shape := ⟨3, ![32, 256, 1024]⟩
abbrev S32x1x256x1024 : Shape := ⟨4, ![32, 1, 256, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x17664, .bf16⟩
  | .hbm, ⟨1, _⟩ => ⟨S32x2x256x1024, .f32⟩
  | .hbm, ⟨2, _⟩ => ⟨S32x2x256x1024, .f32⟩
  | .hbm, ⟨3, _⟩ => ⟨S8192x1024, .bf16⟩
  | .hbm, ⟨4, _⟩ => ⟨S8192x1024, .f32⟩
  | .hbm, ⟨5, _⟩ => ⟨S32x256x1024, .f32⟩
  | .hbm, ⟨6, _⟩ => ⟨S8192x1024, .bf16⟩
  | .hbm, ⟨7, _⟩ => ⟨S8192x1024, .f32⟩
  | .hbm, ⟨8, _⟩ => ⟨S32x256x1024, .f32⟩
  | .hbm, ⟨9, _⟩ => ⟨S32x1x256x1024, .f32⟩
  | .hbm, ⟨10, _⟩ => ⟨S32x256x1024, .f32⟩
  | .hbm, ⟨11, _⟩ => ⟨S32x1x256x1024, .f32⟩
  | .hbm, ⟨12, _⟩ => ⟨S32x1x256x1024, .f32⟩
  | .hbm, ⟨13, _⟩ => ⟨S32x2x256x1024, .f32⟩
  | .hbm, ⟨14, _⟩ => ⟨S32x1x256x1024, .f32⟩
  | .hbm, ⟨15, _⟩ => ⟨S32x256x1024, .f32⟩
  | .hbm, ⟨16, _⟩ => ⟨S32x1x256x1024, .f32⟩
  | .hbm, ⟨17, _⟩ => ⟨S32x1x256x1024, .f32⟩
  | .hbm, ⟨18, _⟩ => ⟨S32x2x256x1024, .f32⟩
  | _, _ => ⟨S16384x17664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S16384x17664 : Shape := ⟨2, ![16384, 17664]⟩
abbrev S16384x1024 : Shape := ⟨2, ![16384, 1024]⟩
abbrev S2x16384x1024 : Shape := ⟨3, ![2, 16384, 1024]⟩
abbrev S8192x1024 : Shape := ⟨2, ![8192, 1024]⟩
abbrev S32x2x16x64x64 : Shape := ⟨5, ![32, 2, 16, 64, 64]⟩
abbrev S64x1024 : Shape := ⟨2, ![64, 1024]⟩
abbrev S1x64x1024 : Shape := ⟨3, ![1, 64, 1024]⟩
abbrev S1x2x16x64x64 : Shape := ⟨5, ![1, 2, 16, 64, 64]⟩
abbrev S2x8x128x128 : Shape := ⟨4, ![2, 8, 128, 128]⟩
abbrev S2x64x1024 : Shape := ⟨3, ![2, 64, 1024]⟩
abbrev S64x64 : Shape := ⟨2, ![64, 64]⟩
abbrev S64x128 : Shape := ⟨2, ![64, 128]⟩
abbrev S128x128 : Shape := ⟨2, ![128, 128]⟩
abbrev S1x64x128 : Shape := ⟨3, ![1, 64, 128]⟩
abbrev S1x1x128x128 : Shape := ⟨4, ![1, 1, 128, 128]⟩
abbrev S1x128 : Shape := ⟨2, ![1, 128]⟩
abbrev S256x128 : Shape := ⟨2, ![256, 128]⟩
abbrev S128x256 : Shape := ⟨2, ![128, 256]⟩
abbrev S64x256 : Shape := ⟨2, ![64, 256]⟩
abbrev S256x256 : Shape := ⟨2, ![256, 256]⟩
abbrev S1x1x64x64 : Shape := ⟨4, ![1, 1, 64, 64]⟩
abbrev S1x1x1x64x64 : Shape := ⟨5, ![1, 1, 1, 64, 64]⟩

abbrev nBuf : Space → Nat
  | .hbm => 8
  | .vmem => 32
  | .smem => 0
  | _ => 0

abbrev bufTy : (tb : Table) → Fin (tcTables nBuf tb) → BufTy
  | .hbm, ⟨0, _⟩ => ⟨S16384x17664, .bf16⟩
  | .hbm, ⟨1, _⟩ => ⟨S16384x1024, .f32⟩
  | .hbm, ⟨2, _⟩ => ⟨S2x16384x1024, .f32⟩
  | .hbm, ⟨3, _⟩ => ⟨S2x16384x1024, .f32⟩
  | .hbm, ⟨4, _⟩ => ⟨S2x16384x1024, .f32⟩
  | .hbm, ⟨5, _⟩ => ⟨S8192x1024, .f32⟩
  | .hbm, ⟨6, _⟩ => ⟨S8192x1024, .f32⟩
  | .hbm, ⟨7, _⟩ => ⟨S32x2x16x64x64, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .f32⟩
  | .local _ .vmem, ⟨5, _⟩ => ⟨S64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S64x1024, .f32⟩
  | .local _ .vmem, ⟨17, _⟩ => ⟨S64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S1x2x16x64x64, .f32⟩
  | .local _ .vmem, ⟨29, _⟩ => ⟨S1x2x16x64x64, .f32⟩
  | .local _ .vmem, ⟨30, _⟩ => ⟨S2x8x128x128, .f32⟩
  | .local _ .vmem, ⟨31, _⟩ => ⟨S2x64x1024, .f32⟩
  | _, _ => ⟨S16384x17664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![32, 4], ![false, false]⟩

def k0_mult1 : BitVec 32 :=
  let c0_i32_50 : BitVec 32 := 0#32
  let c8_i32 : BitVec 32 := 8#32
  let v175 : BitVec 32 := Scalar.muli c0_i32_50 c8_i32
  let c0_i32_51 : BitVec 32 := 0#32
  let v176 : BitVec 32 := Scalar.addi v175 c0_i32_51
  let c128_i32 : BitVec 32 := 128#32
  let v177 : BitVec 32 := Scalar.muli v176 c128_i32
  v177
def k0_off1 (c0_i32_51 : BitVec 32) : Fin 2 → Nat :=
  let c0_52 : Index := 0#32
  let c0_i32_50 : BitVec 32 := 0#32
  let c8_i32 : BitVec 32 := 8#32
  let v175 : BitVec 32 := Scalar.muli c0_i32_50 c8_i32
  let v176 : BitVec 32 := Scalar.addi v175 c0_i32_51
  let c128_i32 : BitVec 32 := 128#32
  let v177 : BitVec 32 := Scalar.muli v176 c128_i32
  let v178 : BitVec 32 := v177
  let v179 : Index := Scalar.indexCast v178
  ![0, v179.toNat]
def k0_off2 (c0_i32_51 : BitVec 32) : Fin 3 → Nat :=
  let c0_55 : Index := 0#32
  let c0_56 : Index := 0#32
  let c0_i32_50 : BitVec 32 := 0#32
  let c8_i32 : BitVec 32 := 8#32
  let v175 : BitVec 32 := Scalar.muli c0_i32_50 c8_i32
  let v176 : BitVec 32 := Scalar.addi v175 c0_i32_51
  let c128_i32 : BitVec 32 := 128#32
  let v177 : BitVec 32 := Scalar.muli v176 c128_i32
  let v178 : BitVec 32 := v177
  let v187 : Index := Scalar.indexCast v178
  ![0, 0, v187.toNat]
def k0_off3 (c0_i32_51 : BitVec 32) : Fin 3 → Nat :=
  let c0_57 : Index := 0#32
  let c0_58 : Index := 0#32
  let c0_i32_50 : BitVec 32 := 0#32
  let c8_i32 : BitVec 32 := 8#32
  let v175 : BitVec 32 := Scalar.muli c0_i32_50 c8_i32
  let v176 : BitVec 32 := Scalar.addi v175 c0_i32_51
  let c128_i32 : BitVec 32 := 128#32
  let v177 : BitVec 32 := Scalar.muli v176 c128_i32
  let v178 : BitVec 32 := v177
  let v190 : Index := Scalar.indexCast v178
  ![0, 0, v190.toNat]
def k0_off4 (c0_i32_51 : BitVec 32) : Fin 4 → Nat :=
  let c0_63 : Index := 0#32
  let c0_i32_50 : BitVec 32 := 0#32
  let c8_i32 : BitVec 32 := 8#32
  let v175 : BitVec 32 := Scalar.muli c0_i32_50 c8_i32
  let v176 : BitVec 32 := Scalar.addi v175 c0_i32_51
  let v199 : Index := Scalar.indexCast v176
  let c0_64 : Index := 0#32
  let c0_65 : Index := 0#32
  ![0, v199.toNat, 0, 0]
def k0_off5 (c0_i32_51 : BitVec 32) : Fin 3 → Nat :=
  let c1_71 : Index := 1#32
  let c0_72 : Index := 0#32
  let c0_i32_50 : BitVec 32 := 0#32
  let c8_i32 : BitVec 32 := 8#32
  let v175 : BitVec 32 := Scalar.muli c0_i32_50 c8_i32
  let v176 : BitVec 32 := Scalar.addi v175 c0_i32_51
  let c128_i32 : BitVec 32 := 128#32
  let v177 : BitVec 32 := Scalar.muli v176 c128_i32
  let v178 : BitVec 32 := v177
  let v213 : Index := Scalar.indexCast v178
  ![1, 0, v213.toNat]
def k0_off6 (c0_i32_51 : BitVec 32) : Fin 4 → Nat :=
  let c1_77 : Index := 1#32
  let c0_i32_50 : BitVec 32 := 0#32
  let c8_i32 : BitVec 32 := 8#32
  let v175 : BitVec 32 := Scalar.muli c0_i32_50 c8_i32
  let v176 : BitVec 32 := Scalar.addi v175 c0_i32_51
  let v222 : Index := Scalar.indexCast v176
  let c0_78 : Index := 0#32
  let c0_79 : Index := 0#32
  ![1, v222.toNat, 0, 0]
def k0_mult2 : BitVec 32 :=
  let c0_i32_50 : BitVec 32 := 0#32
  let c8_i32_80 : BitVec 32 := 8#32
  let v225 : BitVec 32 := Scalar.muli c0_i32_50 c8_i32_80
  let c1_i32_81 : BitVec 32 := 1#32
  let v226 : BitVec 32 := Scalar.addi v225 c1_i32_81
  let c128_i32_82 : BitVec 32 := 128#32
  let v227 : BitVec 32 := Scalar.muli v226 c128_i32_82
  v227
def k0_mult3 : BitVec 32 :=
  let c0_i32_50 : BitVec 32 := 0#32
  let c8_i32_111 : BitVec 32 := 8#32
  let v275 : BitVec 32 := Scalar.muli c0_i32_50 c8_i32_111
  let c2_i32 : BitVec 32 := 2#32
  let v276 : BitVec 32 := Scalar.addi v275 c2_i32
  let c128_i32_112 : BitVec 32 := 128#32
  let v277 : BitVec 32 := Scalar.muli v276 c128_i32_112
  v277
def k0_mult4 : BitVec 32 :=
  let c0_i32_50 : BitVec 32 := 0#32
  let c8_i32_141 : BitVec 32 := 8#32
  let v325 : BitVec 32 := Scalar.muli c0_i32_50 c8_i32_141
  let c3_i32 : BitVec 32 := 3#32
  let v326 : BitVec 32 := Scalar.addi v325 c3_i32
  let c128_i32_142 : BitVec 32 := 128#32
  let v327 : BitVec 32 := Scalar.muli v326 c128_i32_142
  v327
def k0_mult5 : BitVec 32 :=
  let c0_i32_50 : BitVec 32 := 0#32
  let c8_i32_171 : BitVec 32 := 8#32
  let v375 : BitVec 32 := Scalar.muli c0_i32_50 c8_i32_171
  let c4_i32 : BitVec 32 := 4#32
  let v376 : BitVec 32 := Scalar.addi v375 c4_i32
  let c128_i32_172 : BitVec 32 := 128#32
  let v377 : BitVec 32 := Scalar.muli v376 c128_i32_172
  v377
def k0_mult6 : BitVec 32 :=
  let c0_i32_50 : BitVec 32 := 0#32
  let c8_i32_201 : BitVec 32 := 8#32
  let v425 : BitVec 32 := Scalar.muli c0_i32_50 c8_i32_201
  let c5_i32 : BitVec 32 := 5#32
  let v426 : BitVec 32 := Scalar.addi v425 c5_i32
  let c128_i32_202 : BitVec 32 := 128#32
  let v427 : BitVec 32 := Scalar.muli v426 c128_i32_202
  v427
def k0_mult7 : BitVec 32 :=
  let c0_i32_50 : BitVec 32 := 0#32
  let c8_i32_231 : BitVec 32 := 8#32
  let v475 : BitVec 32 := Scalar.muli c0_i32_50 c8_i32_231
  let c6_i32 : BitVec 32 := 6#32
  let v476 : BitVec 32 := Scalar.addi v475 c6_i32
  let c128_i32_232 : BitVec 32 := 128#32
  let v477 : BitVec 32 := Scalar.muli v476 c128_i32_232
  v477
def k0_mult8 : BitVec 32 :=
  let c0_i32_50 : BitVec 32 := 0#32
  let c8_i32_261 : BitVec 32 := 8#32
  let v525 : BitVec 32 := Scalar.muli c0_i32_50 c8_i32_261
  let c7_i32 : BitVec 32 := 7#32
  let v526 : BitVec 32 := Scalar.addi v525 c7_i32
  let c128_i32_262 : BitVec 32 := 128#32
  let v527 : BitVec 32 := Scalar.muli v526 c128_i32_262
  v527
def k0_cond2 (i : grid0.Coords) : BitVec 1 :=
  let arg1 : BitVec 32 := BitVec.ofNat 32 (i 1).val
  let c3_i32_916 : BitVec 32 := 3#32
  let v3343 : BitVec 1 := Scalar.cmpi .eq arg1 c3_i32_916
  let v3344 : BitVec 32 := Scalar.extui v3343
  let c0_i32_917 : BitVec 32 := 0#32
  let v3345 : BitVec 1 := Scalar.cmpi .ne v3344 c0_i32_917
  v3345

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c13_i32 : BitVec 32 := 13#32
  let c0_i32_0 : BitVec 32 := 0#32
  ![v2.toNat, c13_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c15_i32 : BitVec 32 := 15#32
  let c0_i32_0 : BitVec 32 := 0#32
  ![v2.toNat, c15_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c13_i32 : BitVec 32 := 13#32
  let c0_i32_1 : BitVec 32 := 0#32
  ![v4.toNat, c13_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c15_i32 : BitVec 32 := 15#32
  let c0_i32_1 : BitVec 32 := 0#32
  ![v4.toNat, c15_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c0_i32_1 : BitVec 32 := 0#32
  let c0_i32_2 : BitVec 32 := 0#32
  ![v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c1_i32_1 : BitVec 32 := 1#32
  let c0_i32_2 : BitVec 32 := 0#32
  let c0_i32_3 : BitVec 32 := 0#32
  ![c1_i32_1.toNat, v4.toNat, c0_i32_2.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c1_i32_1 : BitVec 32 := 1#32
  let c0_i32_2 : BitVec 32 := 0#32
  let c0_i32_3 : BitVec 32 := 0#32
  ![c1_i32_1.toNat, v4.toNat, c0_i32_2.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c1_i32_1 : BitVec 32 := 1#32
  let c0_i32_2 : BitVec 32 := 0#32
  let c0_i32_3 : BitVec 32 := 0#32
  ![c1_i32_1.toNat, v4.toNat, c0_i32_2.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x16x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference6Ideal.lean ====
abbrev S16384x17664 : Shape := ⟨2, ![16384, 17664]⟩
abbrev S16384x1024 : Shape := ⟨2, ![16384, 1024]⟩
abbrev S2x16384x1024 : Shape := ⟨3, ![2, 16384, 1024]⟩
abbrev S8192x1024 : Shape := ⟨2, ![8192, 1024]⟩
abbrev S32x256x16x64 : Shape := ⟨4, ![32, 256, 16, 64]⟩
abbrev S256x32x16x64 : Shape := ⟨4, ![256, 32, 16, 64]⟩
abbrev S256x1x32x16x64 : Shape := ⟨5, ![256, 1, 32, 16, 64]⟩
abbrev S256x2x32x16x64 : Shape := ⟨5, ![256, 2, 32, 16, 64]⟩
abbrev S1x16384x1024 : Shape := ⟨3, ![1, 16384, 1024]⟩
abbrev S_ : Shape := ⟨0, ![]⟩
abbrev S2x32x16x64x64 : Shape := ⟨5, ![2, 32, 16, 64, 64]⟩
abbrev S1x2x32x16x64 : Shape := ⟨5, ![1, 2, 32, 16, 64]⟩
abbrev S2x32x16x64 : Shape := ⟨4, ![2, 32, 16, 64]⟩
abbrev S2x32x16x1x64 : Shape := ⟨5, ![2, 32, 16, 1, 64]⟩
abbrev S2x32x16x64x1 : Shape := ⟨5, ![2, 32, 16, 64, 1]⟩
abbrev S32x2x16x64x64 : Shape := ⟨5, ![32, 2, 16, 64, 64]⟩

abbrev nBuf : Space → Nat
  | .hbm => 134
  | .vmem => 0
  | .smem => 0
  | _ => 0

abbrev hbmTy0_0 (i : Nat) : BufTy := match i % 128 with
  | 0 => ⟨S16384x17664, .bf16⟩
  | 1 => ⟨S16384x1024, .f32⟩
  | 2 => ⟨S2x16384x1024, .f32⟩
  | 3 => ⟨S2x16384x1024, .f32⟩
  | 4 => ⟨S2x16384x1024, .f32⟩
  | 5 => ⟨S16384x1024, .bf16⟩
  | 6 => ⟨S8192x1024, .bf16⟩
  | 7 => ⟨S8192x1024, .f32⟩
  | 8 => ⟨S32x256x16x64, .f32⟩
  | 9 => ⟨S256x32x16x64, .f32⟩
  | 10 => ⟨S8192x1024, .bf16⟩
  | 11 => ⟨S8192x1024, .f32⟩
  | 12 => ⟨S32x256x16x64, .f32⟩
  | 13 => ⟨S256x32x16x64, .f32⟩
  | 14 => ⟨S256x32x16x64, .f32⟩
  | 15 => ⟨S256x1x32x16x64, .f32⟩
  | 16 => ⟨S256x1x32x16x64, .f32⟩
  | 17 => ⟨S256x2x32x16x64, .f32⟩
  | 18 => ⟨S8192x1024, .f32⟩
  | 19 => ⟨S32x256x16x64, .f32⟩
  | 20 => ⟨S256x32x16x64, .f32⟩
  | 21 => ⟨S8192x1024, .f32⟩
  | 22 => ⟨S32x256x16x64, .f32⟩
  | 23 => ⟨S256x32x16x64, .f32⟩
  | 24 => ⟨S256x32x16x64, .f32⟩
  | 25 => ⟨S256x1x32x16x64, .f32⟩
  | 26 => ⟨S256x1x32x16x64, .f32⟩
  | 27 => ⟨S256x2x32x16x64, .f32⟩
  | 28 => ⟨S1x16384x1024, .f32⟩
  | 29 => ⟨S16384x1024, .f32⟩
  | 30 => ⟨S16384x1024, .f32⟩
  | 31 => ⟨S1x16384x1024, .f32⟩
  | 32 => ⟨S16384x1024, .f32⟩
  | 33 => ⟨S16384x1024, .f32⟩
  | 34 => ⟨S8192x1024, .f32⟩
  | 35 => ⟨S32x256x16x64, .f32⟩
  | 36 => ⟨S256x32x16x64, .f32⟩
  | 37 => ⟨S8192x1024, .f32⟩
  | 38 => ⟨S32x256x16x64, .f32⟩
  | 39 => ⟨S256x32x16x64, .f32⟩
  | 40 => ⟨S256x32x16x64, .f32⟩
  | 41 => ⟨S256x1x32x16x64, .f32⟩
  | 42 => ⟨S256x1x32x16x64, .f32⟩
  | 43 => ⟨S256x2x32x16x64, .f32⟩
  | 44 => ⟨S1x16384x1024, .f32⟩
  | 45 => ⟨S16384x1024, .f32⟩
  | 46 => ⟨S1x16384x1024, .f32⟩
  | 47 => ⟨S16384x1024, .f32⟩
  | 48 => ⟨S8192x1024, .f32⟩
  | 49 => ⟨S32x256x16x64, .f32⟩
  | 50 => ⟨S256x32x16x64, .f32⟩
  | 51 => ⟨S8192x1024, .f32⟩
  | 52 => ⟨S32x256x16x64, .f32⟩
  | 53 => ⟨S256x32x16x64, .f32⟩
  | 54 => ⟨S256x32x16x64, .f32⟩
  | 55 => ⟨S256x1x32x16x64, .f32⟩
  | 56 => ⟨S256x1x32x16x64, .f32⟩
  | 57 => ⟨S256x2x32x16x64, .f32⟩
  | 58 => ⟨S1x16384x1024, .f32⟩
  | 59 => ⟨S16384x1024, .f32⟩
  | 60 => ⟨S1x16384x1024, .f32⟩
  | 61 => ⟨S16384x1024, .f32⟩
  | 62 => ⟨S8192x1024, .f32⟩
  | 63 => ⟨S32x256x16x64, .f32⟩
  | 64 => ⟨S256x32x16x64, .f32⟩
  | 65 => ⟨S8192x1024, .f32⟩
  | 66 => ⟨S32x256x16x64, .f32⟩
  | 67 => ⟨S256x32x16x64, .f32⟩
  | 68 => ⟨S256x32x16x64, .f32⟩
  | 69 => ⟨S256x1x32x16x64, .f32⟩
  | 70 => ⟨S256x1x32x16x64, .f32⟩
  | 71 => ⟨S256x2x32x16x64, .f32⟩
  | 72 => ⟨S_, .f32⟩
  | 73 => ⟨S2x32x16x64x64, .f32⟩
  | 74 => ⟨S_, .i32⟩
  | 75 => ⟨S256x2x32x16x64, .f32⟩
  | 76 => ⟨S256x2x32x16x64, .f32⟩
  | 77 => ⟨S256x2x32x16x64, .f32⟩
  | 78 => ⟨S256x2x32x16x64, .f32⟩
  | 79 => ⟨S256x2x32x16x64, .f32⟩
  | 80 => ⟨S_, .i32⟩
  | 81 => ⟨S2x32x16x64x64, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1x2x32x16x64, .f32⟩
  | 89 => ⟨S2x32x16x64, .f32⟩
  | 90 => ⟨S_, .i32⟩
  | 91 => ⟨S_, .i32⟩
  | 92 => ⟨S_, .i32⟩
  | 93 => ⟨S_, .i32⟩
  | 94 => ⟨S1x2x32x16x64, .f32⟩
  | 95 => ⟨S2x32x16x64, .f32⟩
  | 96 => ⟨S_, .i32⟩
  | 97 => ⟨S_, .i32⟩
  | 98 => ⟨S_, .i32⟩
  | 99 => ⟨S_, .i32⟩
  | 100 => ⟨S1x2x32x16x64, .f32⟩
  | 101 => ⟨S2x32x16x64, .f32⟩
  | 102 => ⟨S_, .i32⟩
  | 103 => ⟨S_, .i32⟩
  | 104 => ⟨S_, .i32⟩
  | 105 => ⟨S_, .i32⟩
  | 106 => ⟨S1x2x32x16x64, .f32⟩
  | 107 => ⟨S2x32x16x64, .f32⟩
  | 108 => ⟨S_, .i32⟩
  | 109 => ⟨S_, .i32⟩
  | 110 => ⟨S_, .i32⟩
  | 111 => ⟨S_, .i32⟩
  | 112 => ⟨S1x2x32x16x64, .f32⟩
  | 113 => ⟨S2x32x16x64, .f32⟩
  | 114 => ⟨S2x32x16x64, .f32⟩
  | 115 => ⟨S2x32x16x64, .f32⟩
  | 116 => ⟨S2x32x16x1x64, .f32⟩
  | 117 => ⟨S2x32x16x64x64, .f32⟩
  | 118 => ⟨S2x32x16x64x64, .f32⟩
  | 119 => ⟨S2x32x16x64x1, .f32⟩
  | 120 => ⟨S2x32x16x1x64, .f32⟩
  | 121 => ⟨S2x32x16x64x64, .f32⟩
  | 122 => ⟨S2x32x16x64x64, .f32⟩
  | 123 => ⟨S2x32x16x64x64, .f32⟩
  | 124 => ⟨S2x32x16x64x64, .f32⟩
  | 125 => ⟨S2x32x16x64x1, .f32⟩
  | 126 => ⟨S2x32x16x1x64, .f32⟩
  | 127 => ⟨S2x32x16x64x64, .f32⟩
  | _ => ⟨S16384x17664, .bf16⟩

abbrev hbmTy0_1 (i : Nat) : BufTy := match i % 128 with
  | 0 => ⟨S2x32x16x64x64, .f32⟩
  | 1 => ⟨S2x32x16x64x64, .f32⟩
  | 2 => ⟨S2x32x16x64x64, .f32⟩
  | 3 => ⟨S_, .i32⟩
  | 4 => ⟨S_, .i32⟩
  | 5 => ⟨S32x2x16x64x64, .f32⟩
  | _ => ⟨S16384x17664, .bf16⟩

abbrev hbmTy (i : Nat) : BufTy := match i / 128 with
  | 0 => hbmTy0_0 i
  | 1 => hbmTy0_1 i
  | _ => ⟨S16384x17664, .bf16⟩

abbrev bufTy : (tb : Table) → Fin (tcTables nBuf tb) → BufTy
  | .hbm, ⟨i, _⟩ => hbmTy i
  | _, _ => ⟨S16384x17664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_cst : Ref sig .tc := ⟨.hbm, 72, rfl⟩
abbrev main_v67 : Ref sig .tc := ⟨.hbm, 73, rfl⟩
abbrev main_c : Ref sig .tc := ⟨.hbm, 74, rfl⟩
abbrev main_v68_0 : Ref sig .tc := ⟨.hbm, 75, rfl⟩
abbrev main_v68_1 : Ref sig .tc := ⟨.hbm, 76, rfl⟩
abbrev main_v68_2 : Ref sig .tc := ⟨.hbm, 77, rfl⟩
abbrev main_v68_3 : Ref sig .tc := ⟨.hbm, 78, rfl⟩
abbrev main_v68_4 : Ref sig .tc := ⟨.hbm, 79, rfl⟩
abbrev main_v68_5 : Ref sig .tc := ⟨.hbm, 80, rfl⟩
abbrev main_v68_6 : Ref sig .tc := ⟨.hbm, 81, rfl⟩
abbrev main_while0c_c_6 : Ref sig .tc := ⟨.hbm, 82, rfl⟩
abbrev main_while0c_v70 : Ref sig .tc := ⟨.hbm, 83, rfl⟩
abbrev main_while0b_call0_c : Ref sig .tc := ⟨.hbm, 84, rfl⟩
abbrev main_while0b_call0_c_0 : Ref sig .tc := ⟨.hbm, 85, rfl⟩
abbrev main_while0b_call0_c_1 : Ref sig .tc := ⟨.hbm, 86, rfl⟩
abbrev main_while0b_call0_c_2 : Ref sig .tc := ⟨.hbm, 87, rfl⟩
abbrev main_while0b_call0_v0 : Ref sig .tc := ⟨.hbm, 88, rfl⟩
abbrev main_while0b_v70 : Ref sig .tc := ⟨.hbm, 89, rfl⟩
abbrev main_while0b_call1_c : Ref sig .tc := ⟨.hbm, 90, rfl⟩
abbrev main_while0b_call1_c_0 : Ref sig .tc := ⟨.hbm, 91, rfl⟩
abbrev main_while0b_call1_c_1 : Ref sig .tc := ⟨.hbm, 92, rfl⟩
abbrev main_while0b_call1_c_2 : Ref sig .tc := ⟨.hbm, 93, rfl⟩
abbrev main_while0b_call1_v0 : Ref sig .tc := ⟨.hbm, 94, rfl⟩
abbrev main_while0b_v71 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_call2_c_1 : Ref sig .tc := ⟨.hbm, 98, rfl⟩
abbrev main_while0b_call2_c_2 : Ref sig .tc := ⟨.hbm, 99, rfl⟩
abbrev main_while0b_call2_v0 : Ref sig .tc := ⟨.hbm, 100, rfl⟩
abbrev main_while0b_v72 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_c_2 : Ref sig .tc := ⟨.hbm, 105, rfl⟩
abbrev main_while0b_call3_v0 : Ref sig .tc := ⟨.hbm, 106, rfl⟩
abbrev main_while0b_v73 : Ref sig .tc := ⟨.hbm, 107, rfl⟩
abbrev main_while0b_call4_c : Ref sig .tc := ⟨.hbm, 108, rfl⟩
abbrev main_while0b_call4_c_0 : Ref sig .tc := ⟨.hbm, 109, rfl⟩
abbrev main_while0b_call4_c_1 : Ref sig .tc := ⟨.hbm, 110, rfl⟩
abbrev main_while0b_call4_c_2 : Ref sig .tc := ⟨.hbm, 111, rfl⟩
abbrev main_while0b_call4_v0 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_c_6 : Ref sig .tc := ⟨.hbm, 131, rfl⟩
abbrev main_while0b_v92 : Ref sig .tc := ⟨.hbm, 132, rfl⟩
abbrev main_v69 : Ref sig .tc := ⟨.hbm, 133, rfl⟩

abbrev nD : Nat := 1
abbrev τ : Topo := Topo.v7x

variable {F : FTy → Type} [FloatOps F]

abbrev main_while0_count : Scf.Loop 32 := ⟨0#32, 256#32, 1#32⟩
-- ==== Proof.AttnSpec.lean ====
/- The attention's arithmetic on one row, as plain functions of the scores and values. -/
module

public import Idealize.ShloMosaic.PureOps.Ideal
public import Idealize.ShloMosaic.Lib.Pointwise

@[expose] public section

noncomputable section

namespace Cert.AttnSpec

open Idealize.ShloMosaic

/-- One map of the attention for one query: the values weighted by powers of two of the scores less their maximum,
    and that sum divided by the sum of the weights. -/
def kmap (s v : Fin 4608 → EReal) : EReal :=
  (∑ c, Ideal.exp2 (s c - Finset.univ.fold max ⊥ s) * v c) * Ideal.div 1 (∑ c, Ideal.exp2 (s c - Finset.univ.fold max ⊥ s) * 1)

/-- The same row's two maps as the reference mixes them: the values weighted by the difference of the probabilities. -/
def rmap (s0 s1 v : Fin 4608 → EReal) (lam : EReal) : EReal :=
  ∑ c, v c * (Ideal.div (Ideal.exp (s0 c - Finset.univ.fold max ⊥ s0)) (∑ j, Ideal.exp (s0 j - Finset.univ.fold max ⊥ s0))
    - lam * Ideal.div (Ideal.exp (s1 c - Finset.univ.fold max ⊥ s1)) (∑ j, Ideal.exp (s1 j - Finset.univ.fold max ⊥ s1)))

/-- What is done to a row `o` of one head: the root-mean-square norm over its 128 entries with the weight `w`, the
    factor `1 - 0.8 + 0.6 exp (-0.3)`, and the gate's `silu`. -/
def finish (o w : Fin 128 → EReal) (g : EReal) (e : Fin 128) : EReal :=
  o e * Ideal.rsqrt (Ideal.div (∑ x, o x * o x) (Ideal.ofBits .f32 0x43000000#32) + Ideal.ofBits .f32 0x358637BD#32) * w e
    * Ideal.ofBits .f32 0x3F24FD5C#32 * (g * Ideal.logistic g)

/-- The weight `lam` of the second map, from the four vectors. -/
def mix (q1 k1 q2 k2 : Fin 64 → EReal) : EReal :=
  Ideal.exp (∑ d, q1 d * k1 d) - Ideal.exp (∑ d, q2 d * k2 d) + Ideal.ofBits .f32 0x3EB60549#32

/-- One entry of one query's row in one head, as the kernel computes it: `q` the query (both maps' 64 lanes), `key` and
    `val` the head's keys and values, `w` the norm's weight, `g` the gate at entry `e`. -/
def head (q : Fin 128 → EReal) (key val : Fin 4608 → Fin 128 → EReal) (lam : EReal) (w : Fin 128 → EReal) (g : EReal)
    (e : Fin 128) : EReal :=
  finish (fun e => kmap (fun c => ∑ d : Fin 64, q ⟨d.val, by omega⟩ * key c ⟨d.val, by omega⟩) (fun c => val c e)
    - lam * kmap (fun c => ∑ d : Fin 64, q ⟨64 + d.val, by omega⟩ * key c ⟨64 + d.val, by omega⟩) (fun c => val c e)) w g e

/-- The query's scale in the reference: `log 2 * sqrt 64`. -/
def qscale : EReal := Ideal.log (Ideal.ofBits .f32 0x40000000#32) * Ideal.ofBits .f32 0x41000000#32

/-- The same entry as the reference computes it. -/
def refHead (q : Fin 128 → EReal) (key val : Fin 4608 → Fin 128 → EReal) (lam : EReal) (w : Fin 128 → EReal) (g : EReal)
    (e : Fin 128) : EReal :=
  finish (fun e => rmap
    (fun c => (∑ d : Fin 64, q ⟨d.val, by omega⟩ * qscale * key c ⟨d.val, by omega⟩) * Ideal.ofBits .f32 0x3E000000#32)
    (fun c => (∑ d : Fin 64, q ⟨64 + d.val, by omega⟩ * qscale * key c ⟨64 + d.val, by omega⟩) * Ideal.ofBits .f32 0x3E000000#32)
    (fun c => val c e) lam) w g e

/-- Key `c` of the head: the cache's 512 first, then the new ones. -/
def keyAt {α : Type} (new : Fin 4096 → Fin 128 → α) (old : Fin 512 → Fin 128 → α) (c : Fin 4608) (e : Fin 128) : α :=
  if h : c.val < 512 then old ⟨c.val, h⟩ e else new ⟨c.val - 512, by omega⟩ e

/-- Lane `d` of query `q` of head `h` in sample `b`. -/
def queryOf (qk : (⟨2, ![8192, 2048]⟩ : Shape).Idx → EReal) (b : Fin 2) (q : Fin 4096) (h : Fin 8) (d : Fin 128) : EReal :=
  qk (ix2 (⟨b.val * 4096 + q.val, by omega⟩ : Fin 8192) (⟨h.val * 128 + d.val, by omega⟩ : Fin 2048))

/-- The keys of head `h` in sample `b`, the cached ones first. -/
def keysOf (qk : (⟨2, ![8192, 2048]⟩ : Shape).Idx → EReal) (ck : (⟨5, ![2, 512, 8, 2, 64]⟩ : Shape).Idx → EReal) (b : Fin 2) (h : Fin 8) :
    Fin 4608 → Fin 128 → EReal :=
  keyAt (fun c d => qk (ix2 (⟨b.val * 4096 + c.val, by omega⟩ : Fin 8192) (⟨1024 + (h.val * 128 + d.val), by omega⟩ : Fin 2048)))
    (fun c d => ck (ix5 b c h (⟨d.val / 64, by omega⟩ : Fin 2) (⟨d.val % 64, by omega⟩ : Fin 64)))

/-- The values of head `h` in sample `b`, the cached ones first. -/
def valsOf (p : (⟨2, ![16384, 17664]⟩ : Shape).Idx → EReal) (cv : (⟨4, ![2, 512, 8, 128]⟩ : Shape).Idx → EReal) (b : Fin 2) (h : Fin 8) :
    Fin 4608 → Fin 128 → EReal :=
  keyAt (fun c e => p (ix2 (⟨8192 + (b.val * 4096 + c.val), by omega⟩ : Fin 16384) (⟨8192 + (h.val * 128 + e.val), by omega⟩ : Fin 17664)))
    (fun c e => cv (ix4 b c h e))

/-- The gate of entry `e` of query `q`. -/
def gateOf (p : (⟨2, ![16384, 17664]⟩ : Shape).Idx → EReal) (b : Fin 2) (q : Fin 4096) (h : Fin 8) (e : Fin 128) : EReal :=
  p (ix2 (⟨8192 + (b.val * 4096 + q.val), by omega⟩ : Fin 16384) (⟨9216 + (h.val * 128 + e.val), by omega⟩ : Fin 17664))

section
variable (a0 a1 a2 a3 : (⟨1, ![64]⟩ : Shape).Idx → EReal) (a4 : (⟨1, ![128]⟩ : Shape).Idx → EReal)
  (a5 : (⟨2, ![8192, 2048]⟩ : Shape).Idx → EReal) (a6 : (⟨2, ![16384, 17664]⟩ : Shape).Idx → EReal)
  (a7 : (⟨5, ![2, 512, 8, 2, 64]⟩ : Shape).Idx → EReal) (a8 : (⟨4, ![2, 512, 8, 128]⟩ : Shape).Idx → EReal)

/-- Entry `e` of head `h` of query `q` in sample `b` of the kernel's result, from its arguments. -/
def entry (b : Fin 2) (q : Fin 4096) (h : Fin 8) (e : Fin 128) : EReal :=
  head (queryOf a5 b q h) (keysOf a5 a7 b h) (valsOf a6 a8 b h)
    (mix (fun d => a0 (ix1 d)) (fun d => a1 (ix1 d)) (fun d => a2 (ix1 d)) (fun d => a3 (ix1 d))) (fun d => a4 (ix1 d)) (gateOf a6 b q h e) e

/-- The same entry of the reference's result. -/
def refEntry (b : Fin 2) (q : Fin 4096) (h : Fin 8) (e : Fin 128) : EReal :=
  refHead (queryOf a5 b q h) (keysOf a5 a7 b h) (valsOf a6 a8 b h)
    (mix (fun d => a0 (ix1 d)) (fun d => a1 (ix1 d)) (fun d => a2 (ix1 d)) (fun d => a3 (ix1 d))) (fun d => a4 (ix1 d)) (gateOf a6 b q h e) e
end

/-- The pattern of minus infinity. -/
theorem ofBits_neg_inf : Ideal.ofBits .f32 0xFF800000#32 = ⊥ := by
  simp [Ideal.ofBits, Ideal.ieee]

/-- The pattern of plus infinity. -/
theorem ofBits_inf : Ideal.ofBits .f32 0x7F800000#32 = ⊤ := by
  simp [Ideal.ofBits, Ideal.ieee]

end Cert.AttnSpec

end
-- ==== Proof.AttnItem.lean ====
/- One grid point of the attention kernel: 1024 query rows of one head against all its keys, 128 rows at a time. -/
module

public import proofs.«01_k».proof.Proof.Gen.KernelIdeal.Value
public import Idealize.ShloMosaic.Lib.Pointwise
public import proofs.«01_k».proof.Proof.AttnSpec

@[expose] public section

set_option maxRecDepth 65536

noncomputable section

namespace Cert.KernelIdeal.Attn

open Cert.KernelIdeal Cert.KernelIdeal.Gen Idealize.ShloMosaic Idealize.ShloMosaic.TcCoe Idealize.SL.Sem

section
variable {F : FTy → Type} [FloatOps F]

abbrev Lam (x0 : Vec F S4x64 .f32) : FVec F S1x1 .f32 := k0_pay2 (View.ld x0 r0_0)
abbrev Keys (x3 : Vec F S4096x128 .bf16) (x6 : Vec F S512x128 .bf16) : FVec F S4608x128 .bf16 := k0_pay4 (View.ld x3 r0_1) (View.ld x6 r0_2)
abbrev Vals (x4 : Vec F S4096x128 .bf16) (x7 : Vec F S512x128 .bf16) : FVec F S4608x256 .bf16 := k0_pay5 (View.ld x4 r0_1) (View.ld x7 r0_2)
/-- The scores of 128 query rows, map 0's rows above map 1's. -/
def scores (k : FVec F S4608x128 .bf16) (q : Vec F S128x128 .bf16) : FVec F S256x4608 .f32 :=
  k0_pay7 (iota .tc S128x128 32 [1] iota_S128x128_d1_w32) (k0_pay3 (F := F)) k q
/-- 128 rows of the result from their scores. -/
def item (lam : FVec F S1x1 .f32) (vv : FVec F S4608x256 .bf16) (s : FVec F S256x4608 .f32) (w : Vec F S1x128 .f32)
    (g : Vec F S128x128 .bf16) : FVec F S128x128 .bf16 := k0_pay30 lam vv s w g

theorem out_eq (x0 : Vec F S4x64 .f32) (x1 : Vec F S1x128 .f32) (x2 : Vec F S1024x128 .bf16) (x3 : Vec F S4096x128 .bf16) (x4 : Vec F S4096x128 .bf16) (x5 : Vec F S1024x128 .bf16) (x6 : Vec F S512x128 .bf16) (x7 : Vec F S512x128 .bf16) :
    out0_8 x0 x1 x2 x3 x4 x5 x6 x7 = View.canon [
      ⟨r0_11, item (Lam x0) (Vals x4 x7) (scores (Keys x3 x6) (View.ld x2 r0_11)) (View.ld x1 r0_5) (View.ld x5 r0_11)⟩,
      ⟨r0_10, item (Lam x0) (Vals x4 x7) (scores (Keys x3 x6) (View.ld x2 r0_10)) (View.ld x1 r0_5) (View.ld x5 r0_10)⟩,
      ⟨r0_9, item (Lam x0) (Vals x4 x7) (scores (Keys x3 x6) (View.ld x2 r0_9)) (View.ld x1 r0_5) (View.ld x5 r0_9)⟩,
      ⟨r0_8, item (Lam x0) (Vals x4 x7) (scores (Keys x3 x6) (View.ld x2 r0_8)) (View.ld x1 r0_5) (View.ld x5 r0_8)⟩,
      ⟨r0_7, item (Lam x0) (Vals x4 x7) (scores (Keys x3 x6) (View.ld x2 r0_7)) (View.ld x1 r0_5) (View.ld x5 r0_7)⟩,
      ⟨r0_6, item (Lam x0) (Vals x4 x7) (scores (Keys x3 x6) (View.ld x2 r0_6)) (View.ld x1 r0_5) (View.ld x5 r0_6)⟩,
      ⟨r0_4, item (Lam x0) (Vals x4 x7) (scores (Keys x3 x6) (View.ld x2 r0_4)) (View.ld x1 r0_5) (View.ld x5 r0_4)⟩,
      ⟨r0_3, item (Lam x0) (Vals x4 x7) (scores (Keys x3 x6) (View.ld x2 r0_3)) (View.ld x1 r0_5) (View.ld x5 r0_3)⟩] := rfl
end

/-- The mask of map 0: a lane's index is below 64. -/
theorem mask_eq (x : Fin 128) (a b : EReal) :
    Scalar.select (α := EReal) (IntOp.cmpi .slt (BitVec.ofNat 32 x.val) 64#32) a b = if x.val < 64 then a else b := by
  have h : ∀ x : Fin 128, IntOp.cmpi .slt (BitVec.ofNat 32 x.val) 64#32 = if x.val < 64 then 1#1 else 0#1 := by decide +kernel
  rw [h x]
  by_cases hx : x.val < 64 <;> simp [hx, Scalar.select]

/-- A sum over 128 lanes that are zero from lane 64 on. -/
theorem sum_low (f : Fin 128 → EReal) (h : ∀ x : Fin 128, 64 ≤ x.val → f x = 0) :
    ∑ x, f x = ∑ d : Fin 64, f ⟨d.val, by omega⟩ := by
  show ∑ x : Fin (64 + 64), f x = _
  rw [Fin.sum_univ_add, Finset.sum_eq_zero (s := Finset.univ) (f := fun i : Fin 64 => f (Fin.natAdd 64 i)), add_zero]
  · rfl
  · intro i _
    exact h _ (by simp)

/-- A sum over 128 lanes that are zero below lane 64. -/
theorem sum_high (f : Fin 128 → EReal) (h : ∀ x : Fin 128, x.val < 64 → f x = 0) :
    ∑ x, f x = ∑ d : Fin 64, f ⟨64 + d.val, by omega⟩ := by
  show ∑ x : Fin (64 + 64), f x = _
  rw [Fin.sum_univ_add, Finset.sum_eq_zero (s := Finset.univ) (f := fun i : Fin 64 => f (Fin.castAdd 64 i)), zero_add]
  · rfl
  · intro i _
    exact h _ (by simp)

/-- Map 0's score of query row `r` and key `c`: the product over the first 64 lanes. -/
theorem scores_apply0 (k : FVec Ideal S4608x128 .bf16) (q : Vec Ideal S128x128 .bf16) (r : Fin 128) (c : Fin 4608) :
    scores k q (ix2 (⟨r.val, by omega⟩ : Fin 256) c)
      = ∑ d : Fin 64, q (ix2 r (⟨d.val, by omega⟩ : Fin 128)) * k (ix2 c (⟨d.val, by omega⟩ : Fin 128)) := by
  pointwise [scores, k0_pay7, k0_pay3]
  simp only [mask_eq]
  rw [sum_low _ fun x hx => by rw [if_neg (by omega)]]
  refine Finset.sum_congr rfl fun d _ => ?_
  rw [if_pos d.isLt]

/-- Map 1's score of query row `r` and key `c`: the product over the last 64 lanes. -/
theorem scores_apply1 (k : FVec Ideal S4608x128 .bf16) (q : Vec Ideal S128x128 .bf16) (r : Fin 128) (c : Fin 4608) :
    scores k q (ix2 (⟨128 + r.val, by omega⟩ : Fin 256) c)
      = ∑ d : Fin 64, q (ix2 r (⟨64 + d.val, by omega⟩ : Fin 128)) * k (ix2 c (⟨64 + d.val, by omega⟩ : Fin 128)) := by
  pointwise [scores, k0_pay7, k0_pay3]
  simp only [mask_eq]
  rw [sum_high _ fun x hx => by rw [if_pos (by omega)]]
  refine Finset.sum_congr rfl fun d _ => ?_
  rw [if_neg (by simp)]

/-- One entry of 128 rows of the result, from the scores of the two maps. -/
theorem item_apply (lam : FVec Ideal S1x1 .f32) (vv : FVec Ideal S4608x256 .bf16) (s : FVec Ideal S256x4608 .f32) (w : Vec Ideal S1x128 .f32)
    (g : Vec Ideal S128x128 .bf16) (hone : ∀ c : Fin 4608, vv (ix2 c (128 : Fin 256)) = 1) (r e : Fin 128) :
    item lam vv s w g (ix2 r e) = AttnSpec.finish
      (fun e => AttnSpec.kmap (fun c => s (ix2 (⟨r.val, by omega⟩ : Fin 256) c)) (fun c => vv (ix2 c (⟨e.val, by omega⟩ : Fin 256)))
        - lam (ix2 0 0) * AttnSpec.kmap (fun c => s (ix2 (⟨128 + r.val, by omega⟩ : Fin 256) c)) (fun c => vv (ix2 c (⟨e.val, by omega⟩ : Fin 256))))
      (fun e => w (ix2 0 e)) (g (ix2 r e)) e := by
  pointwise [item, k0_pay30]
  unfold AttnSpec.finish AttnSpec.kmap
  simp only [hone, AttnSpec.ofBits_neg_inf]
  rfl

/-- The mixing weight. -/
theorem lam_apply (x0 : Vec Ideal S4x64 .f32) : Lam x0 (ix2 0 0)
    = Ideal.exp (∑ d : Fin 64, x0 (ix2 0 d) * x0 (ix2 1 d)) - Ideal.exp (∑ d : Fin 64, x0 (ix2 2 d) * x0 (ix2 3 d))
      + Ideal.ofBits .f32 0x3EB60549#32 := by
  pointwise [Lam, k0_pay2]

/-- The keys: the cache's 512 first. -/
theorem keys_apply (x3 : Vec Ideal S4096x128 .bf16) (x6 : Vec Ideal S512x128 .bf16) (c : Fin 4608) (e : Fin 128) :
    Keys x3 x6 (ix2 c e) = if h : c.val < 512 then x6 (ix2 (⟨c.val, h⟩ : Fin 512) e)
      else x3 (ix2 (⟨c.val - 512, by omega⟩ : Fin 4096) e) := by
  pointwise [Keys, k0_pay4]
  try rfl

/-- The values, in the first 128 columns. -/
theorem vals_apply (x4 : Vec Ideal S4096x128 .bf16) (x7 : Vec Ideal S512x128 .bf16) (c : Fin 4608) (e : Fin 128) :
    Vals x4 x7 (ix2 c (⟨e.val, by omega⟩ : Fin 256)) = if h : c.val < 512 then x7 (ix2 (⟨c.val, h⟩ : Fin 512) e)
      else x4 (ix2 (⟨c.val - 512, by omega⟩ : Fin 4096) e) := by
  pointwise [Vals, k0_pay5]

/-- The columns of ones behind them. -/
theorem vals_one (x4 : Vec Ideal S4096x128 .bf16) (x7 : Vec Ideal S512x128 .bf16) (c : Fin 4608) :
    Vals x4 x7 (ix2 c (128 : Fin 256)) = 1 := by
  pointwise [Vals, k0_pay5]

end Cert.KernelIdeal.Attn

end
-- ==== Proof.AttnBlock.lean ====
/- What one grid point of the attention kernel leaves in its output block, entry by entry. -/
module

public import proofs.«01_k».proof.Proof.AttnItem

@[expose] public section

set_option maxRecDepth 65536

noncomputable section

namespace Cert.KernelIdeal.Attn

open Cert.KernelIdeal Cert.KernelIdeal.Gen Idealize.ShloMosaic Idealize.ShloMosaic.TcCoe Idealize.SL.Sem

section
variable (x0 : Vec Ideal S4x64 .f32) (x1 : Vec Ideal S1x128 .f32) (x2 : Vec Ideal S1024x128 .bf16)
  (x3 x4 : Vec Ideal S4096x128 .bf16) (x5 : Vec Ideal S1024x128 .bf16) (x6 x7 : Vec Ideal S512x128 .bf16)

/-- The whole block as one function of the input blocks. -/
def G (y : S1024x128.Idx) : Elt Ideal .bf16 :=
  AttnSpec.head (fun d => x2 (ix2 (y 0) d)) (AttnSpec.keyAt (fun c d => x3 (ix2 c d)) (fun c d => x6 (ix2 c d)))
    (AttnSpec.keyAt (fun c d => x4 (ix2 c d)) (fun c d => x7 (ix2 c d)))
    (AttnSpec.mix (fun d => x0 (ix2 0 d)) (fun d => x0 (ix2 1 d)) (fun d => x0 (ix2 2 d)) (fun d => x0 (ix2 3 d)))
    (fun d => x1 (ix2 0 d)) (x5 (ix2 (y 0) (y 1))) (y 1)

/-- Any 128 rows of it. -/
theorem piece (o : ℕ) (inb : ∀ a, (![o, 0] : Fin 2 → ℕ) a + S128x128.size a ≤ S1024x128.size a) (x : S128x128.Idx) :
    item (Lam x0) (Vals x4 x7) (scores (Keys x3 x6) (View.ld x2 (Rect.unit (s := S1024x128) ![o, 0] S128x128.size inb)))
        (View.ld x1 r0_5) (View.ld x5 (Rect.unit (s := S1024x128) ![o, 0] S128x128.size inb)) x
      = G x0 x1 x2 x3 x4 x5 x6 x7 ((Rect.unit (s := S1024x128) ![o, 0] S128x128.size inb).emb x) := by
  obtain ⟨r, e, rfl⟩ : ∃ (r e : Fin 128), x = ix2 r e := ⟨x 0, x 1, eq_ix2 x⟩
  have hr : o + r.val < 1024 := by
    have h := inb 0
    have h' : o + 128 ≤ 1024 := h
    omega
  have hld : ∀ (z : Vec Ideal S1024x128 .bf16) (d : Fin 128),
      View.ld z (Rect.unit (s := S1024x128) ![o, 0] S128x128.size inb) (ix2 r d) = z (ix2 (⟨o + r.val, hr⟩ : Fin 1024) d) := by
    intro z d
    refine congrArg z (funext fun a => Fin.ext ?_)
    match a with
    | ⟨0, _⟩ => show o + 1 * r.val = o + r.val; omega
    | ⟨1, _⟩ => show 0 + 1 * d.val = d.val; omega
  have hw : ∀ d : Fin 128, View.ld x1 r0_5 (ix2 0 d) = x1 (ix2 0 d) := by
    intro d
    refine congrArg x1 (funext fun a => Fin.ext ?_)
    match a with
    | ⟨0, _⟩ => rfl
    | ⟨1, _⟩ => show 0 + 1 * d.val = d.val; omega
  have hemb : (Rect.unit (s := S1024x128) ![o, 0] S128x128.size inb).emb (ix2 r e) = ix2 (⟨o + r.val, hr⟩ : Fin 1024) e := by
    funext a
    refine Fin.ext ?_
    match a with
    | ⟨0, _⟩ => show o + 1 * r.val = o + r.val; omega
    | ⟨1, _⟩ => show 0 + 1 * e.val = e.val; omega
  have hq := hld x2
  have hg := hld x5
  rw [hemb]
  generalize View.ld x2 (Rect.unit (s := S1024x128) ![o, 0] S128x128.size inb) = Q at hq ⊢
  generalize View.ld x5 (Rect.unit (s := S1024x128) ![o, 0] S128x128.size inb) = U at hg ⊢
  generalize View.ld x1 r0_5 = W at hw ⊢
  rw [item_apply _ _ _ _ _ (vals_one x4 x7)]
  unfold G AttnSpec.head
  simp only [scores_apply0, scores_apply1, hq, hg, hw, vals_apply, keys_apply, lam_apply]
  rfl

/-- The block, entry by entry. -/
theorem block (y : S1024x128.Idx) : out0_8 x0 x1 x2 x3 x4 x5 x6 x7 y = G x0 x1 x2 x3 x4 x5 x6 x7 y := by
  rw [out_eq]
  refine View.canon_apply_of_pieces (G x0 x1 x2 x3 x4 x5 x6 x7) _ ?_ y (cover0_8 _ _ _ _ _ _ _ _ y)
  simp only [List.forall_mem_cons]
  refine ⟨?_, ?_, ?_, ?_, ?_, ?_, ?_, ?_, ?_⟩
  case' refine_9 => simp
  all_goals exact fun x => piece x0 x1 x2 x3 x4 x5 x6 x7 _ _ x
end

end Cert.KernelIdeal.Attn

end
-- ==== Proof.AttnArray.lean ====
/- The attention kernel's result array, entry by entry, in terms of its arguments. -/
module

public import proofs.«01_k».proof.Proof.AttnBlock

@[expose] public section

set_option maxRecDepth 65536

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The four vectors, stacked. -/
theorem V_main_v4 : V m c main_v4 = concatenate S4x64 0
    [⟨S1x64, broadcastInDim S1x64 ![1] bcast_S64_S1x64_1 (m ((c : Thread nD τ).loc main_arg0) : FVec Ideal S64 .f32)⟩,
     ⟨S1x64, broadcastInDim S1x64 ![1] bcast_S64_S1x64_1 (m ((c : Thread nD τ).loc main_arg1) : FVec Ideal S64 .f32)⟩,
     ⟨S1x64, broadcastInDim S1x64 ![1] bcast_S64_S1x64_1 (m ((c : Thread nD τ).loc main_arg2) : FVec Ideal S64 .f32)⟩,
     ⟨S1x64, broadcastInDim S1x64 ![1] bcast_S64_S1x64_1 (m ((c : Thread nD τ).loc main_arg3) : FVec Ideal S64 .f32)⟩]
    concatenates_S1x64_S1x64_S1x64_S1x64_S4x64_d0 := by
  show StableHlo.after hostOps0 _ (Proc.devRef .tc main_v4) = _
  after_results
  rfl

/-- The norm's weight as a row. -/
theorem V_main_v5 : V m c main_v5 = broadcastInDim S1x128 ![1] bcast_S128_S1x128_1 (m ((c : Thread nD τ).loc main_arg4) : FVec Ideal S128 .f32) := by
  show StableHlo.after hostOps0 _ (Proc.devRef .tc main_v5) = _
  after_results

/-- The cached keys, laid out in two dimensions. -/
theorem V_main_v7 : @Eq (FVec Ideal S1024x1024 .bf16) (V m c main_v7) (truncf .bf16
    (shapeCast S1024x1024 (m ((c : Thread nD τ).loc main_arg7) : FVec Ideal S2x512x8x2x64 .f32) shapeCasts_S2x512x8x2x64_S1024x1024 : FVec Ideal S1024x1024 .f32)
    bitsLt_bf16_f32) := by
  show StableHlo.after hostOps0 _ (Proc.devRef .tc main_v7) = _
  after_results
  rfl

/-- The cached values, laid out in two dimensions. -/
theorem V_main_v9 : @Eq (FVec Ideal S1024x1024 .bf16) (V m c main_v9) (truncf .bf16
    (shapeCast S1024x1024 (m ((c : Thread nD τ).loc main_arg8) : FVec Ideal S2x512x8x128 .f32) shapeCasts_S2x512x8x128_S1024x1024 : FVec Ideal S1024x1024 .f32)
    bitsLt_bf16_f32) := by
  show StableHlo.after hostOps0 _ (Proc.devRef .tc main_v9) = _
  after_results
  rfl

/-- Their entries. -/
theorem v4_apply (i : Fin 4) (d : Fin 64) : (V m c main_v4 : FVec Ideal S4x64 .f32) (ix2 i d)
    = (![m ((c : Thread nD τ).loc main_arg0), m ((c : Thread nD τ).loc main_arg1), m ((c : Thread nD τ).loc main_arg2),
        m ((c : Thread nD τ).loc main_arg3)] : Fin 4 → FVec Ideal S64 .f32) i (ix1 d) := by
  rw [V_main_v4]
  generalize (m ((c : Thread nD τ).loc main_arg0) : FVec Ideal S64 .f32) = a0
  generalize (m ((c : Thread nD τ).loc main_arg1) : FVec Ideal S64 .f32) = a1
  generalize (m ((c : Thread nD τ).loc main_arg2) : FVec Ideal S64 .f32) = a2
  generalize (m ((c : Thread nD τ).loc main_arg3) : FVec Ideal S64 .f32) = a3
  fin_cases i
  all_goals pointwise

theorem v5_apply (d : Fin 128) : (V m c main_v5 : FVec Ideal S1x128 .f32) (ix2 0 d)
    = (m ((c : Thread nD τ).loc main_arg4) : FVec Ideal S128 .f32) (ix1 d) := by
  rw [V_main_v5]
  generalize (m ((c : Thread nD τ).loc main_arg4) : FVec Ideal S128 .f32) = a
  pointwise

theorem v7_apply (b : Fin 2) (r : Fin 512) (h : Fin 8) (i : Fin 2) (d : Fin 64) :
    (V m c main_v7 : FVec Ideal S1024x1024 .bf16)
        (ix2 (⟨b.val * 512 + r.val, by omega⟩ : Fin 1024) (⟨h.val * 128 + (i.val * 64 + d.val), by omega⟩ : Fin 1024))
      = (m ((c : Thread nD τ).loc main_arg7) : FVec Ideal S2x512x8x2x64 .f32) (ix5 b r h i d) := by
  rw [V_main_v7]
  generalize m ((c : Thread nD τ).loc main_arg7) = a
  change FVec Ideal S2x512x8x2x64 .f32 at a
  refine shapeCast_apply a shapeCasts_S2x512x8x2x64_S1024x1024 _ (ix5 b r h i d) ?_
  rewrite [Shape.rowMajor_val_two, Shape.rowMajor_val_five]
  show (((b.val * 512 + r.val) * 8 + h.val) * 2 + i.val) * 64 + d.val = (b.val * 512 + r.val) * 1024 + (h.val * 128 + (i.val * 64 + d.val))
  omega

theorem v9_apply (b : Fin 2) (r : Fin 512) (h : Fin 8) (e : Fin 128) :
    (V m c main_v9 : FVec Ideal S1024x1024 .bf16)
        (ix2 (⟨b.val * 512 + r.val, by omega⟩ : Fin 1024) (⟨h.val * 128 + e.val, by omega⟩ : Fin 1024))
      = (m ((c : Thread nD τ).loc main_arg8) : FVec Ideal S2x512x8x128 .f32) (ix4 b r h e) := by
  rw [V_main_v9]
  generalize m ((c : Thread nD τ).loc main_arg8) = a
  change FVec Ideal S2x512x8x128 .f32 at a
  refine shapeCast_apply a shapeCasts_S2x512x8x128_S1024x1024 _ (ix4 b r h e) ?_
  rewrite [Shape.rowMajor_val_two, Shape.rowMajor_val_four]
  show ((b.val * 512 + r.val) * 8 + h.val) * 128 + e.val = (b.val * 512 + r.val) * 1024 + (h.val * 128 + e.val)
  omega

/-- The block index of each window, by the point's coordinates. -/
theorem idx_facts : ∀ t : Fin grid0.N,
    (win0_0.index t = ![0, 0]) ∧ (win0_1.index t = ![0, 0])
    ∧ (win0_2.index t = ![4 * (grid0.coords t 0).val + (grid0.coords t 2).val, (grid0.coords t 1).val])
    ∧ (win0_3.index t = ![(grid0.coords t 0).val, 8 + (grid0.coords t 1).val])
    ∧ (win0_4.index t = ![2 + (grid0.coords t 0).val, 64 + (grid0.coords t 1).val])
    ∧ (win0_5.index t = ![8 + 4 * (grid0.coords t 0).val + (grid0.coords t 2).val, 72 + (grid0.coords t 1).val])
    ∧ (win0_6.index t = ![(grid0.coords t 0).val, (grid0.coords t 1).val])
    ∧ (win0_7.index t = ![(grid0.coords t 0).val, (grid0.coords t 1).val])
    ∧ (win0_8.index t = ![4 * (grid0.coords t 0).val + (grid0.coords t 2).val, (grid0.coords t 1).val]) := by
  decide +kernel

/-- Every triple of coordinates is some point's. -/
theorem point_exists : ∀ (b : Fin 2) (h : Fin 8) (q : Fin 4), ∃ t : Fin grid0.N,
    (grid0.coords t 0).val = b.val ∧ (grid0.coords t 1).val = h.val ∧ (grid0.coords t 2).val = q.val := by
  decide +kernel

/-! Each window's block at a point, entry by entry. -/
section
variable (t : Fin cfg0.N)

theorem blk0 (i : Fin 4) (d : Fin 64) : (iblk m c 0 t : FVec Ideal S4x64 .f32) (ix2 i d) = (V m c main_v4 : FVec Ideal S4x64 .f32) (ix2 i d) := by
  have hi := (idx_facts t).1
  unfold iblk
  rw [View.read_apply]
  show V m c main_v4 _ = V m c main_v4 _
  congr 1
  funext a
  refine Fin.ext ?_
  match a with
  | ⟨0, _⟩ => show win0_0.index t 0 * 4 + 1 * i.val = i.val; rw [hi]; show 0 * 4 + 1 * i.val = _; omega
  | ⟨1, _⟩ => show win0_0.index t 1 * 64 + 1 * d.val = d.val; rw [hi]; show 0 * 64 + 1 * d.val = _; omega

theorem blk1 (d : Fin 128) : (iblk m c 1 t : FVec Ideal S1x128 .f32) (ix2 0 d) = (V m c main_v5 : FVec Ideal S1x128 .f32) (ix2 0 d) := by
  have hi := (idx_facts t).2.1
  unfold iblk
  rw [View.read_apply]
  show V m c main_v5 _ = V m c main_v5 _
  congr 1
  funext a
  refine Fin.ext ?_
  match a with
  | ⟨0, _⟩ => show win0_1.index t 0 * 1 + 1 * 0 = 0; rw [hi]; rfl
  | ⟨1, _⟩ => show win0_1.index t 1 * 128 + 1 * d.val = d.val; rw [hi]; show 0 * 128 + 1 * d.val = _; omega

theorem blk2 (r : Fin 1024) (d : Fin 128) (R : Fin 8192) (C : Fin 2048) (hR : R.val = (4 * (grid0.coords t 0).val + (grid0.coords t 2).val) * 1024 + r.val)
    (hC : C.val = ((grid0.coords t 1).val) * 128 + d.val) :
    (iblk m c 2 t : FVec Ideal S1024x128 .bf16) (ix2 r d) = (V m c main_arg5 : FVec Ideal S8192x2048 .bf16) (ix2 R C) := by
  have hi := (idx_facts t).2.2.1
  unfold iblk
  rw [View.read_apply]
  show V m c main_arg5 _ = V m c main_arg5 _
  congr 1
  funext a
  refine Fin.ext ?_
  match a with
  | ⟨0, _⟩ => show win0_2.index t 0 * 1024 + 1 * r.val = R.val; rw [hi]; show (4 * (grid0.coords t 0).val + (grid0.coords t 2).val) * 1024 + 1 * r.val = _; omega
  | ⟨1, _⟩ => show win0_2.index t 1 * 128 + 1 * d.val = C.val; rw [hi]; show ((grid0.coords t 1).val) * 128 + 1 * d.val = _; omega

theorem blk3 (r : Fin 4096) (d : Fin 128) (R : Fin 8192) (C : Fin 2048) (hR : R.val = ((grid0.coords t 0).val) * 4096 + r.val)
    (hC : C.val = (8 + (grid0.coords t 1).val) * 128 + d.val) :
    (iblk m c 3 t : FVec Ideal S4096x128 .bf16) (ix2 r d) = (V m c main_arg5 : FVec Ideal S8192x2048 .bf16) (ix2 R C) := by
  have hi := (idx_facts t).2.2.2.1
  unfold iblk
  rw [View.read_apply]
  show V m c main_arg5 _ = V m c main_arg5 _
  congr 1
  funext a
  refine Fin.ext ?_
  match a with
  | ⟨0, _⟩ => show win0_3.index t 0 * 4096 + 1 * r.val = R.val; rw [hi]; show ((grid0.coords t 0).val) * 4096 + 1 * r.val = _; omega
  | ⟨1, _⟩ => show win0_3.index t 1 * 128 + 1 * d.val = C.val; rw [hi]; show (8 + (grid0.coords t 1).val) * 128 + 1 * d.val = _; omega

theorem blk4 (r : Fin 4096) (d : Fin 128) (R : Fin 16384) (C : Fin 17664) (hR : R.val = (2 + (grid0.coords t 0).val) * 4096 + r.val)
    (hC : C.val = (64 + (grid0.coords t 1).val) * 128 + d.val) :
    (iblk m c 4 t : FVec Ideal S4096x128 .bf16) (ix2 r d) = (V m c main_arg6 : FVec Ideal S16384x17664 .bf16) (ix2 R C) := by
  have hi := (idx_facts t).2.2.2.2.1
  unfold iblk
  rw [View.read_apply]
  show V m c main_arg6 _ = V m c main_arg6 _
  congr 1
  funext a
  refine Fin.ext ?_
  match a with
  | ⟨0, _⟩ => show win0_4.index t 0 * 4096 + 1 * r.val = R.val; rw [hi]; show (2 + (grid0.coords t 0).val) * 4096 + 1 * r.val = _; omega
  | ⟨1, _⟩ => show win0_4.index t 1 * 128 + 1 * d.val = C.val; rw [hi]; show (64 + (grid0.coords t 1).val) * 128 + 1 * d.val = _; omega

theorem blk5 (r : Fin 1024) (d : Fin 128) (R : Fin 16384) (C : Fin 17664) (hR : R.val = (8 + 4 * (grid0.coords t 0).val + (grid0.coords t 2).val) * 1024 + r.val)
    (hC : C.val = (72 + (grid0.coords t 1).val) * 128 + d.val) :
    (iblk m c 5 t : FVec Ideal S1024x128 .bf16) (ix2 r d) = (V m c main_arg6 : FVec Ideal S16384x17664 .bf16) (ix2 R C) := by
  have hi := (idx_facts t).2.2.2.2.2.1
  unfold iblk
  rw [View.read_apply]
  show V m c main_arg6 _ = V m c main_arg6 _
  congr 1
  funext a
  refine Fin.ext ?_
  match a with
  | ⟨0, _⟩ => show win0_5.index t 0 * 1024 + 1 * r.val = R.val; rw [hi]; show (8 + 4 * (grid0.coords t 0).val + (grid0.coords t 2).val) * 1024 + 1 * r.val = _; omega
  | ⟨1, _⟩ => show win0_5.index t 1 * 128 + 1 * d.val = C.val; rw [hi]; show (72 + (grid0.coords t 1).val) * 128 + 1 * d.val = _; omega

theorem blk6 (r : Fin 512) (d : Fin 128) (R : Fin 1024) (C : Fin 1024) (hR : R.val = ((grid0.coords t 0).val) * 512 + r.val)
    (hC : C.val = ((grid0.coords t 1).val) * 128 + d.val) :
    (iblk m c 6 t : FVec Ideal S512x128 .bf16) (ix2 r d) = (V m c main_v7 : FVec Ideal S1024x1024 .bf16) (ix2 R C) := by
  have hi := (idx_facts t).2.2.2.2.2.2.1
  unfold iblk
  rw [View.read_apply]
  show V m c main_v7 _ = V m c main_v7 _
  congr 1
  funext a
  refine Fin.ext ?_
  match a with
  | ⟨0, _⟩ => show win0_6.index t 0 * 512 + 1 * r.val = R.val; rw [hi]; show ((grid0.coords t 0).val) * 512 + 1 * r.val = _; omega
  | ⟨1, _⟩ => show win0_6.index t 1 * 128 + 1 * d.val = C.val; rw [hi]; show ((grid0.coords t 1).val) * 128 + 1 * d.val = _; omega

theorem blk7 (r : Fin 512) (d : Fin 128) (R : Fin 1024) (C : Fin 1024) (hR : R.val = ((grid0.coords t 0).val) * 512 + r.val)
    (hC : C.val = ((grid0.coords t 1).val) * 128 + d.val) :
    (iblk m c 7 t : FVec Ideal S512x128 .bf16) (ix2 r d) = (V m c main_v9 : FVec Ideal S1024x1024 .bf16) (ix2 R C) := by
  have hi := (idx_facts t).2.2.2.2.2.2.2.1
  unfold iblk
  rw [View.read_apply]
  show V m c main_v9 _ = V m c main_v9 _
  congr 1
  funext a
  refine Fin.ext ?_
  match a with
  | ⟨0, _⟩ => show win0_7.index t 0 * 512 + 1 * r.val = R.val; rw [hi]; show ((grid0.coords t 0).val) * 512 + 1 * r.val = _; omega
  | ⟨1, _⟩ => show win0_7.index t 1 * 128 + 1 * d.val = C.val; rw [hi]; show ((grid0.coords t 1).val) * 128 + 1 * d.val = _; omega

end

/-- THE ARRAY: the kernel's result, entry by entry. -/
theorem result_apply (b : Fin 2) (q : Fin 4096) (h : Fin 8) (e : Fin 128) :
    ((dats m 0 c).arrAt 8 cfg0.N : FVec Ideal S8192x1024 .bf16)
        (ix2 (⟨b.val * 4096 + q.val, by omega⟩ : Fin 8192) (⟨h.val * 128 + e.val, by omega⟩ : Fin 1024))
      = AttnSpec.entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) b q h e := by
  obtain ⟨t, hb, hh, hq⟩ := point_exists b h ⟨q.val / 1024, by omega⟩
  have hq' : (grid0.coords t 2).val = q.val / 1024 := hq
  let y : S1024x128.Idx := ix2 (⟨q.val % 1024, by omega⟩ : Fin 1024) e
  have hi := (idx_facts t).2.2.2.2.2.2.2.2
  have hidx : ((cfg0.win 8).blk t).view.emb y
      = ix2 (⟨b.val * 4096 + q.val, by omega⟩ : Fin 8192) (⟨h.val * 128 + e.val, by omega⟩ : Fin 1024) := by
    funext a
    refine Fin.ext ?_
    match a with
    | ⟨0, _⟩ => show win0_8.index t 0 * 1024 + 1 * (q.val % 1024) = b.val * 4096 + q.val
                rw [hi]; show (4 * (grid0.coords t 0).val + (grid0.coords t 2).val) * 1024 + 1 * (q.val % 1024) = _; omega
    | ⟨1, _⟩ => show win0_8.index t 1 * 128 + 1 * e.val = h.val * 128 + e.val
                rw [hi]; show (grid0.coords t 1).val * 128 + 1 * e.val = _; omega
  have hel := (dats m 0 c).arrAt_emb_eq_flushed 8 Value.disjoint8 t (flush0_8 t) y
  rw [hidx] at hel
  refine hel.trans ?_
  rw [Value.flushed8]
  show out0_8 (iblk m c 0 t) (iblk m c 1 t) (iblk m c 2 t) (iblk m c 3 t) (iblk m c 4 t) (iblk m c 5 t) (iblk m c 6 t) (iblk m c 7 t) y = _
  rw [block]
  unfold G AttnSpec.entry
  have e0 : ∀ (i : Fin 4) (d : Fin 64), (iblk m c 0 t : FVec Ideal S4x64 .f32) (ix2 i d) = _ := fun i d => (blk0 m c t i d).trans (v4_apply m c i d)
  have e1 : ∀ d : Fin 128, (iblk m c 1 t : FVec Ideal S1x128 .f32) (ix2 0 d) = _ := fun d => (blk1 m c t d).trans (v5_apply m c d)
  have e2 : (fun d : Fin 128 => (iblk m c 2 t : FVec Ideal S1024x128 .bf16) (ix2 (y 0) d))
      = AttnSpec.queryOf (m ((c : Thread nD τ).loc main_arg5)) b q h := funext fun d => by
    refine (blk2 m c t (y 0) d ⟨b.val * 4096 + q.val, by omega⟩ ⟨h.val * 128 + d.val, by omega⟩ ?_ ?_).trans ?_
    · show b.val * 4096 + q.val = _ * 1024 + q.val % 1024; omega
    · show h.val * 128 + d.val = _; omega
    · rw [V_main_arg5]; rfl
  have e5 : (iblk m c 5 t : FVec Ideal S1024x128 .bf16) (ix2 (y 0) (y 1)) = AttnSpec.gateOf (m ((c : Thread nD τ).loc main_arg6)) b q h e := by
    refine (blk5 m c t (y 0) (y 1) ⟨8192 + (b.val * 4096 + q.val), by omega⟩ ⟨9216 + (h.val * 128 + e.val), by omega⟩ ?_ ?_).trans ?_
    · show 8192 + (b.val * 4096 + q.val) = _ * 1024 + q.val % 1024; omega
    · show 9216 + (h.val * 128 + e.val) = _ * 128 + e.val; omega
    · rw [V_main_arg6]; rfl
  have ek : AttnSpec.keyAt (fun c' d => (iblk m c 3 t : FVec Ideal S4096x128 .bf16) (ix2 c' d)) (fun c' d => (iblk m c 6 t : FVec Ideal S512x128 .bf16) (ix2 c' d))
      = AttnSpec.keysOf (m ((c : Thread nD τ).loc main_arg5)) (m ((c : Thread nD τ).loc main_arg7)) b h := by
    unfold AttnSpec.keysOf
    congr 1
    · funext c' d
      refine (blk3 m c t c' d ⟨b.val * 4096 + c'.val, by omega⟩ ⟨1024 + (h.val * 128 + d.val), by omega⟩ ?_ ?_).trans ?_
      · show b.val * 4096 + c'.val = _; omega
      · show 1024 + (h.val * 128 + d.val) = _; omega
      · rw [V_main_arg5]
    · funext c' d
      refine (blk6 m c t c' d ⟨b.val * 512 + c'.val, by omega⟩ ⟨h.val * 128 + ((d.val / 64) * 64 + d.val % 64), by omega⟩ ?_ ?_).trans ?_
      · show b.val * 512 + c'.val = _; omega
      · show h.val * 128 + _ = _; omega
      · exact v7_apply m c b c' h ⟨d.val / 64, by omega⟩ ⟨d.val % 64, by omega⟩
  have ev : AttnSpec.keyAt (fun c' d => (iblk m c 4 t : FVec Ideal S4096x128 .bf16) (ix2 c' d)) (fun c' d => (iblk m c 7 t : FVec Ideal S512x128 .bf16) (ix2 c' d))
      = AttnSpec.valsOf (m ((c : Thread nD τ).loc main_arg6)) (m ((c : Thread nD τ).loc main_arg8)) b h := by
    unfold AttnSpec.valsOf
    congr 1
    · funext c' d
      refine (blk4 m c t c' d ⟨8192 + (b.val * 4096 + c'.val), by omega⟩ ⟨8192 + (h.val * 128 + d.val), by omega⟩ ?_ ?_).trans ?_
      · show 8192 + (b.val * 4096 + c'.val) = _; omega
      · show 8192 + (h.val * 128 + d.val) = _; omega
      · rw [V_main_arg6]
    · funext c' d
      refine (blk7 m c t c' d ⟨b.val * 512 + c'.val, by omega⟩ ⟨h.val * 128 + d.val, by omega⟩ ?_ ?_).trans ?_
      · show b.val * 512 + c'.val = _; omega
      · show h.val * 128 + d.val = _; omega
      · exact v9_apply m c b c' h d
  rw [e2, e5, ek, ev]
  simp only [e0, e1]
  rfl

end Cert.KernelIdeal.Attn

end
-- ==== Proof.AttnRef.lean ====
/- The attention's reference result, entry by entry, in terms of its arguments. -/
module

public import proofs.«01_k».proof.Proof.Gen.ReferenceIdeal.Read
public import proofs.«01_k».proof.Proof.AttnSpec

@[expose] public section

set_option maxRecDepth 65536

noncomputable section

namespace Cert.ReferenceIdeal.Attn

open Cert.ReferenceIdeal Cert.ReferenceIdeal.Read Idealize.ShloMosaic Idealize.ShloMosaic.TcCoe Idealize.SL.Sem

variable (x0 x1 x2 x3 : FVec Ideal S64 .f32) (x4 : FVec Ideal S128 .f32) (x5 : FVec Ideal S8192x2048 .bf16)
  (x6 : FVec Ideal S16384x17664 .bf16) (x7 : FVec Ideal S2x512x8x2x64 .f32) (x8 : FVec Ideal S2x512x8x128 .f32)

/-- The scaled query. -/
theorem v6_at (b : Fin 2) (q : Fin 4096) (h : Fin 8) (i : Fin 2) (d : Fin 64) :
    val_main_v6 (F := Ideal) x5 (ix5 b q h i d) = AttnSpec.queryOf x5 b q h ⟨i.val * 64 + d.val, by omega⟩ * AttnSpec.qscale := by
  rw [val_main_v6_apply, val_main_v2_apply, val_main_v1_apply, val_main_v0_apply, val_main_v5_apply, val_main_v4_apply,
    val_main_v3_apply, val_main_cst_apply, val_main_cst_0_apply]
  have hi : idx_main_v0 (idx_main_v2 (ix5 b q h i d))
      = ix2 (⟨b.val * 4096 + q.val, by omega⟩ : Fin 8192) (⟨h.val * 128 + (i.val * 64 + d.val), by omega⟩ : Fin 2048) := by
    funext a
    refine Fin.ext ?_
    match a with
    | ⟨0, _⟩ => show ((((b.val * 4096 + q.val) * 8 + h.val) * 2 + i.val) * 64 + d.val) / 1024 = b.val * 4096 + q.val; omega
    | ⟨1, _⟩ => show ((((b.val * 4096 + q.val) * 8 + h.val) * 2 + i.val) * 64 + d.val) % 1024 = h.val * 128 + (i.val * 64 + d.val); omega
  rw [hi]
  rfl

/-- The new keys. -/
theorem v9_at (b : Fin 2) (q : Fin 4096) (h : Fin 8) (i : Fin 2) (d : Fin 64) :
    val_main_v9 (F := Ideal) x5 (ix5 b q h i d)
      = x5 (ix2 (⟨b.val * 4096 + q.val, by omega⟩ : Fin 8192) (⟨1024 + (h.val * 128 + (i.val * 64 + d.val)), by omega⟩ : Fin 2048)) := by
  rw [val_main_v9_apply, val_main_v8_apply, val_main_v7_apply]
  refine congrArg x5 ?_
  funext a
  refine Fin.ext ?_
  match a with
  | ⟨0, _⟩ => show ((((b.val * 4096 + q.val) * 8 + h.val) * 2 + i.val) * 64 + d.val) / 1024 = b.val * 4096 + q.val; omega
  | ⟨1, _⟩ => show 1024 + ((((b.val * 4096 + q.val) * 8 + h.val) * 2 + i.val) * 64 + d.val) % 1024 = 1024 + (h.val * 128 + (i.val * 64 + d.val)); omega

/-- The new values. -/
theorem v12_at (b : Fin 2) (q : Fin 4096) (h : Fin 8) (e : Fin 128) :
    val_main_v12 (F := Ideal) x6 (ix4 b q h e)
      = x6 (ix2 (⟨8192 + (b.val * 4096 + q.val), by omega⟩ : Fin 16384) (⟨8192 + (h.val * 128 + e.val), by omega⟩ : Fin 17664)) := by
  rw [val_main_v12_apply, val_main_v11_apply, val_main_v10_apply]
  refine congrArg x6 ?_
  funext a
  refine Fin.ext ?_
  match a with
  | ⟨0, _⟩ => show 8192 + (((b.val * 4096 + q.val) * 8 + h.val) * 128 + e.val) / 1024 = 8192 + (b.val * 4096 + q.val); omega
  | ⟨1, _⟩ => show 8192 + (((b.val * 4096 + q.val) * 8 + h.val) * 128 + e.val) % 1024 = 8192 + (h.val * 128 + e.val); omega

/-- All keys, the cached ones first. -/
theorem v15_at (b : Fin 2) (c : Fin 4608) (h : Fin 8) (i : Fin 2) (d : Fin 64) :
    val_main_v15 (F := Ideal) x5 x7 (ix5 b c h i d) = AttnSpec.keysOf x5 x7 b h c ⟨i.val * 64 + d.val, by omega⟩ := by
  unfold val_main_v15
  have h9 := v9_at x5 b
  generalize val_main_v9 (F := Ideal) x5 = y at h9 ⊢
  pointwise
  simp only [h9]
  unfold AttnSpec.keysOf AttnSpec.keyAt
  have e1 : (⟨(i.val * 64 + d.val) / 64, by omega⟩ : Fin 2) = i := Fin.ext (by show (i.val * 64 + d.val) / 64 = i.val; omega)
  have e2 : (⟨(i.val * 64 + d.val) % 64, by omega⟩ : Fin 64) = d := Fin.ext (by show (i.val * 64 + d.val) % 64 = d.val; omega)
  simp only [e1, e2]

/-- All values, the cached ones first. -/
theorem v16_at (b : Fin 2) (c : Fin 4608) (h : Fin 8) (e : Fin 128) :
    val_main_v16 (F := Ideal) x6 x8 (ix4 b c h e) = AttnSpec.valsOf x6 x8 b h c e := by
  unfold val_main_v16
  have h12 := v12_at x6 b
  generalize val_main_v12 (F := Ideal) x6 = y at h12 ⊢
  pointwise
  simp only [h12]
  rfl

/-- The reference's score of key `c` for query `q`, in map `i`. -/
def score (b : Fin 2) (h : Fin 8) (i : Fin 2) (q : Fin 4096) (c : Fin 4608) : EReal :=
  (∑ d : Fin 64, AttnSpec.queryOf x5 b q h ⟨i.val * 64 + d.val, by omega⟩ * AttnSpec.qscale
    * AttnSpec.keysOf x5 x7 b h c ⟨i.val * 64 + d.val, by omega⟩) * Ideal.ofBits .f32 0x3E000000#32

theorem v27_at (b : Fin 2) (h : Fin 8) (i : Fin 2) (q : Fin 4096) (c : Fin 4608) :
    val_main_v27 (F := Ideal) x5 x7 (ix5 b h i q c) = score x5 x7 b h i q c := by
  rw [val_main_v27_apply, val_main_v26_apply, val_main_cst_4_apply, val_main_v25_apply]
  show (∑ k : Fin 64, _) * _ = (∑ k : Fin 64, _) * _
  congr 1
  refine Finset.sum_congr rfl fun d _ => ?_
  rw [show lidx_main_v25 (ix5 b h i q c) d = ix5 b q h i d from by funext a; fin_cases a <;> rfl,
    show ridx_main_v25 (ix5 b h i q c) d = ix5 b c h i d from by funext a; fin_cases a <;> rfl, v6_at, v15_at]

/-- The maximum over the keys. -/
theorem v30_at (b : Fin 2) (h : Fin 8) (i : Fin 2) (q : Fin 4096) :
    val_main_v30 (F := Ideal) x5 x7 (ix4 b h i q) = Finset.univ.fold max ⊥ (score x5 x7 b h i q) := by
  have h28 : val_main_v28 (F := Ideal) x5 x7 (ix4 b h i q) = Finset.univ.fold max ⊥ (score x5 x7 b h i q) := by
    unfold val_main_v28
    have h27 := v27_at x5 x7 b h i q
    generalize val_main_v27 (F := Ideal) x5 x7 = y at h27 ⊢
    pointwise [val_main_cst_5]
    rw [AttnSpec.ofBits_neg_inf]
    exact congrArg (fun f => Finset.fold max ⊥ f Finset.univ) (funext h27)
  rw [val_main_v30_apply, val_main_v29_apply, val_main_cst_6_apply, h28]
  show max (Ideal.ofBits .f32 0xFF800000#32) _ = _
  rw [AttnSpec.ofBits_neg_inf]
  exact max_bot_left _

/-- The weights before they are divided. -/
theorem v34_at (b : Fin 2) (h : Fin 8) (i : Fin 2) (q : Fin 4096) (c : Fin 4608) :
    val_main_v34 (F := Ideal) x5 x7 (ix5 b h i q c)
      = Ideal.exp (score x5 x7 b h i q c - Finset.univ.fold max ⊥ (score x5 x7 b h i q)) := by
  rw [val_main_v34_apply, val_main_v33_apply, val_main_v32_apply, val_main_v31_apply, v27_at,
    show idx_main_v31 (idx_main_v32 (ix5 b h i q c)) = ix4 b h i q from by funext a; fin_cases a <;> rfl, v30_at]
  rfl

/-- The probabilities. -/
theorem v38_at (b : Fin 2) (h : Fin 8) (i : Fin 2) (q : Fin 4096) (c : Fin 4608) :
    val_main_v38 (F := Ideal) x5 x7 (ix5 b h i q c)
      = Ideal.div (Ideal.exp (score x5 x7 b h i q c - Finset.univ.fold max ⊥ (score x5 x7 b h i q)))
          (∑ j, Ideal.exp (score x5 x7 b h i q j - Finset.univ.fold max ⊥ (score x5 x7 b h i q))) := by
  rw [val_main_v38_apply, val_main_v37_apply, val_main_v36_apply, v34_at,
    show idx_main_v36 (idx_main_v37 (ix5 b h i q c)) = ix4 b h i q from by funext a; fin_cases a <;> rfl, val_main_v35_apply,
    val_main_cst_7_apply]
  show Ideal.div _ (Ideal.ofBits .f32 0x00000000#32 + _) = _
  rw [Ideal.ofBits_zero_f32, zero_add]
  congr 1
  refine Finset.sum_congr rfl fun j _ => ?_
  rw [show idx_main_v35 (ix4 b h i q) j = ix5 b h i q j from by funext a; fin_cases a <;> rfl, v34_at]

/-- The mixing weight. -/
theorem v24_at (j : S_.Idx) : val_main_v24 (F := Ideal) x0 x1 x2 x3 j
    = AttnSpec.mix (fun d => x0 (ix1 d)) (fun d => x1 (ix1 d)) (fun d => x2 (ix1 d)) (fun d => x3 (ix1 d)) := by
  rw [val_main_v24_apply, val_main_v23_apply, val_main_v19_apply, val_main_v22_apply, val_main_v18_apply, val_main_v21_apply,
    val_main_cst_1_apply, val_main_cst_2_apply, val_main_cst_3_apply]
  have hs : ∀ f : S64.Idx → EReal, ∑ j : S64.Idx, f j = ∑ d : Fin 64, f (ix1 d) := fun f => by
    refine (Fintype.sum_equiv (Equiv.ofBijective (fun d : Fin 64 => (ix1 d : S64.Idx)) ⟨fun a b h => congrFun h 0, fun j => ⟨j 0, (eq_ix1 j).symm⟩⟩) _ _ fun d => ?_).symm
    rfl
  simp only [hs, val_main_v17_apply, val_main_v20_apply]
  show Ideal.exp (Ideal.ofBits .f32 0x00000000#32 + _) - Ideal.exp (Ideal.ofBits .f32 0x00000000#32 + _) + _ = _
  rw [Ideal.ofBits_zero_f32, zero_add, zero_add]
  rfl

/-- The difference of the probabilities. -/
theorem v45_at (b : Fin 2) (h : Fin 8) (q : Fin 4096) (c : Fin 4608) :
    val_main_v45 (F := Ideal) x0 x1 x2 x3 x5 x7 (ix4 b h q c)
      = val_main_v38 (F := Ideal) x5 x7 (ix5 b h 0 q c)
        - AttnSpec.mix (fun d => x0 (ix1 d)) (fun d => x1 (ix1 d)) (fun d => x2 (ix1 d)) (fun d => x3 (ix1 d))
          * val_main_v38 (F := Ideal) x5 x7 (ix5 b h 1 q c) := by
  have h0 : idx_main_v39 (idx_main_v40 (ix4 b h q c)) = ix5 b h 0 q c := by
    funext a
    refine Fin.ext ?_
    have := b.isLt; have := h.isLt; have := q.isLt; have := c.isLt
    match a with
    | ⟨0, _⟩ => show (((b.val * 8 + h.val) * 4096 + q.val) * 4608 + c.val) / 150994944 = b.val; omega
    | ⟨1, _⟩ => show (((b.val * 8 + h.val) * 4096 + q.val) * 4608 + c.val) / 18874368 % 8 = h.val; omega
    | ⟨2, _⟩ => rfl
    | ⟨3, _⟩ => show (((b.val * 8 + h.val) * 4096 + q.val) * 4608 + c.val) / 4608 % 4096 = q.val; omega
    | ⟨4, _⟩ => show (((b.val * 8 + h.val) * 4096 + q.val) * 4608 + c.val) % 4608 = c.val; omega
  have h1 : idx_main_v41 (idx_main_v42 (ix4 b h q c)) = ix5 b h 1 q c := by
    funext a
    refine Fin.ext ?_
    have := b.isLt; have := h.isLt; have := q.isLt; have := c.isLt
    match a with
    | ⟨0, _⟩ => show (((b.val * 8 + h.val) * 4096 + q.val) * 4608 + c.val) / 150994944 = b.val; omega
    | ⟨1, _⟩ => show (((b.val * 8 + h.val) * 4096 + q.val) * 4608 + c.val) / 18874368 % 8 = h.val; omega
    | ⟨2, _⟩ => rfl
    | ⟨3, _⟩ => show (((b.val * 8 + h.val) * 4096 + q.val) * 4608 + c.val) / 4608 % 4096 = q.val; omega
    | ⟨4, _⟩ => show (((b.val * 8 + h.val) * 4096 + q.val) * 4608 + c.val) % 4608 = c.val; omega
  rw [val_main_v45_apply, val_main_v44_apply, val_main_v43_apply, val_main_v40_apply, val_main_v39_apply, val_main_v42_apply,
    val_main_v41_apply, v24_at, h0, h1]
  rfl

/-- The mixed row. -/
def mixed (b : Fin 2) (q : Fin 4096) (h : Fin 8) (e : Fin 128) : EReal :=
  AttnSpec.rmap (score x5 x7 b h 0 q) (score x5 x7 b h 1 q) (fun c => AttnSpec.valsOf x6 x8 b h c e)
    (AttnSpec.mix (fun d => x0 (ix1 d)) (fun d => x1 (ix1 d)) (fun d => x2 (ix1 d)) (fun d => x3 (ix1 d)))

theorem v47_at (b : Fin 2) (q : Fin 4096) (h : Fin 8) (e : Fin 128) :
    val_main_v47 (F := Ideal) x0 x1 x2 x3 x5 x6 x7 x8 (ix4 b q h e) = mixed x0 x1 x2 x3 x5 x6 x7 x8 b q h e := by
  rw [val_main_v47_apply, show idx_main_v47 (ix4 b q h e) = ix4 b h e q from by funext a; fin_cases a <;> rfl, val_main_v46_apply]
  unfold mixed AttnSpec.rmap
  refine Finset.sum_congr rfl fun c _ => ?_
  rw [show lidx_main_v46 (ix4 b h e q) c = ix4 b c h e from by funext a; fin_cases a <;> rfl,
    show ridx_main_v46 (ix4 b h e q) c = ix4 b h q c from by funext a; fin_cases a <;> rfl, v16_at, v45_at, v38_at, v38_at]

/-- The normed row. -/
theorem v62_at (b : Fin 2) (q : Fin 4096) (h : Fin 8) (e : Fin 128) :
    val_main_v62 (F := Ideal) x0 x1 x2 x3 x4 x5 x6 x7 x8 (ix4 b q h e)
      = mixed x0 x1 x2 x3 x5 x6 x7 x8 b q h e
        * Ideal.rsqrt (Ideal.div (∑ x, mixed x0 x1 x2 x3 x5 x6 x7 x8 b q h x * mixed x0 x1 x2 x3 x5 x6 x7 x8 b q h x)
          (Ideal.ofBits .f32 0x43000000#32) + Ideal.ofBits .f32 0x358637BD#32) * x4 (ix1 e) * Ideal.ofBits .f32 0x3F24FD5C#32 := by
  have h49 : val_main_v49 (F := Ideal) x0 x1 x2 x3 x5 x6 x7 x8 (ix3 b q h)
      = ∑ x, mixed x0 x1 x2 x3 x5 x6 x7 x8 b q h x * mixed x0 x1 x2 x3 x5 x6 x7 x8 b q h x := by
    rw [val_main_v49_apply, val_main_cst_8_apply]
    show Ideal.ofBits .f32 0x00000000#32 + _ = _
    rw [Ideal.ofBits_zero_f32, zero_add]
    refine Finset.sum_congr rfl fun x _ => ?_
    rw [val_main_v48_apply, show idx_main_v49 (ix3 b q h) x = ix4 b q h x from by funext a; fin_cases a <;> rfl, v47_at]
    rfl
  rw [val_main_v62_apply, val_main_v60_apply, val_main_v57_apply, v47_at, val_main_v56_apply, val_main_v55_apply, val_main_v54_apply,
    val_main_v52_apply, val_main_v50_apply,
    show idx_main_v50 (idx_main_v56 (ix4 b q h e)) = ix3 b q h from by funext a; fin_cases a <;> rfl, h49, val_main_v51_apply,
    val_main_cst_9_apply, val_main_v53_apply, val_main_cst_10_apply, val_main_v59_apply, val_main_v58_apply,
    show idx_main_v58 (idx_main_v59 (ix4 b q h e)) = ix1 e from by funext a; fin_cases a; rfl, val_main_v61_apply, val_main_cst_11_apply]
  rfl

/-- THE REFERENCE: its result, entry by entry. -/
theorem result_apply (b : Fin 2) (q : Fin 4096) (h : Fin 8) (e : Fin 128) :
    val_main_v66 (F := Ideal) x0 x1 x2 x3 x4 x5 x6 x7 x8
        (ix2 (⟨b.val * 4096 + q.val, by omega⟩ : Fin 8192) (⟨h.val * 128 + e.val, by omega⟩ : Fin 1024))
      = AttnSpec.refEntry x0 x1 x2 x3 x4 x5 x6 x7 x8 b q h e := by
  have hi : idx_main_v63 (ix2 (⟨b.val * 4096 + q.val, by omega⟩ : Fin 8192) (⟨h.val * 128 + e.val, by omega⟩ : Fin 1024)) = ix4 b q h e := by
    funext a
    refine Fin.ext ?_
    have := b.isLt; have := h.isLt; have := q.isLt; have := e.isLt
    match a with
    | ⟨0, _⟩ => show ((b.val * 4096 + q.val) * 1024 + (h.val * 128 + e.val)) / 4194304 = b.val; omega
    | ⟨1, _⟩ => show ((b.val * 4096 + q.val) * 1024 + (h.val * 128 + e.val)) / 1024 % 4096 = q.val; omega
    | ⟨2, _⟩ => show ((b.val * 4096 + q.val) * 1024 + (h.val * 128 + e.val)) / 128 % 8 = h.val; omega
    | ⟨3, _⟩ => show ((b.val * 4096 + q.val) * 1024 + (h.val * 128 + e.val)) % 128 = e.val; omega
  have h14 : val_main_v14 (F := Ideal) x6 (ix2 (⟨b.val * 4096 + q.val, by omega⟩ : Fin 8192) (⟨h.val * 128 + e.val, by omega⟩ : Fin 1024))
      = AttnSpec.gateOf x6 b q h e := by
    rw [val_main_v14_apply, val_main_v13_apply]
    refine congrArg x6 ?_
    funext a
    refine Fin.ext ?_
    match a with
    | ⟨0, _⟩ => rfl
    | ⟨1, _⟩ => rfl
  rw [val_main_v66_apply, val_main_v65_apply, val_main_v63_apply, hi, v62_at, val_main_v64_apply, val_main_call0_v5_apply, val_main_call0_v4_apply,
    val_main_call0_cst_0_apply, val_main_call0_v3_apply, val_main_call0_v2_apply, val_main_call0_cst_apply, val_main_call0_v1_apply,
    val_main_call0_v0_apply, h14]
  show _ * (_ * Ideal.div (Ideal.ofBits .f32 0x3F800000#32) (Ideal.ofBits .f32 0x3F800000#32 + Ideal.exp (-AttnSpec.gateOf x6 b q h e))) = _
  rw [Ideal.ofBits_one_f32]
  unfold AttnSpec.refEntry AttnSpec.refHead AttnSpec.finish
  have hs0 : ∀ c, (∑ d : Fin 64, AttnSpec.queryOf x5 b q h ⟨d.val, by omega⟩ * AttnSpec.qscale * AttnSpec.keysOf x5 x7 b h c ⟨d.val, by omega⟩)
      * Ideal.ofBits .f32 0x3E000000#32 = score x5 x7 b h 0 q c := fun c => by
    unfold score
    refine congrArg (· * _) (Finset.sum_congr rfl fun d _ => ?_)
    rw [show (⟨(0 : Fin 2).val * 64 + d.val, by omega⟩ : Fin 128) = ⟨d.val, by omega⟩ from Fin.ext (by show 0 * 64 + d.val = d.val; omega)]
  have hs1 : ∀ c, (∑ d : Fin 64, AttnSpec.queryOf x5 b q h ⟨64 + d.val, by omega⟩ * AttnSpec.qscale * AttnSpec.keysOf x5 x7 b h c ⟨64 + d.val, by omega⟩)
      * Ideal.ofBits .f32 0x3E000000#32 = score x5 x7 b h 1 q c := fun c => by
    unfold score
    refine congrArg (· * _) (Finset.sum_congr rfl fun d _ => ?_)
    rw [show (⟨(1 : Fin 2).val * 64 + d.val, by omega⟩ : Fin 128) = ⟨64 + d.val, by omega⟩ from Fin.ext (by show 1 * 64 + d.val = 64 + d.val; omega)]
  simp only [hs0, hs1]
  rfl

end Cert.ReferenceIdeal.Attn

end
-- ==== Proof.AttnMath.lean ====
/- The arithmetic of one row of the differential attention, over finite scores and values. -/
module

public import Idealize.ShloMosaic.PureOps.Ideal

@[expose] public section

noncomputable section

namespace Cert.AttnMath

open Idealize.ShloMosaic

/-- A finite sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, at least one of them, is a real. -/
theorem fold_max_coe {n : ℕ} (f : Fin (n + 1) → ℝ) :
    ∃ r : ℝ, Finset.univ.fold max (⊥ : EReal) (fun j => (f j : EReal)) = (r : EReal) := by
  have key : ∀ s : Finset (Fin (n + 1)), Finset.fold max (⊥ : EReal) (fun j => (f j : EReal)) s = ⊥ ∧ s = ∅
      ∨ ∃ r : ℝ, Finset.fold max (⊥ : EReal) (fun j => (f j : EReal)) s = (r : EReal) := by
    intro s
    classical
    induction s using Finset.induction_on with
    | empty => exact .inl ⟨by simp, rfl⟩
    | insert a s ha ih =>
      right
      rw [Finset.fold_insert ha]
      rcases ih with ⟨h, -⟩ | ⟨r, h⟩
      · exact ⟨f a, by rw [h]; exact max_bot_right _⟩
      · exact ⟨max (f a) r, by rw [h]; exact (Monotone.map_max (fun _ _ h => EReal.coe_le_coe_iff.2 h)).symm⟩
  rcases key Finset.univ with ⟨-, h⟩ | h
  · exact absurd h (Finset.univ_nonempty (α := Fin (n + 1))).ne_empty
  · exact h

/-- A value whose absolute value is below `⊤` is a real. -/
theorem real_of_abs_lt {x : EReal} (h : max x (-x) < ⊤) : ∃ r : ℝ, x = (r : EReal) := by
  induction x using EReal.rec with
  | bot => simp at h
  | top => simp at h
  | coe r => exact ⟨r, rfl⟩

/-- Division by a positive real. -/
theorem div_pos_coe (x : ℝ) {y : ℝ} (h : 0 < y) : Ideal.div (x : EReal) (y : EReal) = ((x / y : ℝ) : EReal) := by
  rw [Ideal.div_coe h.ne', ← EReal.coe_mul]
  congr 1
  ring

/-- One map of the attention as the kernel computes it: the values weighted by powers of two of the scores less `m`,
    and that sum divided at the end. -/
theorem map_base_two {n : ℕ} (s v : Fin (n + 1) → ℝ) (m : ℝ) :
    (∑ j, Ideal.exp2 ((s j : EReal) - (m : EReal)) * (v j : EReal))
        * Ideal.div 1 (∑ j, Ideal.exp2 ((s j : EReal) - (m : EReal)) * 1)
      = ((∑ j, v j * (Real.exp (s j * Real.log 2) / ∑ i, Real.exp (s i * Real.log 2)) : ℝ) : EReal) := by
  have h2 : ∀ j, Ideal.exp2 ((s j : EReal) - (m : EReal))
      = ((Real.exp (s j * Real.log 2) * Real.exp (-(m * Real.log 2)) : ℝ) : EReal) := by
    intro j
    rw [← EReal.coe_sub, Ideal.exp2_coe, ← Real.exp_add]
    congr 1
    show (2 : ℝ) ^ (s j - m) = _
    rw [Real.rpow_def_of_pos (by norm_num)]
    congr 1
    ring
  simp only [h2, mul_one, ← EReal.coe_mul, ← coe_sum]
  have hpos : 0 < ∑ i, Real.exp (s i * Real.log 2) * Real.exp (-(m * Real.log 2)) :=
    Finset.sum_pos (fun _ _ => by positivity) Finset.univ_nonempty
  rw [← EReal.coe_one, div_pos_coe 1 hpos, ← EReal.coe_mul]
  congr 1
  rw [← Finset.sum_mul, Finset.sum_mul]
  have h1 : (∑ i, Real.exp (s i * Real.log 2)) ≠ 0 := (Finset.sum_pos (fun _ _ => by positivity) Finset.univ_nonempty).ne'
  have h3 : Real.exp (-(m * Real.log 2)) ≠ 0 := (Real.exp_pos _).ne'
  refine Finset.sum_congr rfl fun j _ => ?_
  field_simp

/-- One probability as the reference computes it. -/
theorem prob_base_e {n : ℕ} (t : Fin (n + 1) → ℝ) (m : ℝ) (j : Fin (n + 1)) :
    Ideal.div (Ideal.exp ((t j : EReal) - (m : EReal))) (∑ i, Ideal.exp ((t i : EReal) - (m : EReal)))
      = ((Real.exp (t j) / ∑ i, Real.exp (t i) : ℝ) : EReal) := by
  have h2 : ∀ j, Ideal.exp ((t j : EReal) - (m : EReal)) = ((Real.exp (t j) * Real.exp (-m) : ℝ) : EReal) := by
    intro j
    rw [← EReal.coe_sub, Ideal.exp_coe, ← Real.exp_add, sub_eq_add_neg]
  simp only [h2, ← coe_sum]
  have hpos : 0 < ∑ i, Real.exp (t i) * Real.exp (-m) :=
    Finset.sum_pos (fun _ _ => by positivity) Finset.univ_nonempty
  rw [div_pos_coe _ hpos, ← Finset.sum_mul]
  congr 1
  have h3 : Real.exp (-m) ≠ 0 := (Real.exp_pos _).ne'
  field_simp

/-- THE ROW. The kernel's difference of the two maps, each with its own division behind the sum, is the
    reference's sum of the values weighted by the difference of the probabilities, whatever reals are taken off the
    scores. The reference's scores are the kernel's times `log 2`. -/
theorem row {n : ℕ} (s0 s1 t0 t1 v : Fin (n + 1) → ℝ) (lam m0 m1 m0' m1' : ℝ)
    (ht0 : ∀ j, t0 j = s0 j * Real.log 2) (ht1 : ∀ j, t1 j = s1 j * Real.log 2) :
    (∑ j, Ideal.exp2 ((s0 j : EReal) - (m0 : EReal)) * (v j : EReal))
          * Ideal.div 1 (∑ j, Ideal.exp2 ((s0 j : EReal) - (m0 : EReal)) * 1)
        - (lam : EReal) * ((∑ j, Ideal.exp2 ((s1 j : EReal) - (m1 : EReal)) * (v j : EReal))
          * Ideal.div 1 (∑ j, Ideal.exp2 ((s1 j : EReal) - (m1 : EReal)) * 1))
      = ∑ j, (v j : EReal)
          * (Ideal.div (Ideal.exp ((t0 j : EReal) - (m0' : EReal))) (∑ i, Ideal.exp ((t0 i : EReal) - (m0' : EReal)))
            - (lam : EReal) * Ideal.div (Ideal.exp ((t1 j : EReal) - (m1' : EReal))) (∑ i, Ideal.exp ((t1 i : EReal) - (m1' : EReal)))) := by
  rw [map_base_two, map_base_two]
  simp only [prob_base_e]
  simp only [← EReal.coe_mul, ← EReal.coe_sub, ← coe_sum, ht0, ht1]
  congr 1
  rw [Finset.mul_sum, ← Finset.sum_sub_distrib]
  refine Finset.sum_congr rfl fun j _ => ?_
  ring

end Cert.AttnMath

end
-- ==== Proof.AttnEq.lean ====
/- The kernel's entry is the reference's entry, over finite queries, keys, values and mixing vectors. -/
module

public import proofs.«01_k».proof.Proof.AttnSpec
public import proofs.«01_k».proof.Proof.AttnMath

@[expose] public section

noncomputable section

namespace Cert.AttnSpec

open Idealize.ShloMosaic

/-- The query's scale is `8 log 2`. -/
theorem qscale_eq : qscale = ((Real.log 2 * 8 : ℝ) : EReal) := by
  have h2 : Ideal.ofBits .f32 0x40000000#32 = ((2 : ℝ) : EReal) := by
    simp [Ideal.ofBits, Ideal.ieee, -EReal.coe_mul]; norm_num
  have h8 : Ideal.ofBits .f32 0x41000000#32 = ((8 : ℝ) : EReal) := by
    simp [Ideal.ofBits, Ideal.ieee, -EReal.coe_mul]; norm_num
  unfold qscale
  rw [h2, h8, Ideal.log_coe, if_neg (by norm_num), ← EReal.coe_mul]

/-- The reference's factor behind the scores is `1/8`. -/
theorem eighth_eq : Ideal.ofBits .f32 0x3E000000#32 = ((1 / 8 : ℝ) : EReal) := by
  simp [Ideal.ofBits, Ideal.ieee, -EReal.coe_mul]; norm_num

/-- The mixing weight of finite vectors is finite. -/
theorem mix_real (q1 k1 q2 k2 : Fin 64 → ℝ) :
    ∃ r : ℝ, mix (fun d => (q1 d : EReal)) (fun d => (k1 d : EReal)) (fun d => (q2 d : EReal)) (fun d => (k2 d : EReal)) = (r : EReal) := by
  have hc : ∃ r : ℝ, Ideal.ofBits .f32 0x3EB60549#32 = (r : EReal) := by
    refine ⟨(1 + 3540297 / 8388608) * (2 : ℝ) ^ (-2 : ℤ), ?_⟩
    simp [Ideal.ofBits, Ideal.ieee, -EReal.coe_mul]; norm_num
  obtain ⟨r, hr⟩ := hc
  unfold mix
  rw [hr]
  simp only [← EReal.coe_mul, ← AttnMath.coe_sum, Ideal.exp_coe, ← EReal.coe_sub, ← EReal.coe_add]
  exact ⟨_, rfl⟩

/-- One entry of the mixed row: the kernel's and the reference's. -/
theorem maps_eq (q : Fin 128 → ℝ) (key : Fin 4608 → Fin 128 → ℝ) (v : Fin 4608 → ℝ) (lam : ℝ) :
    kmap (fun c => ∑ d : Fin 64, (q ⟨d.val, by omega⟩ : EReal) * (key c ⟨d.val, by omega⟩ : EReal)) (fun c => (v c : EReal))
      - (lam : EReal) * kmap (fun c => ∑ d : Fin 64, (q ⟨64 + d.val, by omega⟩ : EReal) * (key c ⟨64 + d.val, by omega⟩ : EReal)) (fun c => (v c : EReal))
    = rmap
      (fun c => (∑ d : Fin 64, (q ⟨d.val, by omega⟩ : EReal) * qscale * (key c ⟨d.val, by omega⟩ : EReal)) * Ideal.ofBits .f32 0x3E000000#32)
      (fun c => (∑ d : Fin 64, (q ⟨64 + d.val, by omega⟩ : EReal) * qscale * (key c ⟨64 + d.val, by omega⟩ : EReal)) * Ideal.ofBits .f32 0x3E000000#32)
      (fun c => (v c : EReal)) (lam : EReal) := by
  have hs : ∀ f g : Fin 64 → ℝ, ∑ d, (f d : EReal) * (g d : EReal) = ((∑ d, f d * g d : ℝ) : EReal) := fun f g => by
    rw [AttnMath.coe_sum]; simp only [EReal.coe_mul]
  have ht : ∀ f g : Fin 64 → ℝ, (∑ d, (f d : EReal) * qscale * (g d : EReal)) * Ideal.ofBits .f32 0x3E000000#32
      = (((∑ d, f d * g d) * Real.log 2 : ℝ) : EReal) := fun f g => by
    rw [qscale_eq, eighth_eq]
    simp only [← EReal.coe_mul, ← AttnMath.coe_sum]
    congr 1
    rw [Finset.sum_mul, Finset.sum_mul]
    refine Finset.sum_congr rfl fun d _ => ?_
    ring
  have e0 := fun c => hs (fun d => q ⟨d.val, by omega⟩) (fun d => key c ⟨d.val, by omega⟩)
  have e1 := fun c => hs (fun d => q ⟨64 + d.val, by omega⟩) (fun d => key c ⟨64 + d.val, by omega⟩)
  have e2 := fun c => ht (fun d => q ⟨d.val, by omega⟩) (fun d => key c ⟨d.val, by omega⟩)
  have e3 := fun c => ht (fun d => q ⟨64 + d.val, by omega⟩) (fun d => key c ⟨64 + d.val, by omega⟩)
  simp only [e0, e1, e2, e3]
  generalize hs0 : (fun c => ∑ d : Fin 64, q ⟨d.val, by omega⟩ * key c ⟨d.val, by omega⟩) = s0
  generalize hs1 : (fun c => ∑ d : Fin 64, q ⟨64 + d.val, by omega⟩ * key c ⟨64 + d.val, by omega⟩) = s1
  have h0 : ∀ c, ∑ d : Fin 64, q ⟨d.val, by omega⟩ * key c ⟨d.val, by omega⟩ = s0 c := fun c => congrFun hs0 c
  have h1 : ∀ c, ∑ d : Fin 64, q ⟨64 + d.val, by omega⟩ * key c ⟨64 + d.val, by omega⟩ = s1 c := fun c => congrFun hs1 c
  simp only [h0, h1]
  unfold kmap rmap
  obtain ⟨m0, hm0⟩ := AttnMath.fold_max_coe (n := 4607) s0
  obtain ⟨m1, hm1⟩ := AttnMath.fold_max_coe (n := 4607) s1
  obtain ⟨m2, hm2⟩ := AttnMath.fold_max_coe (n := 4607) (fun c => s0 c * Real.log 2)
  obtain ⟨m3, hm3⟩ := AttnMath.fold_max_coe (n := 4607) (fun c => s1 c * Real.log 2)
  rw [hm0, hm1, hm2, hm3]
  exact AttnMath.row (n := 4607) s0 s1 (fun c => s0 c * Real.log 2) (fun c => s1 c * Real.log 2) v lam m0 m1 m2 m3 (fun _ => rfl) (fun _ => rfl)

/-- One entry of a head. -/
theorem head_eq (q : Fin 128 → EReal) (key val : Fin 4608 → Fin 128 → EReal) (lam : EReal) (w : Fin 128 → EReal) (g : EReal) (e : Fin 128)
    (hq : ∀ d, ∃ r : ℝ, q d = r) (hk : ∀ c d, ∃ r : ℝ, key c d = r) (hv : ∀ c d, ∃ r : ℝ, val c d = r) (hl : ∃ r : ℝ, lam = r) :
    head q key val lam w g e = refHead q key val lam w g e := by
  choose q' hq' using hq
  choose key' hk' using hk
  choose val' hv' using hv
  obtain ⟨lam', rfl⟩ := hl
  unfold head refHead
  congr 1
  funext e
  simp only [hq', hk', hv']
  exact maps_eq q' key' (fun c => val' c e) lam'

section
variable (a0 a1 a2 a3 : (⟨1, ![64]⟩ : Shape).Idx → EReal) (a4 : (⟨1, ![128]⟩ : Shape).Idx → EReal)
  (a5 : (⟨2, ![8192, 2048]⟩ : Shape).Idx → EReal) (a6 : (⟨2, ![16384, 17664]⟩ : Shape).Idx → EReal)
  (a7 : (⟨5, ![2, 512, 8, 2, 64]⟩ : Shape).Idx → EReal) (a8 : (⟨4, ![2, 512, 8, 128]⟩ : Shape).Idx → EReal)

/-- The entries, over finite arguments: only the values' part of `p` need be finite, and neither the norm's weight nor
    the gate. -/
theorem entry_eq (h0 : ∀ i, ∃ r : ℝ, a0 i = r) (h1 : ∀ i, ∃ r : ℝ, a1 i = r) (h2 : ∀ i, ∃ r : ℝ, a2 i = r) (h3 : ∀ i, ∃ r : ℝ, a3 i = r)
    (h5 : ∀ i, ∃ r : ℝ, a5 i = r)
    (h6 : ∀ (i : Fin 8192) (j : Fin 1024), ∃ r : ℝ, a6 (ix2 (⟨8192 + i.val, by omega⟩ : Fin 16384) (⟨8192 + j.val, by omega⟩ : Fin 17664)) = r)
    (h7 : ∀ i, ∃ r : ℝ, a7 i = r) (h8 : ∀ i, ∃ r : ℝ, a8 i = r) (b : Fin 2) (q : Fin 4096) (h : Fin 8) (e : Fin 128) :
    entry a0 a1 a2 a3 a4 a5 a6 a7 a8 b q h e = refEntry a0 a1 a2 a3 a4 a5 a6 a7 a8 b q h e := by
  unfold entry refEntry
  apply head_eq
  · exact fun d => h5 _
  · intro c d
    unfold keysOf keyAt
    split
    · exact h7 _
    · exact h5 _
  · intro c d
    unfold valsOf keyAt
    split
    · exact h8 _
    · exact h6 ⟨b.val * 4096 + (c.val - 512), by omega⟩ ⟨h.val * 128 + d.val, by omega⟩
  · choose r0 e0 using h0
    choose r1 e1 using h1
    choose r2 e2 using h2
    choose r3 e3 using h3
    simp only [e0, e1, e2, e3]
    exact mix_real (fun d => r0 (ix1 d)) (fun d => r1 (ix1 d)) (fun d => r2 (ix1 d)) (fun d => r3 (ix1 d))
end

end Cert.AttnSpec

end
-- ==== Proof.AttnPre.lean ====
/- What the precondition of the attention says of the arguments: they are reals. -/
module

public import proofs.«01_k».proof.Defs
public import proofs.«01_k».proof.Proof.Gen.Pre_finite
public import proofs.«01_k».proof.Proof.AttnSpec
public import proofs.«01_k».proof.Proof.AttnMath
public import Idealize.ShloMosaic.Lib.ReduceAll

@[expose] public section

set_option maxRecDepth 65536

noncomputable section

namespace Cert.Pre_finite.Attn

open Cert.Pre_finite Idealize.ShloMosaic

attribute [local instance] Cert.Pre_finite.Gen.facts

/-- A scalar has one index. -/
instance : Subsingleton S_.Idx := ⟨fun a b => funext fun i => i.elim0⟩

/-- A comparison `|x| < +inf` that holds says that `x` is a real. -/
theorem real_of_cmp {x : EReal} (h : Ideal.cmp .olt (max x (-x)) (Ideal.ofBits .f32 0x7F800000#32) = 1#1) : ∃ r : ℝ, x = r := by
  apply AttnMath.real_of_abs_lt
  rw [AttnSpec.ofBits_inf] at h
  unfold Ideal.cmp at h
  by_contra hc
  simp only [decide_eq_false hc] at h
  exact absurd h (by decide)

/-- Where the precondition holds, everything it names is a real. -/
theorem reals (a0 a1 a2 a3 : FVec Ideal S64 .f32) (a4 : FVec Ideal S128 .f32) (a5 : FVec Ideal S8192x2048 .bf16)
    (a6 : FVec Ideal S16384x17664 .bf16) (a7 : FVec Ideal S2x512x8x2x64 .f32) (a8 : FVec Ideal S2x512x8x128 .f32)
    (h : Cert.Pre_finite.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a5 i = (r : EReal))
    ∧ (∀ (i : Fin 8192) (j : Fin 1024), ∃ r : ℝ, a6 (ix2 (⟨8192 + i.val, by omega⟩ : Fin 16384) (⟨8192 + j.val, by omega⟩ : Fin 17664)) = (r : EReal))
    ∧ (∀ i, ∃ r : ℝ, a7 i = (r : EReal)) ∧ (∀ i, ∃ r : ℝ, a8 i = (r : EReal)) := by
  have h0 := congrFun h (fun i => i.elim0)
  unfold fn fn_part1 fn_part2 at h0
  dsimp only at h0
  obtain ⟨h0, k8⟩ := IntOp.andi_eq_one.1 h0
  obtain ⟨h0, k7⟩ := IntOp.andi_eq_one.1 h0
  obtain ⟨h0, k6⟩ := IntOp.andi_eq_one.1 h0
  obtain ⟨h0, k5⟩ := IntOp.andi_eq_one.1 h0
  obtain ⟨h0, k3⟩ := IntOp.andi_eq_one.1 h0
  obtain ⟨h0, k2⟩ := IntOp.andi_eq_one.1 h0
  obtain ⟨k0, k1⟩ := IntOp.andi_eq_one.1 h0
  refine ⟨fun i => real_of_cmp (Host.reduce_andi_all _ _ _ _ _ k0 i), fun i => real_of_cmp (Host.reduce_andi_all _ _ _ _ _ k1 i),
    fun i => real_of_cmp (Host.reduce_andi_all _ _ _ _ _ k2 i), fun i => real_of_cmp (Host.reduce_andi_all _ _ _ _ _ k3 i),
    fun i => real_of_cmp (Host.reduce_andi_all _ _ _ _ _ k5 i), fun i j => ?_,
    fun i => real_of_cmp (Host.reduce_andi_all _ _ _ _ _ k7 i), fun i => real_of_cmp (Host.reduce_andi_all _ _ _ _ _ k8 i)⟩
  obtain ⟨r, hr⟩ := real_of_cmp (Host.reduce_andi_all _ _ _ _ _ k6 (ix2 i j))
  refine ⟨r, Eq.trans (congrArg a6 ?_) hr⟩
  funext a
  apply Fin.ext
  match a with
  | ⟨0, _⟩ => rfl
  | ⟨1, _⟩ => rfl

end Cert.Pre_finite.Attn

end
-- ==== Proof.AttnClaim.lean ====
/- The claim that the attention call and the reference's attention compute the same array. -/
module

public import proofs.«01_k».proof.Defs
public import proofs.«01_k».proof.Proof.AttnArray
public import proofs.«01_k».proof.Proof.AttnRef
public import proofs.«01_k».proof.Proof.AttnEq
public import proofs.«01_k».proof.Proof.AttnPre

@[expose] public section

set_option maxRecDepth 65536

noncomputable section

namespace Cert.Proof

open Idealize.ShloMosaic Idealize.SL.Sem

attribute [local instance] Cert.KernelIdeal.Gen.facts Cert.ReferenceIdeal.Gen.facts Cert.Pre_finite.Gen.facts

/-- Two arrays of the attention's result that agree at every (sample, query, head, lane) are equal. -/
theorem attn_ext {x y : FVec Ideal Cert.KernelIdeal.S8192x1024 .bf16}
    (h : ∀ (b : Fin 2) (q : Fin 4096) (k : Fin 8) (e : Fin 128),
      x (ix2 (⟨b.val * 4096 + q.val, by omega⟩ : Fin 8192) (⟨k.val * 128 + e.val, by omega⟩ : Fin 1024))
        = y (ix2 (⟨b.val * 4096 + q.val, by omega⟩ : Fin 8192) (⟨k.val * 128 + e.val, by omega⟩ : Fin 1024))) : x = y := by
  funext i
  have h0 : (i 0).val < 8192 := (i 0).isLt
  have h1 : (i 1).val < 1024 := (i 1).isLt
  have e := h ⟨(i 0).val / 4096, by omega⟩ ⟨(i 0).val % 4096, by omega⟩ ⟨(i 1).val / 128, by omega⟩ ⟨(i 1).val % 128, by omega⟩
  have hi : i = ix2 (⟨(i 0).val / 4096 * 4096 + (i 0).val % 4096, by omega⟩ : Fin 8192)
      (⟨(i 1).val / 128 * 128 + (i 1).val % 128, by omega⟩ : Fin 1024) := by
    funext a
    apply Fin.ext
    match a with
    | ⟨0, _⟩ => show (i 0).val = (i 0).val / 4096 * 4096 + (i 0).val % 4096; omega
    | ⟨1, _⟩ => show (i 1).val = (i 1).val / 128 * 128 + (i 1).val % 128; omega
  rw [hi]
  exact e

/-- The kernel's attention and the reference's, from equal finite arguments, end with equal results. -/
theorem algebraic_attn : Cert.algebraic_KernelIdeal_ReferenceIdeal_pre_finite := by
  intro m g m' g' hpre hag
  refine ⟨fun c => (Cert.KernelIdeal.Gen.dats m 0 c).arrAt 8 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨g0, g1, g2, g3, g4, g5, g6, g7, g8⟩ := hag c
  rw [Cert.ReferenceIdeal.Read.val_main_v66_eq, g0, g1, g2, g3, g4, g5, g6, g7, g8]
  obtain ⟨r0, r1, r2, r3, r5, r6, r7, r8⟩ := Cert.Pre_finite.Attn.reals _ _ _ _ _ _ _ _ _ (hpre c)
  refine attn_ext fun b q k e => ?_
  refine (Cert.ReferenceIdeal.Attn.result_apply _ _ _ _ _ _ _ _ _ b q k e).trans ?_
  refine Eq.trans ?_ (Cert.KernelIdeal.Attn.result_apply m c b q k e).symm
  exact (AttnSpec.entry_eq _ _ _ _ _ _ _ _ _ r0 r1 r2 r3 r5 r6 r7 r8 b q k e).symm

end Cert.Proof

end
-- ==== Proof.InSpec.lean ====
/- The input projection's arithmetic: one entry of its result in terms of its arguments. -/
module

public import Idealize.ShloMosaic.PureOps.Ideal
public import Idealize.ShloMosaic.Lib.Pointwise

@[expose] public section

noncomputable section

namespace Cert.InSpec

open Idealize.ShloMosaic

/-- The row of the modulation that token `r` takes: row 0 in the prompt, row `1 + b` in sample `b`. -/
def cond (r : Fin 16384) : Fin 8 := ⟨if r.val < 8192 then 0 else 1 + (r.val - 8192) / 4096, by split <;> omega⟩

/-- The column of the weight that column `j` of the result takes: the last 6144 columns come first. -/
def col (j : Fin 17664) : Fin 17664 := ⟨if j.val < 6144 then 11520 + j.val else j.val - 6144, by split <;> omega⟩

/-- One entry of a token's modulated norm: the row over its root mean square, times the weight, scaled and shifted. -/
def hid (row w sc sh : Fin 2048 → EReal) (d : Fin 2048) : EReal :=
  row d * Ideal.rsqrt (Ideal.div (∑ x, row x * row x) (Ideal.ofBits .f32 0x45000000#32) + Ideal.ofBits .f32 0x358637BD#32) * w d
    * (Ideal.ofBits .f32 0x3F800000#32 + sc d) + sh d

/-- Token `r`'s modulated norm. -/
def hidAt (x : (⟨2, ![16384, 2048]⟩ : Shape).Idx → EReal) (mod : (⟨3, ![8, 3, 2048]⟩ : Shape).Idx → EReal)
    (w : (⟨1, ![2048]⟩ : Shape).Idx → EReal) (r : Fin 16384) (d : Fin 2048) : EReal :=
  hid (fun d => x (ix2 r d)) (fun d => w (ix1 d)) (fun d => mod (ix3 (cond r) 1 d)) (fun d => mod (ix3 (cond r) 0 d)) d

/-- Entry `(r, j)` of the result. -/
def entry (x : (⟨2, ![16384, 2048]⟩ : Shape).Idx → EReal) (mod : (⟨3, ![8, 3, 2048]⟩ : Shape).Idx → EReal)
    (w : (⟨1, ![2048]⟩ : Shape).Idx → EReal) (win : (⟨2, ![2048, 17664]⟩ : Shape).Idx → EReal) (r : Fin 16384) (j : Fin 17664) : EReal :=
  ∑ k, hidAt x mod w r k * win (ix2 k (col j))

end Cert.InSpec

end
-- ==== Proof.InBlock.lean ====
/- One grid point of the input projection: the norm of 1024 tokens, kept for the 23 column blocks, and one block's product. -/
module

public import proofs.«01_k».proof.Proof.Gen.Kernel2Ideal.Value
public import proofs.«01_k».proof.Proof.InSpec

@[expose] public section

set_option maxRecDepth 65536

noncomputable section

namespace Cert.Kernel2Ideal.In

open Cert.Kernel2Ideal Cert.Kernel2Ideal.Gen Idealize.ShloMosaic Idealize.ShloMosaic.TcCoe Idealize.SL.Sem

/-- The modulated norm of a block of tokens, entry by entry. -/
theorem pay1_apply (v9 : Vec Ideal S1024x2048 .f32) (v20 : Vec Ideal S1x2048 .f32) (v24 v30 : Vec Ideal S1x1x2048 .f32) (r : Fin 1024) (d : Fin 2048) :
    k0_pay1 (F := Ideal) v9 v20 v24 v30 (ix2 r d)
      = InSpec.hid (fun d => v9 (ix2 r d)) (fun d => v20 (ix2 0 d)) (fun d => v24 (ix3 0 0 d)) (fun d => v30 (ix3 0 0 d)) d := by
  unfold InSpec.hid
  pointwise [k0_pay1]

/-- One block of the product, entry by entry. -/
theorem pay2_apply (v3 : Vec Ideal S1024x2048 .bf16) (v4 : Vec Ideal S2048x768 .bf16) (r : Fin 1024) (e : Fin 768) :
    k0_pay2 (F := Ideal) v3 v4 (ix2 r e) = ∑ k : Fin 2048, v3 (ix2 r k) * v4 (ix2 k e) := by
  pointwise [k0_pay2]

section
variable {F : FTy → Type} [FloatOps F]
variable (c : Dev nD) (i : grid0.Coords) (arg2 : Memref sig .tc .vmem S1024x2048 .f32) (harg2 : arg2.IsWhole) (arg3 : Memref sig .tc .vmem S1x3x2048 .f32)
  (harg3 : arg3.IsWhole) (arg4 : Memref sig .tc .vmem S1x2048 .f32) (harg4 : arg4.IsWhole) (arg5 : Memref sig .tc .vmem S2048x768 .bf16) (harg5 : arg5.IsWhole)
  (arg6 : Memref sig .tc .vmem S1024x768 .bf16) (harg6 : arg6.IsWhole) (arg7 : Memref sig .tc .vmem S1024x2048 .bf16) (harg7 : arg7.IsWhole)
  (x0 : Vec F S1024x2048 .f32) (x1 : Vec F S1x3x2048 .f32) (x2 : Vec F S1x2048 .f32) (x3 : Vec F S2048x768 .bf16)

theorem hz2 : (![0, 0] : Fin 2 → ℕ) = 0 := by decide

/-- The norm of the block `x0` with the modulation `x1` and the weight `x2`. -/
abbrev normOf (x0 : Vec F S1024x2048 .f32) (x1 : Vec F S1x3x2048 .f32) (x2 : Vec F S1x2048 .f32) : FVec F S1024x2048 .bf16 :=
  k0_pay1 x0 x2
    (View.ld x1 (Rect.unit (s := S1x3x2048) ![0, 1, 0] S1x1x2048.size inb_S1x3x2048_S1x1x2048_0_1_0))
    (View.ld x1 (Rect.unit (s := S1x3x2048) ![0, 0, 0] S1x1x2048.size inb_S1x3x2048_S1x1x2048_0_0_0))

/-- The first point of a row of blocks leaves the norm in the scratch. -/
theorem sout_A (hc : cond0_0 i) : sout0_A_0 c i arg2 harg2 arg3 harg3 arg4 harg4 arg5 harg5 arg6 harg6 arg7 harg7 hc x0 x1 x2 x3
    = normOf x0 x1 x2 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero (S := S1024x2048) hz2]
  simp only [View.readAt_eq_ld, harg2.read_unread, harg3.read_unread, harg4.read_unread, View.ld_unit_zero (S := S1024x2048) hz2, View.ld_unit_zero (S := S1x2048) hz2]

/-- … and writes the product of that norm. -/
theorem out_A (hc : cond0_0 i) : out0_A_4 c i arg2 harg2 arg3 harg3 arg4 harg4 arg5 harg5 arg6 harg6 arg7 harg7 hc x0 x1 x2 x3
    = k0_pay2 (normOf x0 x1 x2) x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_unit_zero (S := S1024x768) hz2, View.readCov_unit_zero (S := S1024x2048) _ hz2]
  simp only [View.readAt_eq_ld, harg2.read_unread, harg3.read_unread, harg4.read_unread, harg5.read_unread, View.ld_unit_zero (S := S1024x2048) hz2, View.ld_unit_zero (S := S1x2048) hz2,
    View.ld_unit_zero (S := S2048x768) hz2]

/-- Any other point writes the product of what the scratch holds. -/
theorem out_B (hc : ¬cond0_0 i) (xs0 : Vec F S1024x2048 .bf16) :
    out0_B_4 c i arg2 harg2 arg3 harg3 arg4 harg4 arg5 harg5 arg6 harg6 arg7 harg7 hc x0 x1 x2 x3 xs0 = k0_pay2 xs0 x3 := by
  unfold out0_B_4
  rw [View.read_writes_eq_canon _ _ _ (cover0_B_4 c i arg2 harg2 arg3 harg3 arg4 harg4 arg5 harg5 arg6 harg6 arg7 harg7 hc x0 x1 x2 x3 xs0)]
  unfold kernelRun0_B
  dsimp only
  sl_unfold_words
  rw [View.canon_unit_zero (S := S1024x768) hz2]
  simp only [View.readAt_eq_ld, harg5.read_unread, harg7.read_unread, View.ld_unit_zero (S := S1024x2048) hz2,
    View.ld_unit_zero (S := S2048x768) hz2]
end

end Cert.Kernel2Ideal.In

end
-- ==== Proof.InArray.lean ====
/- The input projection's result array, entry by entry, in terms of its arguments. -/
module

public import proofs.«01_k».proof.Proof.InBlock

@[expose] public section

set_option maxRecDepth 65536

noncomputable section

namespace Cert.Kernel2Ideal.In

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The token rows. -/
abbrev argX : FVec Ideal S16384x2048 .f32 := m ((c : Thread nD τ).loc main_arg0)
/-- The modulation. -/
abbrev argMod : FVec Ideal S8x3x2048 .f32 := m ((c : Thread nD τ).loc main_arg1)
/-- The norm's weight. -/
abbrev argW : FVec Ideal S2048 .f32 := m ((c : Thread nD τ).loc main_arg2)
/-- The projection's weight. -/
abbrev argWin : FVec Ideal S2048x17664 .f32 := m ((c : Thread nD τ).loc main_arg3)

/-- The weight with its last 6144 columns moved to the front. -/
theorem V_main_v3 : @Eq (FVec Ideal S2048x17664 .bf16) (V m c main_v3) (truncf .bf16
    (concatenate S2048x17664 1
      [⟨S2048x6144, extractStridedSlice S2048x6144 ![0, 11520] (argWin m c) slices_S2048x17664_S2048x6144_0_11520⟩,
       ⟨S2048x11520, extractStridedSlice S2048x11520 ![0, 0] (argWin m c) slices_S2048x17664_S2048x11520_0_0⟩]
      concatenates_S2048x6144_S2048x11520_S2048x17664_d1 : FVec Ideal S2048x17664 .f32) bitsLt_bf16_f32) := by
  show StableHlo.after hostOps0 _ (Proc.devRef .tc main_v3) = _
  after_results

/-- The norm's weight as a row. -/
theorem V_main_v4 : V m c main_v4 = broadcastInDim S1x2048 ![1] bcast_S2048_S1x2048_1 (argW m c) := by
  show StableHlo.after hostOps0 _ (Proc.devRef .tc main_v4) = _
  after_results

theorem v3_apply (k : Fin 2048) (j : Fin 17664) : (V m c main_v3 : FVec Ideal S2048x17664 .bf16) (ix2 k j) = argWin m c (ix2 k (InSpec.col j)) := by
  rw [V_main_v3]
  generalize argWin m c = a
  by_cases h : j.val < 6144
  · have e : InSpec.col j = ⟨11520 + j.val, by omega⟩ := Fin.ext (if_pos h)
    rw [e]
    pointwise
    simp only [h]
    rfl
  · have e : InSpec.col j = ⟨j.val - 6144, by omega⟩ := Fin.ext (if_neg h)
    rw [e]
    pointwise
    simp only [h]
    rfl

theorem v4_apply (d : Fin 2048) : (V m c main_v4 : FVec Ideal S1x2048 .f32) (ix2 0 d) = argW m c (ix1 d) := by
  rw [V_main_v4]
  generalize argW m c = a
  pointwise

/-- The block index of each input window at a point. -/
theorem idx_facts : ∀ t : Fin grid0.N,
    (win0_0.index t = ![t.val / 23, 0]) ∧ (win0_1.index t = ![if t.val / 23 < 8 then 0 else 1 + (t.val / 23 - 8) / 4, 0, 0])
    ∧ (win0_2.index t = ![0, 0]) ∧ (win0_3.index t = ![0, t.val % 23]) := by
  decide +kernel

/-! Each window's block at a point, entry by entry. -/
section
variable (t : Fin cfg0.N)

theorem blk0 (r : Fin 1024) (d : Fin 2048) (R : Fin 16384) (hR : R.val = t.val / 23 * 1024 + r.val) :
    (iblk m c 0 t : FVec Ideal S1024x2048 .f32) (ix2 r d) = argX m c (ix2 R d) := by
  have hi := (idx_facts t).1
  rw [show argX m c = V m c main_arg0 from (V_main_arg0 m c).symm]
  unfold iblk
  rw [View.read_apply]
  show V m c main_arg0 _ = V m c main_arg0 _
  congr 1
  funext a
  refine Fin.ext ?_
  match a with
  | ⟨0, _⟩ => show win0_0.index t 0 * 1024 + 1 * r.val = R.val; rw [hi]; show t.val / 23 * 1024 + 1 * r.val = _; omega
  | ⟨1, _⟩ => show win0_0.index t 1 * 2048 + 1 * d.val = d.val; rw [hi]; show 0 * 2048 + 1 * d.val = _; omega

theorem blk1 (r : Fin 1024) (i : Fin 3) (d : Fin 2048) (R : Fin 16384) (hR : R.val = t.val / 23 * 1024 + r.val) :
    (iblk m c 1 t : FVec Ideal S1x3x2048 .f32) (ix3 0 i d) = argMod m c (ix3 (InSpec.cond R) i d) := by
  have hi := (idx_facts t).2.1
  rw [show argMod m c = V m c main_arg1 from (V_main_arg1 m c).symm]
  unfold iblk
  rw [View.read_apply]
  show V m c main_arg1 _ = V m c main_arg1 _
  congr 1
  funext a
  refine Fin.ext ?_
  match a with
  | ⟨0, _⟩ =>
    show win0_1.index t 0 * 1 + 1 * 0 = (if R.val < 8192 then 0 else 1 + (R.val - 8192) / 4096)
    rw [hi]
    show (if t.val / 23 < 8 then 0 else 1 + (t.val / 23 - 8) / 4) * 1 + 1 * 0 = _
    have := r.isLt
    split <;> split <;> omega
  | ⟨1, _⟩ => show win0_1.index t 1 * 3 + 1 * i.val = i.val; rw [hi]; show 0 * 3 + 1 * i.val = _; omega
  | ⟨2, _⟩ => show win0_1.index t 2 * 2048 + 1 * d.val = d.val; rw [hi]; show 0 * 2048 + 1 * d.val = _; omega

theorem blk2 (d : Fin 2048) : (iblk m c 2 t : FVec Ideal S1x2048 .f32) (ix2 0 d) = argW m c (ix1 d) := by
  have hi := (idx_facts t).2.2.1
  rw [← v4_apply]
  unfold iblk
  rw [View.read_apply]
  show V m c main_v4 _ = V m c main_v4 _
  congr 1
  funext a
  refine Fin.ext ?_
  match a with
  | ⟨0, _⟩ => show win0_2.index t 0 * 1 + 1 * 0 = 0; rw [hi]; rfl
  | ⟨1, _⟩ => show win0_2.index t 1 * 2048 + 1 * d.val = d.val; rw [hi]; show 0 * 2048 + 1 * d.val = _; omega

theorem blk3 (k : Fin 2048) (e : Fin 768) (J : Fin 17664) (hJ : J.val = t.val % 23 * 768 + e.val) :
    (iblk m c 3 t : FVec Ideal S2048x768 .bf16) (ix2 k e) = argWin m c (ix2 k (InSpec.col J)) := by
  have hi := (idx_facts t).2.2.2
  rw [← v3_apply]
  unfold iblk
  rw [View.read_apply]
  show V m c main_v3 _ = V m c main_v3 _
  congr 1
  funext a
  refine Fin.ext ?_
  match a with
  | ⟨0, _⟩ => show win0_3.index t 0 * 2048 + 1 * k.val = k.val; rw [hi]; show 0 * 2048 + 1 * k.val = _; omega
  | ⟨1, _⟩ => show win0_3.index t 1 * 768 + 1 * e.val = J.val; rw [hi]; show t.val % 23 * 768 + 1 * e.val = _; omega
end

/-- Row `i` of a three-row block, read at the row's own offset. -/
theorem ld_row (x1 : Vec Ideal S1x3x2048 .f32) (i : ℕ) (hi : i < 3) (h) (d : Fin 2048) :
    View.ld x1 (Rect.unit (s := S1x3x2048) ![0, i, 0] S1x1x2048.size h) (ix3 0 0 d) = x1 (ix3 0 ⟨i, hi⟩ d) := by
  refine congrArg x1 ?_
  funext a
  refine Fin.ext ?_
  match a with
  | ⟨0, _⟩ => rfl
  | ⟨1, _⟩ => show i + 1 * 0 = i; omega
  | ⟨2, _⟩ => show 0 + 1 * d.val = d.val; omega

theorem hid_congr {x x' w w' a a' b b' : Fin 2048 → EReal} {d : Fin 2048} (hx : x = x') (hw : w = w') (ha : a = a') (hb : b = b') :
    InSpec.hid x w a b d = InSpec.hid x' w' a' b' d := by
  rw [hx, hw, ha, hb]

/-- The norm of the point's block of tokens. -/
theorem norm_apply (t : Fin cfg0.N) (r : Fin 1024) (d : Fin 2048) (R : Fin 16384) (hR : R.val = t.val / 23 * 1024 + r.val) :
    normOf (iblk m c 0 t : FVec Ideal S1024x2048 .f32) (iblk m c 1 t : FVec Ideal S1x3x2048 .f32) (iblk m c 2 t : FVec Ideal S1x2048 .f32) (ix2 r d)
      = InSpec.hidAt (argX m c) (argMod m c) (argW m c) R d := by
  unfold normOf InSpec.hidAt
  rw [pay1_apply]
  exact hid_congr (funext fun d => blk0 m c t r d R hR) (funext fun d => blk2 m c t d)
    (funext fun d => (ld_row _ 1 (by omega) _ d).trans (blk1 m c t r 1 d R hR)) (funext fun d => (ld_row _ 0 (by omega) _ d).trans (blk1 m c t r 0 d R hR))

/-- What the scratch holds after every point: the norm of the point's block of tokens. -/
theorem scratch (n : ℕ) (hn : n < cfg0.N) (r : Fin 1024) (d : Fin 2048) (R : Fin 16384) (hR : R.val = n / 23 * 1024 + r.val) :
    ((outsAt0 m c n hn).2 : FVec Ideal S1024x2048 .bf16) (ix2 r d) = InSpec.hidAt (argX m c) (argMod m c) (argW m c) R d := by
  induction n with
  | zero =>
    rw [outsAt0_A m c ⟨0, hn⟩ (Nat.zero_mod _)]
    dsimp only
    rw [sout_A]
    exact norm_apply m c ⟨0, hn⟩ r d R hR
  | succ n ih =>
    by_cases h0 : (n + 1) % 23 = 0
    · rw [outsAt0_A m c ⟨n + 1, hn⟩ h0]
      dsimp only
      rw [sout_A]
      exact norm_apply m c ⟨n + 1, hn⟩ r d R hR
    · rw [outsAt0_B m c ⟨n + 1, hn⟩ h0]
      have h1 : n < cfg0.N := Nat.lt_of_succ_lt hn
      have h2 : R.val = n / 23 * 1024 + r.val := by omega
      exact ih h1 h2

/-- What a point writes: its block of the product. -/
theorem written (n : ℕ) (hn : n < cfg0.N) (r : Fin 1024) (e : Fin 768) (R : Fin 16384) (J : Fin 17664) (hR : R.val = n / 23 * 1024 + r.val)
    (hJ : J.val = n % 23 * 768 + e.val) :
    ((outsAt0 m c n hn).1 : FVec Ideal S1024x768 .bf16) (ix2 r e) = InSpec.entry (argX m c) (argMod m c) (argW m c) (argWin m c) R J := by
  unfold InSpec.entry
  by_cases h0 : n % 23 = 0
  · rw [outsAt0_A m c ⟨n, hn⟩ h0]
    dsimp only
    rw [out_A, pay2_apply]
    refine Finset.sum_congr rfl fun k _ => ?_
    rw [norm_apply m c ⟨n, hn⟩ r k R hR, blk3 m c ⟨n, hn⟩ k e J hJ]
  · rw [outsAt0_B m c ⟨n, hn⟩ h0]
    dsimp only
    rw [out_B, pay2_apply]
    refine Finset.sum_congr rfl fun k _ => ?_
    rw [scratch m c (n - 1) _ r k R (by omega), blk3 m c ⟨n, hn⟩ k e J hJ]

/-- The result array, entry by entry. -/
theorem array_apply (R : Fin 16384) (J : Fin 17664) :
    (Value.G4 m c : FVec Ideal S16384x17664 .bf16) (ix2 R J) = InSpec.entry (argX m c) (argMod m c) (argW m c) (argWin m c) R J := by
  have hN : cfg0.N = 368 := N_0
  have hp : Value.pt4Of (ix2 R J) = 23 * (R.val / 1024) + J.val / 768 := by
    show 23 * (R.val / 1024 - 0) + 1 * (J.val / 768 - 0) = _
    omega
  have hlt : Value.pt4Of (ix2 R J) < cfg0.N := by rw [hp, hN]; omega
  unfold Value.G4
  rw [dif_pos hlt, ← Value.outsAt0_sweep m c _ hlt]
  have hl : Value.loc4Of (ix2 R J) = ix2 (⟨R.val % 1024, by omega⟩ : Fin 1024) (⟨J.val % 768, by omega⟩ : Fin 768) := by
    funext a
    refine Fin.ext ?_
    match a with
    | ⟨0, _⟩ => rfl
    | ⟨1, _⟩ => rfl
  rw [hl]
  refine written m c _ hlt _ _ R J ?_ ?_
  · rw [hp]; show R.val = _ * 1024 + R.val % 1024; omega
  · rw [hp]; show J.val = _ * 768 + J.val % 768; omega

end Cert.Kernel2Ideal.In

end
-- ==== Proof.InRef.lean ====
/- The reference's input projection, entry by entry, in terms of its arguments. -/
module

public import proofs.«01_k».proof.Proof.Gen.Reference2Ideal.Read
public import proofs.«01_k».proof.Proof.InSpec
public import Idealize.ShloMosaic.Lib.Pointwise

@[expose] public section

set_option maxRecDepth 65536

noncomputable section

namespace Cert.Reference2Ideal.In

open Cert.Reference2Ideal Cert.Reference2Ideal.Read Idealize.ShloMosaic Idealize.ShloMosaic.TcCoe Idealize.SL.Sem

variable (x : FVec Ideal S16384x2048 .f32) (mod : FVec Ideal S8x3x2048 .f32) (w : FVec Ideal S2048 .f32) (win : FVec Ideal S2048x17664 .f32)

/-- The root mean square norm with its weight. -/
theorem v12_apply (r : Fin 16384) (d : Fin 2048) : (val_main_v12 (F := Ideal) x w : FVec Ideal S16384x2048 .f32) (ix2 r d)
    = x (ix2 r d) * Ideal.rsqrt (Ideal.div (∑ k : Fin 2048, x (ix2 r k) * x (ix2 r k)) (Ideal.ofBits .f32 0x45000000#32) + Ideal.ofBits .f32 0x358637BD#32) * w (ix1 d) := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  show x (ix2 r d) * Ideal.rsqrt (Ideal.div (Ideal.ofBits .f32 0x00000000#32 + ∑ k : Fin 2048, x _ * x _) _ + _) * w _ = _
  rw [Ideal.ofBits_zero_f32, zero_add]
  have e1 : ∀ k : Fin 2048, (idx_main_v1 (idx_main_v2 (idx_main_v8 (ix2 r d))) k : S16384x2048.Idx) = ix2 r k := fun k => funext fun a => Fin.ext (by
    match a with
    | ⟨0, _⟩ => rfl
    | ⟨1, _⟩ => rfl)
  have e2 : (idx_main_v10 (idx_main_v11 (ix2 r d)) : S2048.Idx) = ix1 d := funext fun a => Fin.ext (by
    match a with
    | ⟨0, _⟩ => rfl)
  simp only [e1, e2]
  rfl

/-- The scale of token `r`: its modulation row. -/
theorem v21_apply (r : Fin 16384) (d : Fin 2048) : (val_main_v21 (F := Ideal) mod : FVec Ideal S16384x2048 .f32) (ix2 r d) = mod (ix3 (InSpec.cond r) 1 d) := by
  have hr := r.isLt
  have hd := d.isLt
  by_cases h : r.val < 8192
  · have e : (val_main_v16 (F := Ideal) mod : FVec Ideal S8192x2048 .f32) (ix2 (⟨r.val, h⟩ : Fin 8192) d) = mod (ix3 (InSpec.cond r) 1 d) := by
      rw [val_main_v16_apply, val_main_v15_apply, val_main_v14_apply, val_main_v13_apply]
      refine congrArg mod ?_
      funext a
      refine Fin.ext ?_
      match a with
      | ⟨0, _⟩ => show (0 * 2048 + d.val) / 2048 = if r.val < 8192 then 0 else 1 + (r.val - 8192) / 4096; rw [if_pos h]; omega
      | ⟨1, _⟩ => rfl
      | ⟨2, _⟩ => show (0 * 2048 + d.val) % 2048 = d.val; omega
    unfold val_main_v21
    generalize val_main_v16 (F := Ideal) mod = y at e ⊢
    generalize val_main_v20 (F := Ideal) mod = z
    pointwise
    simp only [h]
    exact e
  · have e : (val_main_v20 (F := Ideal) mod : FVec Ideal S8192x2048 .f32) (ix2 (⟨r.val - 8192, by omega⟩ : Fin 8192) d) = mod (ix3 (InSpec.cond r) 1 d) := by
      rw [val_main_v20_apply, val_main_v19_apply, val_main_v18_apply, val_main_v17_apply, val_main_v14_apply, val_main_v13_apply]
      refine congrArg mod ?_
      funext a
      refine Fin.ext ?_
      match a with
      | ⟨0, _⟩ =>
        show ((1 + ((r.val - 8192) * 2048 + d.val) / 8388608) * 2048 + ((r.val - 8192) * 2048 + d.val) % 2048) / 2048
          = if r.val < 8192 then 0 else 1 + (r.val - 8192) / 4096
        rw [if_neg h]
        omega
      | ⟨1, _⟩ => rfl
      | ⟨2, _⟩ =>
        show ((1 + ((r.val - 8192) * 2048 + d.val) / 8388608) * 2048 + ((r.val - 8192) * 2048 + d.val) % 2048) % 2048 = d.val
        omega
    unfold val_main_v21
    generalize val_main_v16 (F := Ideal) mod = y
    generalize val_main_v20 (F := Ideal) mod = z at e ⊢
    pointwise
    simp only [h]
    exact e

/-- The shift of token `r`: its modulation row. -/
theorem v33_apply (r : Fin 16384) (d : Fin 2048) : (val_main_v33 (F := Ideal) mod : FVec Ideal S16384x2048 .f32) (ix2 r d) = mod (ix3 (InSpec.cond r) 0 d) := by
  have hr := r.isLt
  have hd := d.isLt
  by_cases h : r.val < 8192
  · have e : (val_main_v28 (F := Ideal) mod : FVec Ideal S8192x2048 .f32) (ix2 (⟨r.val, h⟩ : Fin 8192) d) = mod (ix3 (InSpec.cond r) 0 d) := by
      rw [val_main_v28_apply, val_main_v27_apply, val_main_v26_apply, val_main_v25_apply]
      refine congrArg mod ?_
      funext a
      refine Fin.ext ?_
      match a with
      | ⟨0, _⟩ => show (0 * 2048 + d.val) / 2048 = if r.val < 8192 then 0 else 1 + (r.val - 8192) / 4096; rw [if_pos h]; omega
      | ⟨1, _⟩ => rfl
      | ⟨2, _⟩ => show (0 * 2048 + d.val) % 2048 = d.val; omega
    unfold val_main_v33
    generalize val_main_v28 (F := Ideal) mod = y at e ⊢
    generalize val_main_v32 (F := Ideal) mod = z
    pointwise
    simp only [h]
    exact e
  · have e : (val_main_v32 (F := Ideal) mod : FVec Ideal S8192x2048 .f32) (ix2 (⟨r.val - 8192, by omega⟩ : Fin 8192) d) = mod (ix3 (InSpec.cond r) 0 d) := by
      rw [val_main_v32_apply, val_main_v31_apply, val_main_v30_apply, val_main_v29_apply, val_main_v26_apply, val_main_v25_apply]
      refine congrArg mod ?_
      funext a
      refine Fin.ext ?_
      match a with
      | ⟨0, _⟩ =>
        show ((1 + ((r.val - 8192) * 2048 + d.val) / 8388608) * 2048 + ((r.val - 8192) * 2048 + d.val) % 2048) / 2048
          = if r.val < 8192 then 0 else 1 + (r.val - 8192) / 4096
        rw [if_neg h]
        omega
      | ⟨1, _⟩ => rfl
      | ⟨2, _⟩ =>
        show ((1 + ((r.val - 8192) * 2048 + d.val) / 8388608) * 2048 + ((r.val - 8192) * 2048 + d.val) % 2048) % 2048 = d.val
        omega
    unfold val_main_v33
    generalize val_main_v28 (F := Ideal) mod = y
    generalize val_main_v32 (F := Ideal) mod = z at e ⊢
    pointwise
    simp only [h]
    exact e

/-- Token `r`'s modulated norm. -/
theorem v34_apply (r : Fin 16384) (d : Fin 2048) : (val_main_v34 (F := Ideal) x mod w : FVec Ideal S16384x2048 .f32) (ix2 r d) = InSpec.hidAt x mod w r d := by
  rw [val_main_v34_apply, val_main_v24_apply, val_main_v23_apply, v12_apply, v21_apply, v33_apply, val_main_v22_apply]
  rfl

/-- The product, before its columns are moved. -/
theorem v35_apply (r : Fin 16384) (j : Fin 17664) : (val_main_v35 (F := Ideal) x mod w win : FVec Ideal S16384x17664 .f32) (ix2 r j)
    = ∑ k, InSpec.hidAt x mod w r k * win (ix2 k j) := by
  rw [val_main_v35_apply]
  refine Finset.sum_congr rfl fun k _ => ?_
  have e1 : lidx_main_v35 (ix2 r j) k = ix2 r k := funext fun a => Fin.ext (by
    match a with
    | ⟨0, _⟩ => rfl
    | ⟨1, _⟩ => rfl)
  have e2 : ridx_main_v35 (ix2 r j) k = ix2 k j := funext fun a => Fin.ext (by
    match a with
    | ⟨0, _⟩ => rfl
    | ⟨1, _⟩ => rfl)
  rw [e1, e2, v34_apply]

/-- The result: the product with its last 6144 columns first. -/
theorem result_apply (r : Fin 16384) (j : Fin 17664) : (val_main_v39 (F := Ideal) x mod w win : FVec Ideal S16384x17664 .bf16) (ix2 r j)
    = InSpec.entry x mod w win r j := by
  rw [val_main_v39_apply]
  show (val_main_v38 (F := Ideal) x mod w win : FVec Ideal S16384x17664 .f32) (ix2 r j) = _
  unfold InSpec.entry
  rw [← v35_apply]
  by_cases h : j.val < 6144
  · have e : (val_main_v36 (F := Ideal) x mod w win : FVec Ideal S16384x6144 .f32) (ix2 r (⟨j.val, h⟩ : Fin 6144))
        = (val_main_v35 (F := Ideal) x mod w win : FVec Ideal S16384x17664 .f32) (ix2 r (InSpec.col j)) := by
      rw [val_main_v36_apply]
      refine congrArg _ ?_
      funext a
      refine Fin.ext ?_
      match a with
      | ⟨0, _⟩ => rfl
      | ⟨1, _⟩ => show 11520 + j.val = if j.val < 6144 then 11520 + j.val else j.val - 6144; rw [if_pos h]
    unfold val_main_v38
    rw [← e]
    generalize val_main_v36 (F := Ideal) x mod w win = y
    generalize val_main_v37 (F := Ideal) x mod w win = z
    pointwise
    simp only [h]
    rfl
  · have e : (val_main_v37 (F := Ideal) x mod w win : FVec Ideal S16384x11520 .f32) (ix2 r (⟨j.val - 6144, by omega⟩ : Fin 11520))
        = (val_main_v35 (F := Ideal) x mod w win : FVec Ideal S16384x17664 .f32) (ix2 r (InSpec.col j)) := by
      rw [val_main_v37_apply]
      refine congrArg _ ?_
      funext a
      refine Fin.ext ?_
      match a with
      | ⟨0, _⟩ => rfl
      | ⟨1, _⟩ => show j.val - 6144 = if j.val < 6144 then 11520 + j.val else j.val - 6144; rw [if_neg h]
    unfold val_main_v38
    rw [← e]
    generalize val_main_v36 (F := Ideal) x mod w win = y
    generalize val_main_v37 (F := Ideal) x mod w win = z
    pointwise
    simp only [h]
    rfl

end Cert.Reference2Ideal.In

end
-- ==== Proof.InClaim.lean ====
/- The claim that the input projection's call and the reference compute the same array. -/
module

public import proofs.«01_k».proof.Defs
public import proofs.«01_k».proof.Proof.InArray
public import proofs.«01_k».proof.Proof.InRef
public import proofs.«01_k».proof.Proof.Gen.Reference2Ideal.Run

@[expose] public section

set_option maxRecDepth 65536

noncomputable section

namespace Cert.Proof

open Idealize.ShloMosaic Idealize.SL.Sem

attribute [local instance] Cert.Kernel2Ideal.Gen.facts Cert.Reference2Ideal.Gen.facts

/-- The kernel's input projection and the reference's, from equal arguments, end with equal results. -/
theorem algebraic_in : Cert.algebraic_Kernel2Ideal_Reference2Ideal := by
  intro m g m' g' _ hag
  refine ⟨fun c => Cert.Kernel2Ideal.Value.G4 m c, Cert.Kernel2Ideal.Value.run m g, ?_⟩
  refine (θ_run _ _ _).mono (fun r h c => ⟨(h c).1.trans ?_, (h c).2⟩) (Cert.Reference2Ideal.Value.run m' g')
  obtain ⟨g0, g1, g2, g3⟩ := hag c
  rw [Cert.Reference2Ideal.Read.val_main_v39_eq, g0, g1, g2, g3]
  funext i
  have hi : i = ix2 (i 0) (i 1) := by
    funext a
    match a with
    | ⟨0, _⟩ => rfl
    | ⟨1, _⟩ => rfl
  rw [hi]
  refine (Cert.Reference2Ideal.In.result_apply _ _ _ _ (i 0) (i 1)).trans ?_
  exact (Cert.Kernel2Ideal.In.array_apply m c (i 0) (i 1)).symm

/-- The reference's input projection ends, with its arguments unchanged. -/
theorem frame_in_reference : Cert.quiescent_Reference2Ideal := fun m ρ _ =>
  (θ_run Cert.Reference2Ideal.defs _ _).mono (fun r h => And.intro (fun c => (h c).2) (sem_eq_zero_of_no_sems (by decide) r.2))
    (Cert.Reference2Ideal.Value.run (F := Ideal) m ρ)

end Cert.Proof

end
-- ==== Proof.MergeSpec.lean ====
/- The branch merge's arithmetic: one entry of its result in terms of its arguments. -/
module

public import Idealize.ShloMosaic.PureOps.Ideal
public import Idealize.ShloMosaic.Lib.Pointwise

@[expose] public section

noncomputable section

namespace Cert.MergeSpec

open Idealize.ShloMosaic

/-- Row `r` of the prompt's and the samples' rows, one after the other. -/
def pick (a s : (⟨2, ![8192, 1024]⟩ : Shape).Idx → EReal) (r : Fin 16384) (k : Fin 1024) : EReal :=
  if h : r.val < 8192 then a (ix2 (⟨r.val, h⟩ : Fin 8192) k) else s (ix2 (⟨r.val - 8192, by omega⟩ : Fin 8192) k)

/-- Gate `g` of token `r` at lane `j`. -/
def gate (p : (⟨2, ![16384, 17664]⟩ : Shape).Idx → EReal) (r : Fin 16384) (g : Fin 3) (j : Fin 2048) : EReal :=
  Ideal.logistic (p (ix2 r (⟨g.val * 2048 + j.val, by omega⟩ : Fin 17664)))

/-- One branch: a row times a column. -/
def branch (b : Fin 1024 → EReal) (w : Fin 1024 → EReal) : EReal := ∑ k, b k * w k

/-- Entry `(r, j)` of the result: the three gated branches, added. -/
def entry (ap az : (⟨2, ![8192, 1024]⟩ : Shape).Idx → EReal) (b : (⟨2, ![16384, 1024]⟩ : Shape).Idx → EReal)
    (cp cs : (⟨2, ![8192, 1024]⟩ : Shape).Idx → EReal) (p : (⟨2, ![16384, 17664]⟩ : Shape).Idx → EReal)
    (wa wb wc : (⟨2, ![1024, 2048]⟩ : Shape).Idx → EReal) (r : Fin 16384) (j : Fin 2048) : EReal :=
  gate p r 0 j * branch (pick ap az r) (fun k => wa (ix2 k j)) + gate p r 1 j * branch (fun k => b (ix2 r k)) (fun k => wb (ix2 k j))
    + gate p r 2 j * branch (pick cp cs r) (fun k => wc (ix2 k j))

end Cert.MergeSpec

end
-- ==== Proof.MergeBlock.lean ====
/- One grid point of the branch merge: a block of the result, from the blocks it loads. -/
module

public import proofs.«01_k».proof.Proof.Gen.Kernel3Ideal.Value
public import proofs.«01_k».proof.Proof.MergeSpec

@[expose] public section

set_option maxRecDepth 65536

noncomputable section

namespace Cert.Kernel3Ideal.Merge

open Cert.Kernel3Ideal Cert.Kernel3Ideal.Gen Idealize.ShloMosaic Idealize.ShloMosaic.TcCoe Idealize.SL.Sem

/-- The rows of the prompt are the first eight blocks. -/
theorem in_prompt : ∀ n : Fin 16, Scalar.cmpi .slt (BitVec.ofNat 32 n.val) 8#32 = if n.val < 8 then 1#1 else 0#1 := by decide

/-- A block of the merge, entry by entry. -/
theorem pay_apply (i : grid0.Coords) (v1 v2 v4 v5 : Vec Ideal S1024x1024 .bf16) (v7 v10 v14 : Vec Ideal S1024x512 .bf16) (v17 : Vec Ideal S1024x1024 .bf16)
    (v18 v23 v26 : Vec Ideal S1024x512 .bf16) (r : Fin 1024) (e : Fin 512) :
    k0_pay1 (F := Ideal) i v1 v2 v4 v5 v7 v10 v14 v17 v18 v23 v26 (ix2 r e)
      = Ideal.logistic (v7 (ix2 r e)) * MergeSpec.branch (fun k => if (i 0).val < 8 then v1 (ix2 r k) else v2 (ix2 r k)) (fun k => v10 (ix2 k e))
        + Ideal.logistic (v14 (ix2 r e)) * MergeSpec.branch (fun k => v17 (ix2 r k)) (fun k => v18 (ix2 k e))
        + Ideal.logistic (v23 (ix2 r e)) * MergeSpec.branch (fun k => if (i 0).val < 8 then v4 (ix2 r k) else v5 (ix2 r k)) (fun k => v26 (ix2 k e)) := by
  unfold MergeSpec.branch k0_pay1
  have hc := in_prompt (i 0)
  by_cases h : (i 0).val < 8
  · rw [if_pos h] at hc
    simp only [h, if_true, hc, Scalar.select]
    pointwise
    rfl
  · rw [if_neg h] at hc
    simp only [h, if_false, hc, Scalar.select]
    pointwise
    rfl

section
variable {F : FTy → Type} [FloatOps F]
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole)
  (x0 : Vec F S1024x1024 .bf16) (x1 : Vec F S1024x1024 .bf16) (x2 : Vec F S1024x1024 .bf16) (x3 : Vec F S1024x1024 .bf16) (x4 : Vec F S1024x1024 .bf16) (x5 : Vec F S1024x512 .bf16) (x6 : Vec F S1024x512 .bf16) (x7 : Vec F S1024x512 .bf16) (x8 : Vec F S1024x512 .bf16) (x9 : Vec F S1024x512 .bf16) (x10 : Vec F S1024x512 .bf16)

theorem hz2 : (![0, 0] : Fin 2 → ℕ) = 0 := by decide

/-- What a point writes. -/
theorem out_A : out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
    = k0_pay1 i x0 x1 x3 x4 x5 x8 x6 x2 x9 x7 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  rw [View.canon_unit_zero (S := S1024x512) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1024x512) hz2]
end

end Cert.Kernel3Ideal.Merge

end
-- ==== Proof.MergeItems.lean ====
/- What one grid point of the branch merge reads and writes, entry by entry, in terms of the arguments. -/
module

public import proofs.«01_k».proof.Proof.MergeBlock

@[expose] public section

set_option maxRecDepth 65536

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first branch's rows of the prompt. -/
abbrev argAp : FVec Ideal S8192x1024 .bf16 := m ((c : Thread nD τ).loc main_arg0)
/-- The first branch's rows of the samples. -/
abbrev argAs : FVec Ideal S8192x1024 .bf16 := m ((c : Thread nD τ).loc main_arg1)
/-- The second branch's rows. -/
abbrev argB : FVec Ideal S16384x1024 .bf16 := m ((c : Thread nD τ).loc main_arg2)
/-- The third branch's rows of the prompt. -/
abbrev argCp : FVec Ideal S8192x1024 .bf16 := m ((c : Thread nD τ).loc main_arg3)
/-- The third branch's rows of the samples. -/
abbrev argCs : FVec Ideal S8192x1024 .bf16 := m ((c : Thread nD τ).loc main_arg4)
/-- The input projection's result, of which the first 6144 columns are the gates. -/
abbrev argP : FVec Ideal S16384x17664 .bf16 := m ((c : Thread nD τ).loc main_arg5)
/-- The first branch's weight. -/
abbrev argWa : FVec Ideal S1024x2048 .f32 := m ((c : Thread nD τ).loc main_arg6)
/-- The second branch's weight. -/
abbrev argWb : FVec Ideal S1024x2048 .f32 := m ((c : Thread nD τ).loc main_arg7)
/-- The third branch's weight. -/
abbrev argWc : FVec Ideal S1024x2048 .f32 := m ((c : Thread nD τ).loc main_arg8)

/-! The weights, rounded. -/
theorem V_main_v0 : @Eq (FVec Ideal S1024x2048 .bf16) (V m c main_v0) (truncf .bf16 (argWa m c) bitsLt_bf16_f32) := by
  show StableHlo.after hostOps0 _ (Proc.devRef .tc main_v0) = _
  after_results

theorem V_main_v1 : @Eq (FVec Ideal S1024x2048 .bf16) (V m c main_v1) (truncf .bf16 (argWb m c) bitsLt_bf16_f32) := by
  show StableHlo.after hostOps0 _ (Proc.devRef .tc main_v1) = _
  after_results

theorem V_main_v2 : @Eq (FVec Ideal S1024x2048 .bf16) (V m c main_v2) (truncf .bf16 (argWc m c) bitsLt_bf16_f32) := by
  show StableHlo.after hostOps0 _ (Proc.devRef .tc main_v2) = _
  after_results

/-- The block index of each window at a point. -/
theorem idx_facts : ∀ t : Fin grid0.N,
    (win0_0.index t = ![if t.val / 4 < 8 then t.val / 4 else 7, 0]) ∧ (win0_1.index t = ![t.val / 4 - 8, 0])
    ∧ (win0_2.index t = ![t.val / 4, 0])
    ∧ (win0_3.index t = ![if t.val / 4 < 8 then t.val / 4 else 7, 0]) ∧ (win0_4.index t = ![t.val / 4 - 8, 0])
    ∧ (win0_5.index t = ![t.val / 4, t.val % 4]) ∧ (win0_6.index t = ![t.val / 4, 4 + t.val % 4]) ∧ (win0_7.index t = ![t.val / 4, 8 + t.val % 4])
    ∧ (win0_8.index t = ![0, t.val % 4]) ∧ (win0_9.index t = ![0, t.val % 4]) ∧ (win0_10.index t = ![0, t.val % 4])
    ∧ (win0_11.index t = ![t.val / 4, t.val % 4]) ∧ (grid0.coords t 0).val = t.val / 4 := by
  decide +kernel

/-! Each window's block at a point, entry by entry. -/
section
variable (t : Fin cfg0.N)

theorem blk0 (r : Fin 1024) (d : Fin 1024) (R : Fin 8192) (ht : t.val / 4 < 8) (hR : R.val = t.val / 4 * 1024 + r.val) :
    (iblk m c 0 t : FVec Ideal S1024x1024 .bf16) (ix2 r d) = argAp m c (ix2 R d) := by
  have hi := (idx_facts t).1
  rw [show argAp m c = V m c main_arg0 from (V_main_arg0 m c).symm]
  unfold iblk
  rw [View.read_apply]
  show V m c main_arg0 _ = V m c main_arg0 _
  congr 1
  funext a
  refine Fin.ext ?_
  match a with
  | ⟨0, _⟩ => show win0_0.index t 0 * 1024 + 1 * r.val = R.val; rw [hi]; show (if t.val / 4 < 8 then t.val / 4 else 7) * 1024 + 1 * r.val = _; rw [if_pos ht]; omega
  | ⟨1, _⟩ => show win0_0.index t 1 * 1024 + 1 * d.val = d.val; rw [hi]; show 0 * 1024 + 1 * d.val = _; omega

theorem blk3 (r : Fin 1024) (d : Fin 1024) (R : Fin 8192) (ht : t.val / 4 < 8) (hR : R.val = t.val / 4 * 1024 + r.val) :
    (iblk m c 3 t : FVec Ideal S1024x1024 .bf16) (ix2 r d) = argCp m c (ix2 R d) := by
  have hi := (idx_facts t).2.2.2.1
  rw [show argCp m c = V m c main_arg3 from (V_main_arg3 m c).symm]
  unfold iblk
  rw [View.read_apply]
  show V m c main_arg3 _ = V m c main_arg3 _
  congr 1
  funext a
  refine Fin.ext ?_
  match a with
  | ⟨0, _⟩ => show win0_3.index t 0 * 1024 + 1 * r.val = R.val; rw [hi]; show (if t.val / 4 < 8 then t.val / 4 else 7) * 1024 + 1 * r.val = _; rw [if_pos ht]; omega
  | ⟨1, _⟩ => show win0_3.index t 1 * 1024 + 1 * d.val = d.val; rw [hi]; show 0 * 1024 + 1 * d.val = _; omega

theorem blk1 (r : Fin 1024) (d : Fin 1024) (R : Fin 8192) (hR : R.val = (t.val / 4 - 8) * 1024 + r.val) :
    (iblk m c 1 t : FVec Ideal S1024x1024 .bf16) (ix2 r d) = argAs m c (ix2 R d) := by
  have hi := (idx_facts t).2.1
  rw [show argAs m c = V m c main_arg1 from (V_main_arg1 m c).symm]
  unfold iblk
  rw [View.read_apply]
  show V m c main_arg1 _ = V m c main_arg1 _
  congr 1
  funext a
  refine Fin.ext ?_
  match a with
  | ⟨0, _⟩ => show win0_1.index t 0 * 1024 + 1 * r.val = R.val; rw [hi]; show (t.val / 4 - 8) * 1024 + 1 * r.val = _; omega
  | ⟨1, _⟩ => show win0_1.index t 1 * 1024 + 1 * d.val = d.val; rw [hi]; show 0 * 1024 + 1 * d.val = _; omega

theorem blk4 (r : Fin 1024) (d : Fin 1024) (R : Fin 8192) (hR : R.val = (t.val / 4 - 8) * 1024 + r.val) :
    (iblk m c 4 t : FVec Ideal S1024x1024 .bf16) (ix2 r d) = argCs m c (ix2 R d) := by
  have hi := (idx_facts t).2.2.2.2.1
  rw [show argCs m c = V m c main_arg4 from (V_main_arg4 m c).symm]
  unfold iblk
  rw [View.read_apply]
  show V m c main_arg4 _ = V m c main_arg4 _
  congr 1
  funext a
  refine Fin.ext ?_
  match a with
  | ⟨0, _⟩ => show win0_4.index t 0 * 1024 + 1 * r.val = R.val; rw [hi]; show (t.val / 4 - 8) * 1024 + 1 * r.val = _; omega
  | ⟨1, _⟩ => show win0_4.index t 1 * 1024 + 1 * d.val = d.val; rw [hi]; show 0 * 1024 + 1 * d.val = _; omega

theorem blk2 (r : Fin 1024) (d : Fin 1024) (R : Fin 16384) (hR : R.val = t.val / 4 * 1024 + r.val) :
    (iblk m c 2 t : FVec Ideal S1024x1024 .bf16) (ix2 r d) = argB m c (ix2 R d) := by
  have hi := (idx_facts t).2.2.1
  rw [show argB m c = V m c main_arg2 from (V_main_arg2 m c).symm]
  unfold iblk
  rw [View.read_apply]
  show V m c main_arg2 _ = V m c main_arg2 _
  congr 1
  funext a
  refine Fin.ext ?_
  match a with
  | ⟨0, _⟩ => show win0_2.index t 0 * 1024 + 1 * r.val = R.val; rw [hi]; show t.val / 4 * 1024 + 1 * r.val = _; omega
  | ⟨1, _⟩ => show win0_2.index t 1 * 1024 + 1 * d.val = d.val; rw [hi]; show 0 * 1024 + 1 * d.val = _; omega

theorem blk5 (r : Fin 1024) (d : Fin 512) (R : Fin 16384) (C : Fin 17664) (hR : R.val = t.val / 4 * 1024 + r.val) (hC : C.val = t.val % 4 * 512 + d.val) :
    (X0_5 m c t : FVec Ideal S1024x512 .bf16) (ix2 r d) = argP m c (ix2 R C) := by
  have hi := (idx_facts t).2.2.2.2.2.1
  rw [show argP m c = V m c main_arg5 from (V_main_arg5 m c).symm]
  unfold X0_5
  unfold Pipeline.Window.fill
  rw [dif_pos (moved0_5 t _)]
  unfold iblk
  rw [View.read_apply]
  show V m c main_arg5 _ = V m c main_arg5 _
  congr 1
  funext a
  refine Fin.ext ?_
  match a with
  | ⟨0, _⟩ => show win0_5.index t 0 * 1024 + 1 * r.val = R.val; rw [hi]; show t.val / 4 * 1024 + 1 * r.val = _; omega
  | ⟨1, _⟩ => show win0_5.index t 1 * 512 + 1 * d.val = C.val; rw [hi]; show t.val % 4 * 512 + 1 * d.val = _; omega

theorem blk6 (r : Fin 1024) (d : Fin 512) (R : Fin 16384) (C : Fin 17664) (hR : R.val = t.val / 4 * 1024 + r.val) (hC : C.val = (4 + t.val % 4) * 512 + d.val) :
    (X0_6 m c t : FVec Ideal S1024x512 .bf16) (ix2 r d) = argP m c (ix2 R C) := by
  have hi := (idx_facts t).2.2.2.2.2.2.1
  rw [show argP m c = V m c main_arg5 from (V_main_arg5 m c).symm]
  unfold X0_6
  unfold Pipeline.Window.fill
  rw [dif_pos (moved0_6 t _)]
  unfold iblk
  rw [View.read_apply]
  show V m c main_arg5 _ = V m c main_arg5 _
  congr 1
  funext a
  refine Fin.ext ?_
  match a with
  | ⟨0, _⟩ => show win0_6.index t 0 * 1024 + 1 * r.val = R.val; rw [hi]; show t.val / 4 * 1024 + 1 * r.val = _; omega
  | ⟨1, _⟩ => show win0_6.index t 1 * 512 + 1 * d.val = C.val; rw [hi]; show (4 + t.val % 4) * 512 + 1 * d.val = _; omega

theorem blk7 (r : Fin 1024) (d : Fin 512) (R : Fin 16384) (C : Fin 17664) (hR : R.val = t.val / 4 * 1024 + r.val) (hC : C.val = (8 + t.val % 4) * 512 + d.val) :
    (X0_7 m c t : FVec Ideal S1024x512 .bf16) (ix2 r d) = argP m c (ix2 R C) := by
  have hi := (idx_facts t).2.2.2.2.2.2.2.1
  rw [show argP m c = V m c main_arg5 from (V_main_arg5 m c).symm]
  unfold X0_7
  unfold Pipeline.Window.fill
  rw [dif_pos (moved0_7 t _)]
  unfold iblk
  rw [View.read_apply]
  show V m c main_arg5 _ = V m c main_arg5 _
  congr 1
  funext a
  refine Fin.ext ?_
  match a with
  | ⟨0, _⟩ => show win0_7.index t 0 * 1024 + 1 * r.val = R.val; rw [hi]; show t.val / 4 * 1024 + 1 * r.val = _; omega
  | ⟨1, _⟩ => show win0_7.index t 1 * 512 + 1 * d.val = C.val; rw [hi]; show (8 + t.val % 4) * 512 + 1 * d.val = _; omega

theorem blk8 (r : Fin 1024) (d : Fin 512) (C : Fin 2048) (hC : C.val = t.val % 4 * 512 + d.val) :
    (iblk m c 8 t : FVec Ideal S1024x512 .bf16) (ix2 r d) = argWa m c (ix2 r C) := by
  have hi := (idx_facts t).2.2.2.2.2.2.2.2.1
  refine Eq.trans ?_ (congrFun (V_main_v0 m c) (ix2 r C))
  unfold iblk
  rw [View.read_apply]
  show V m c main_v0 _ = V m c main_v0 _
  congr 1
  funext a
  refine Fin.ext ?_
  match a with
  | ⟨0, _⟩ => show win0_8.index t 0 * 1024 + 1 * r.val = r.val; rw [hi]; show 0 * 1024 + 1 * r.val = _; omega
  | ⟨1, _⟩ => show win0_8.index t 1 * 512 + 1 * d.val = C.val; rw [hi]; show t.val % 4 * 512 + 1 * d.val = _; omega

theorem blk9 (r : Fin 1024) (d : Fin 512) (C : Fin 2048) (hC : C.val = t.val % 4 * 512 + d.val) :
    (iblk m c 9 t : FVec Ideal S1024x512 .bf16) (ix2 r d) = argWb m c (ix2 r C) := by
  have hi := (idx_facts t).2.2.2.2.2.2.2.2.2.1
  refine Eq.trans ?_ (congrFun (V_main_v1 m c) (ix2 r C))
  unfold iblk
  rw [View.read_apply]
  show V m c main_v1 _ = V m c main_v1 _
  congr 1
  funext a
  refine Fin.ext ?_
  match a with
  | ⟨0, _⟩ => show win0_9.index t 0 * 1024 + 1 * r.val = r.val; rw [hi]; show 0 * 1024 + 1 * r.val = _; omega
  | ⟨1, _⟩ => show win0_9.index t 1 * 512 + 1 * d.val = C.val; rw [hi]; show t.val % 4 * 512 + 1 * d.val = _; omega

theorem blk10 (r : Fin 1024) (d : Fin 512) (C : Fin 2048) (hC : C.val = t.val % 4 * 512 + d.val) :
    (iblk m c 10 t : FVec Ideal S1024x512 .bf16) (ix2 r d) = argWc m c (ix2 r C) := by
  have hi := (idx_facts t).2.2.2.2.2.2.2.2.2.2.1
  refine Eq.trans ?_ (congrFun (V_main_v2 m c) (ix2 r C))
  unfold iblk
  rw [View.read_apply]
  show V m c main_v2 _ = V m c main_v2 _
  congr 1
  funext a
  refine Fin.ext ?_
  match a with
  | ⟨0, _⟩ => show win0_10.index t 0 * 1024 + 1 * r.val = r.val; rw [hi]; show 0 * 1024 + 1 * r.val = _; omega
  | ⟨1, _⟩ => show win0_10.index t 1 * 512 + 1 * d.val = C.val; rw [hi]; show t.val % 4 * 512 + 1 * d.val = _; omega

end

/-- What a point writes, entry by entry. -/
theorem written (t : Fin cfg0.N) (r : Fin 1024) (e : Fin 512) (R : Fin 16384) (J : Fin 2048) (hR : R.val = t.val / 4 * 1024 + r.val)
    (hJ : J.val = t.val % 4 * 512 + e.val) :
    (outsAt0 m c t : FVec Ideal S1024x512 .bf16) (ix2 r e)
      = MergeSpec.entry (argAp m c) (argAs m c) (argB m c) (argCp m c) (argCs m c) (argP m c) (argWa m c) (argWb m c) (argWc m c) R J := by
  have hN : cfg0.N = 64 := N_0
  have ht := t.isLt
  have hr := r.isLt
  unfold outsAt0 MergeSpec.entry MergeSpec.gate
  rw [out_A, pay_apply, (idx_facts t).2.2.2.2.2.2.2.2.2.2.2.2]
  have g0 := blk5 m c t r e R ⟨(0 : Fin 3).val * 2048 + J.val, by show 0 * 2048 + J.val < 17664; omega⟩ hR (by show 0 * 2048 + J.val = _; omega)
  have g1 := blk6 m c t r e R ⟨(1 : Fin 3).val * 2048 + J.val, by show 1 * 2048 + J.val < 17664; omega⟩ hR (by show 1 * 2048 + J.val = _; omega)
  have g2 := blk7 m c t r e R ⟨(2 : Fin 3).val * 2048 + J.val, by show 2 * 2048 + J.val < 17664; omega⟩ hR (by show 2 * 2048 + J.val = _; omega)
  have ew0 : (fun k : Fin 1024 => (iblk m c 8 t : FVec Ideal S1024x512 .bf16) (ix2 k e)) = _ := funext fun k => blk8 m c t k e J hJ
  have ew1 : (fun k : Fin 1024 => (iblk m c 9 t : FVec Ideal S1024x512 .bf16) (ix2 k e)) = _ := funext fun k => blk9 m c t k e J hJ
  have ew2 : (fun k : Fin 1024 => (iblk m c 10 t : FVec Ideal S1024x512 .bf16) (ix2 k e)) = _ := funext fun k => blk10 m c t k e J hJ
  have eb : (fun k : Fin 1024 => (iblk m c 2 t : FVec Ideal S1024x1024 .bf16) (ix2 r k)) = _ := funext fun k => blk2 m c t r k R hR
  have ea : (fun k : Fin 1024 => if t.val / 4 < 8 then (iblk m c 0 t : FVec Ideal S1024x1024 .bf16) (ix2 r k) else (iblk m c 1 t : FVec Ideal S1024x1024 .bf16) (ix2 r k))
      = MergeSpec.pick (argAp m c) (argAs m c) R := funext fun k => by
    unfold MergeSpec.pick
    by_cases h : t.val / 4 < 8
    · rw [if_pos h, dif_pos (show R.val < 8192 by omega)]
      exact blk0 m c t r k _ h hR
    · rw [if_neg h, dif_neg (show ¬R.val < 8192 by omega)]
      exact blk1 m c t r k _ (by show R.val - 8192 = _; omega)
  have ec : (fun k : Fin 1024 => if t.val / 4 < 8 then (iblk m c 3 t : FVec Ideal S1024x1024 .bf16) (ix2 r k) else (iblk m c 4 t : FVec Ideal S1024x1024 .bf16) (ix2 r k))
      = MergeSpec.pick (argCp m c) (argCs m c) R := funext fun k => by
    unfold MergeSpec.pick
    by_cases h : t.val / 4 < 8
    · rw [if_pos h, dif_pos (show R.val < 8192 by omega)]
      exact blk3 m c t r k _ h hR
    · rw [if_neg h, dif_neg (show ¬R.val < 8192 by omega)]
      exact blk4 m c t r k _ (by show R.val - 8192 = _; omega)
  rw [ea, ec, eb, ew0, ew1, ew2, g0, g1, g2]

end Cert.Kernel3Ideal.Merge

end
-- ==== Proof.MergeArray.lean ====
/- The branch merge's result array, entry by entry, in terms of its arguments. -/
module

public import proofs.«01_k».proof.Proof.MergeItems

@[expose] public section

set_option maxRecDepth 65536

noncomputable section

namespace Cert.Kernel3Ideal.Merge

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- THE ARRAY: the kernel's result, entry by entry. -/
theorem array_apply (R : Fin 16384) (J : Fin 2048) :
    ((dats m 0 c).arrAt 11 cfg0.N : FVec Ideal S16384x2048 .bf16) (ix2 R J)
      = MergeSpec.entry (argAp m c) (argAs m c) (argB m c) (argCp m c) (argCs m c) (argP m c) (argWa m c) (argWb m c) (argWc m c) R J := by
  have hN : cfg0.N = 64 := N_0
  obtain ⟨t, htv⟩ : ∃ t : Fin cfg0.N, t.val = R.val / 1024 * 4 + J.val / 512 := ⟨⟨R.val / 1024 * 4 + J.val / 512, by rw [hN]; omega⟩, rfl⟩
  let y : S1024x512.Idx := ix2 (⟨R.val % 1024, by omega⟩ : Fin 1024) (⟨J.val % 512, by omega⟩ : Fin 512)
  have hi := (idx_facts t).2.2.2.2.2.2.2.2.2.2.2.1
  have hidx : ((cfg0.win 11).blk t).view.emb y = ix2 R J := by
    funext a
    refine Fin.ext ?_
    match a with
    | ⟨0, _⟩ => show win0_11.index t 0 * 1024 + 1 * (R.val % 1024) = R.val; rw [hi]; show t.val / 4 * 1024 + 1 * (R.val % 1024) = _; omega
    | ⟨1, _⟩ => show win0_11.index t 1 * 512 + 1 * (J.val % 512) = J.val; rw [hi]; show t.val % 4 * 512 + 1 * (J.val % 512) = _; omega
  have hel := (dats m 0 c).arrAt_emb_eq_flushed 11 Value.disjoint11 t (flush0_11 t) y
  rw [hidx] at hel
  refine hel.trans ?_
  have h0 : R.val = t.val / 4 * 1024 + R.val % 1024 := by omega
  have h1 : J.val = t.val % 4 * 512 + J.val % 512 := by omega
  have hw := written m c t (⟨R.val % 1024, by omega⟩ : Fin 1024) (⟨J.val % 512, by omega⟩ : Fin 512) R J h0 h1
  rw [Value.flushed11]
  generalize outsAt0 m c t = o at hw ⊢
  exact hw

end Cert.Kernel3Ideal.Merge

end
-- ==== Proof.MergeRef.lean ====
/- The reference's branch merge, entry by entry, in terms of its arguments. -/
module

public import proofs.«01_k».proof.Proof.Gen.Reference3Ideal.Read
public import proofs.«01_k».proof.Proof.MergeSpec
public import Idealize.ShloMosaic.Lib.Pointwise

@[expose] public section

set_option maxRecDepth 65536

noncomputable section

namespace Cert.Reference3Ideal.Merge

open Cert.Reference3Ideal Cert.Reference3Ideal.Read Idealize.ShloMosaic Idealize.ShloMosaic.TcCoe Idealize.SL.Sem

variable (ap az : FVec Ideal S8192x1024 .bf16) (b : FVec Ideal S16384x1024 .bf16) (cp cs : FVec Ideal S8192x1024 .bf16) (p : FVec Ideal S16384x17664 .bf16)
  (wa wb wc : FVec Ideal S1024x2048 .f32)

theorem ix2_of {n0 n1 : ℕ} (i : (⟨2, ![n0, n1]⟩ : Shape).Idx) (r : Fin n0) (k : Fin n1) (h0 : (i 0).val = r.val) (h1 : (i 1).val = k.val) : i = ix2 r k :=
  funext fun a => Fin.ext (match a with
    | ⟨0, _⟩ => h0
    | ⟨1, _⟩ => h1)

/-- The first branch's rows, the prompt's and then the samples'. -/
theorem v1_apply (r : Fin 16384) (k : Fin 1024) : (val_main_v1 (F := Ideal) ap az : FVec Ideal S16384x1024 .f32) (ix2 r k) = MergeSpec.pick ap az r k := by
  rw [val_main_v1_apply]
  show (val_main_v0 (F := Ideal) ap az : FVec Ideal S16384x1024 .bf16) (ix2 r k) = _
  unfold val_main_v0 MergeSpec.pick
  by_cases h : r.val < 8192
  · rw [dif_pos h]
    pointwise
    simp only [h]
    rfl
  · rw [dif_neg h]
    pointwise
    simp only [h]
    rfl

/-- The third branch's rows, the prompt's and then the samples'. -/
theorem v6_apply (r : Fin 16384) (k : Fin 1024) : (val_main_v6 (F := Ideal) cp cs : FVec Ideal S16384x1024 .f32) (ix2 r k) = MergeSpec.pick cp cs r k := by
  rw [val_main_v6_apply]
  show (val_main_v5 (F := Ideal) cp cs : FVec Ideal S16384x1024 .bf16) (ix2 r k) = _
  unfold val_main_v5 MergeSpec.pick
  by_cases h : r.val < 8192
  · rw [dif_pos h]
    pointwise
    simp only [h]
    rfl
  · rw [dif_neg h]
    pointwise
    simp only [h]
    rfl

/-- The first branch. -/
theorem v2_apply (r : Fin 16384) (j : Fin 2048) : (val_main_v2 (F := Ideal) ap az wa : FVec Ideal S16384x2048 .f32) (ix2 r j)
    = MergeSpec.branch (MergeSpec.pick ap az r) (fun k => wa (ix2 k j)) := by
  rw [val_main_v2_apply]
  unfold MergeSpec.branch
  refine Finset.sum_congr rfl fun k _ => ?_
  rw [ix2_of (lidx_main_v2 (ix2 r j) k) r k rfl rfl, ix2_of (ridx_main_v2 (ix2 r j) k) k j rfl rfl, v1_apply]

/-- The second branch. -/
theorem v4_apply (r : Fin 16384) (j : Fin 2048) : (val_main_v4 (F := Ideal) b wb : FVec Ideal S16384x2048 .f32) (ix2 r j)
    = MergeSpec.branch (fun k => b (ix2 r k)) (fun k => wb (ix2 k j)) := by
  rw [val_main_v4_apply]
  unfold MergeSpec.branch
  refine Finset.sum_congr rfl fun k _ => ?_
  rw [ix2_of (lidx_main_v4 (ix2 r j) k) r k rfl rfl, ix2_of (ridx_main_v4 (ix2 r j) k) k j rfl rfl, val_main_v3_apply]
  rfl

/-- The third branch. -/
theorem v7_apply (r : Fin 16384) (j : Fin 2048) : (val_main_v7 (F := Ideal) cp cs wc : FVec Ideal S16384x2048 .f32) (ix2 r j)
    = MergeSpec.branch (MergeSpec.pick cp cs r) (fun k => wc (ix2 k j)) := by
  rw [val_main_v7_apply]
  unfold MergeSpec.branch
  refine Finset.sum_congr rfl fun k _ => ?_
  rw [ix2_of (lidx_main_v7 (ix2 r j) k) r k rfl rfl, ix2_of (ridx_main_v7 (ix2 r j) k) k j rfl rfl, v6_apply]

/-- The gates, before they are split in three. -/
theorem v15_apply (r : Fin 16384) (n : Fin 6144) : (val_main_v15 (F := Ideal) p : FVec Ideal S16384x6144 .f32) (ix2 r n)
    = Ideal.logistic (p (ix2 r (⟨n.val, by omega⟩ : Fin 17664))) := by
  rw [val_main_v15_apply, val_main_v14_apply, val_main_v13_apply, val_main_v12_apply, val_main_v11_apply, val_main_v10_apply, val_main_v9_apply, val_main_v8_apply,
    ix2_of (idx_main_v8 (ix2 r n)) r (⟨n.val, by omega⟩ : Fin 17664) rfl rfl]
  show Ideal.div (Ideal.ofBits .f32 0x3F800000#32) (Ideal.ofBits .f32 0x3F800000#32 + Ideal.exp (-_)) = Ideal.div 1 (1 + Ideal.exp (-_))
  have h1 : Ideal.ofBits .f32 0x3F800000#32 = 1 := by
    simp [Ideal.ofBits, Ideal.ieee, -EReal.coe_mul]
    norm_num
  rw [h1]
  rfl

theorem v18_apply (r : Fin 16384) (j : Fin 2048) : (val_main_v18 (F := Ideal) p : FVec Ideal S16384x2048 .f32) (ix2 r j) = MergeSpec.gate p r 0 j := by
  have hr := r.isLt
  have hj := j.isLt
  unfold MergeSpec.gate
  rw [val_main_v18_apply, val_main_v17_apply, val_main_v16_apply]
  refine Eq.trans (congrArg _ (ix2_of (n0 := 16384) (n1 := 6144) _ r (⟨(0 : Fin 3).val * 2048 + j.val, by show 0 * 2048 + j.val < 6144; omega⟩ : Fin 6144) ?_ ?_)) (v15_apply p r _)
  · show (((r.val * 2048 + j.val) / 2048 * 3 + (0 + 0)) * 2048 + (r.val * 2048 + j.val) % 2048) / 6144 = r.val
    omega
  · show (((r.val * 2048 + j.val) / 2048 * 3 + (0 + 0)) * 2048 + (r.val * 2048 + j.val) % 2048) % 6144 = 0 * 2048 + j.val
    omega

theorem v21_apply (r : Fin 16384) (j : Fin 2048) : (val_main_v21 (F := Ideal) p : FVec Ideal S16384x2048 .f32) (ix2 r j) = MergeSpec.gate p r 1 j := by
  have hr := r.isLt
  have hj := j.isLt
  unfold MergeSpec.gate
  rw [val_main_v21_apply, val_main_v20_apply, val_main_v16_apply]
  refine Eq.trans (congrArg _ (ix2_of (n0 := 16384) (n1 := 6144) _ r (⟨(1 : Fin 3).val * 2048 + j.val, by show 1 * 2048 + j.val < 6144; omega⟩ : Fin 6144) ?_ ?_)) (v15_apply p r _)
  · show (((r.val * 2048 + j.val) / 2048 * 3 + (1 + 0)) * 2048 + (r.val * 2048 + j.val) % 2048) / 6144 = r.val
    omega
  · show (((r.val * 2048 + j.val) / 2048 * 3 + (1 + 0)) * 2048 + (r.val * 2048 + j.val) % 2048) % 6144 = 1 * 2048 + j.val
    omega

theorem v25_apply (r : Fin 16384) (j : Fin 2048) : (val_main_v25 (F := Ideal) p : FVec Ideal S16384x2048 .f32) (ix2 r j) = MergeSpec.gate p r 2 j := by
  have hr := r.isLt
  have hj := j.isLt
  unfold MergeSpec.gate
  rw [val_main_v25_apply, val_main_v24_apply, val_main_v16_apply]
  refine Eq.trans (congrArg _ (ix2_of (n0 := 16384) (n1 := 6144) _ r (⟨(2 : Fin 3).val * 2048 + j.val, by show 2 * 2048 + j.val < 6144; omega⟩ : Fin 6144) ?_ ?_)) (v15_apply p r _)
  · show (((r.val * 2048 + j.val) / 2048 * 3 + (2 + 0)) * 2048 + (r.val * 2048 + j.val) % 2048) / 6144 = r.val
    omega
  · show (((r.val * 2048 + j.val) / 2048 * 3 + (2 + 0)) * 2048 + (r.val * 2048 + j.val) % 2048) % 6144 = 2 * 2048 + j.val
    omega

/-- The result: the three gated branches, added. -/
theorem result_apply (r : Fin 16384) (j : Fin 2048) :
    (val_main_v28 (F := Ideal) ap az b cp cs p wa wb wc : FVec Ideal S16384x2048 .bf16) (ix2 r j) = MergeSpec.entry ap az b cp cs p wa wb wc r j := by
  rw [val_main_v28_apply]
  show (val_main_v27 (F := Ideal) ap az b cp cs p wa wb wc : FVec Ideal S16384x2048 .f32) (ix2 r j) = _
  rw [val_main_v27_apply, val_main_v26_apply, val_main_v23_apply, val_main_v22_apply, val_main_v19_apply, v18_apply, v21_apply, v25_apply, v2_apply, v4_apply, v7_apply]
  rfl

end Cert.Reference3Ideal.Merge

end
-- ==== Proof.MergeClaim.lean ====
/- The claim that the branch merge's call and the reference compute the same array. -/
module

public import proofs.«01_k».proof.Defs
public import proofs.«01_k».proof.Proof.MergeArray
public import proofs.«01_k».proof.Proof.MergeRef
public import proofs.«01_k».proof.Proof.Gen.Reference3Ideal.Run

@[expose] public section

set_option maxRecDepth 65536

noncomputable section

namespace Cert.Proof

open Idealize.ShloMosaic Idealize.SL.Sem

attribute [local instance] Cert.Kernel3Ideal.Gen.facts Cert.Reference3Ideal.Gen.facts

/-- The kernel's branch merge and the reference's, from equal arguments, end with equal results. -/
theorem algebraic_merge : Cert.algebraic_Kernel3Ideal_Reference3Ideal := by
  intro m g m' g' _ hag
  refine ⟨fun c => (Cert.Kernel3Ideal.Gen.dats m 0 c).arrAt 11 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨g0, g1, g2, g3, g4, g5, g6, g7, g8⟩ := hag c
  rw [Cert.Reference3Ideal.Read.val_main_v28_eq, g0, g1, g2, g3, g4, g5, g6, g7, g8]
  funext i
  have hi : i = ix2 (i 0) (i 1) := by
    funext a
    match a with
    | ⟨0, _⟩ => rfl
    | ⟨1, _⟩ => rfl
  rw [hi]
  refine (Cert.Reference3Ideal.Merge.result_apply _ _ _ _ _ _ _ _ _ (i 0) (i 1)).trans ?_
  exact (Cert.Kernel3Ideal.Merge.array_apply m c (i 0) (i 1)).symm

/-- The reference's branch merge ends, with its arguments unchanged. -/
theorem frame_merge_reference : Cert.quiescent_Reference3Ideal := fun m ρ _ =>
  (θ_run Cert.Reference3Ideal.defs _ _).mono (fun r h => And.intro (fun c => (h c).2) (sem_eq_zero_of_no_sems (by decide) r.2))
    (Cert.Reference3Ideal.Value.run (F := Ideal) m ρ)

end Cert.Proof

end
-- ==== Proof.OutFrameIdeal.lean ====
/- The final output projection's run (Kernel4Ideal): its grid has 32 points, the first sixteen storing the prompt's row tiles
   and leaving the sample's buffer alone, the last sixteen the reverse.  The prompt's buffer, kept through the last
   sixteen points, is written back once more after the very last, so the proof data says it holds tile 15 all along. -/
module

public import proofs.«01_k».proof.Proof.Gen.Kernel4Ideal.Skeleton
public import proofs.«01_k».proof.Proof.Gen.Kernel4Ideal.Frame
public import Idealize.ShloMosaic.Lib.Claim
public import Idealize.ShloMosaic.Lib.Pipeline.TableIdle
public import Idealize.ShloMosaic.Lib.Pipeline.Value

@[expose] public section

set_option maxRecDepth 16384

noncomputable section

namespace Cert.OutFrameIdeal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

variable (m : (ℓ : Loc nD τ sig) → Buf (Elt F) ℓ) (ρ : Dev nD → PrngReg)

/-- The first branch is taken at the first sixteen points. -/
theorem prompt_branch : ∀ t : Fin grid0.N, k0_cond1 (grid0.coords t) = 1#1 ↔ t.val < 16 := by decide +kernel

/-- The second branch is taken at the others. -/
theorem sample_branch : ∀ t : Fin grid0.N, k0_cond2 (grid0.coords t) = 1#1 ↔ ¬ t.val < 16 := by decide +kernel

set_option maxHeartbeats 1000000 in
/-- At a prompt point the body stores the tile into the prompt's buffer (the pieces are found by running it) and
    leaves the sample's buffer at what it held. -/
noncomputable def runPrompt (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x3x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc1 : k0_cond1 i = 1#1) (hc2 : ¬ k0_cond2 i = 1#1)
    (x0 : Vec F S512x2048 .bf16) (x1 : Vec F S2048x2048 .bf16) (x2 : Vec F S512x2048 .f32) (x3 : Vec F S1x3x2048 .f32) (x4 : Vec F S1x2048 .f32) :
    { L : List (View.Piece (Elt F) S512x2048 .f32) //
      ∀ (z : Vec F S512x2048 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare z
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L) ∗ owns (c : Thread nD τ) arg7 fullShare z) -∗ K ⟨⟩))
          ⊢ wp frame (wpE (defs₀ (F := F)) Variants.none c none) E (cc0_out_proj i arg1 harg1 arg2 harg2 arg3 harg3 arg4 harg4 arg5 harg5 arg6 harg6 arg7 harg7) K } := by
  refine ⟨?_, fun z E K => ?run⟩
  case run =>
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H6, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexact H6

set_option maxHeartbeats 1000000 in
/-- At a sample point it is the reverse: the tile into the sample's buffer, the prompt's buffer as it was. -/
noncomputable def runSample (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x3x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc1 : ¬ k0_cond1 i = 1#1) (hc2 : k0_cond2 i = 1#1)
    (x0 : Vec F S512x2048 .bf16) (x1 : Vec F S2048x2048 .bf16) (x2 : Vec F S512x2048 .f32) (x3 : Vec F S1x3x2048 .f32) (x4 : Vec F S1x2048 .f32) :
    { L : List (View.Piece (Elt F) S512x2048 .f32) //
      ∀ (z : Vec F S512x2048 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare z ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare z ∗ (∃ f, arg7.view.loc (c : Thread nD τ) ↦[arg7.view.set]{fullShare} arg7.view.writes (Elt F) f L)) -∗ K ⟨⟩))
          ⊢ wp frame (wpE (defs₀ (F := F)) Variants.none c none) E (cc0_out_proj i arg1 harg1 arg2 harg2 arg3 harg3 arg4 harg4 arg5 harg5 arg6 harg6 arg7 harg7) K } := by
  refine ⟨?_, fun z E K => ?run⟩
  case run =>
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, H5, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    iexists _; iexact H6

/-- The whole tile a point computes: the body's arithmetic on the blocks it loads. -/
def tileAt (x0 : Vec F S512x2048 .bf16) (x1 : Vec F S2048x2048 .bf16) (x2 : Vec F S512x2048 .f32) (x3 : Vec F S1x3x2048 .f32) (x4 : Vec F S1x2048 .f32) : Vec F S512x2048 .f32 :=
  k0_pay1 x2 (View.ld x3 (Rect.unit (s := S1x3x2048) ![0, 2, 0] S1x1x2048.size inb_S1x3x2048_S1x1x2048_0_2_0)) x0 x1 x4

theorem hz2 : (![0, 0] : Fin 2 → ℕ) = 0 := by decide

/-- The pieces cover the buffer. -/
theorem prompt_cover (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x3x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc1 : k0_cond1 i = 1#1) (hc2 : ¬ k0_cond2 i = 1#1)
    (x0 : Vec F S512x2048 .bf16) (x1 : Vec F S2048x2048 .bf16) (x2 : Vec F S512x2048 .f32) (x3 : Vec F S1x3x2048 .f32) (x4 : Vec F S1x2048 .f32) (y : S512x2048.Idx) :
    ∃ pc ∈ (runPrompt c i arg1 harg1 arg2 harg2 arg3 harg3 arg4 harg4 arg5 harg5 arg6 harg6 arg7 harg7 hc1 hc2 x0 x1 x2 x3 x4).1, y ∈ pc.1.set :=
  View.cover_of_tiledL (runPrompt c i arg1 harg1 arg2 harg2 arg3 harg3 arg4 harg4 arg5 harg5 arg6 harg6 arg7 harg7 hc1 hc2 x0 x1 x2 x3 x4).1 S512x2048.size (by sl_kernel_rfl) y

/-- Whatever the buffer held, writing a prompt point's pieces leaves the whole tile. -/
theorem prompt_writes (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x3x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc1 : k0_cond1 i = 1#1) (hc2 : ¬ k0_cond2 i = 1#1)
    (x0 : Vec F S512x2048 .bf16) (x1 : Vec F S2048x2048 .bf16) (x2 : Vec F S512x2048 .f32) (x3 : Vec F S1x3x2048 .f32) (x4 : Vec F S1x2048 .f32) (f) :
    arg6.view.read (Elt F) (arg6.view.writes (Elt F) f (runPrompt c i arg1 harg1 arg2 harg2 arg3 harg3 arg4 harg4 arg5 harg5 arg6 harg6 arg7 harg7 hc1 hc2 x0 x1 x2 x3 x4).1)
      = tileAt x0 x1 x2 x3 x4 := by
  rw [View.read_writes_eq_canon _ _ _ (prompt_cover c i arg1 harg1 arg2 harg2 arg3 harg3 arg4 harg4 arg5 harg5 arg6 harg6 arg7 harg7 hc1 hc2 x0 x1 x2 x3 x4)]
  unfold runPrompt; dsimp only; sl_unfold_words
  rw [View.canon_unit_zero (S := S512x2048) hz2]
  simp only [View.readAt_eq_ld, harg1.read_unread, harg2.read_unread, harg3.read_unread, harg4.read_unread, harg5.read_unread, View.ld_unit_zero (S := S512x2048) hz2, View.ld_unit_zero (S := S2048x2048) hz2, View.ld_unit_zero (S := S1x2048) hz2]
  rfl

/-- The pieces cover the buffer. -/
theorem sample_cover (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x3x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc1 : ¬ k0_cond1 i = 1#1) (hc2 : k0_cond2 i = 1#1)
    (x0 : Vec F S512x2048 .bf16) (x1 : Vec F S2048x2048 .bf16) (x2 : Vec F S512x2048 .f32) (x3 : Vec F S1x3x2048 .f32) (x4 : Vec F S1x2048 .f32) (y : S512x2048.Idx) :
    ∃ pc ∈ (runSample c i arg1 harg1 arg2 harg2 arg3 harg3 arg4 harg4 arg5 harg5 arg6 harg6 arg7 harg7 hc1 hc2 x0 x1 x2 x3 x4).1, y ∈ pc.1.set :=
  View.cover_of_tiledL (runSample c i arg1 harg1 arg2 harg2 arg3 harg3 arg4 harg4 arg5 harg5 arg6 harg6 arg7 harg7 hc1 hc2 x0 x1 x2 x3 x4).1 S512x2048.size (by sl_kernel_rfl) y

/-- The same of a sample point's pieces. -/
theorem sample_writes (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x3x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole)
    (hc1 : ¬ k0_cond1 i = 1#1) (hc2 : k0_cond2 i = 1#1)
    (x0 : Vec F S512x2048 .bf16) (x1 : Vec F S2048x2048 .bf16) (x2 : Vec F S512x2048 .f32) (x3 : Vec F S1x3x2048 .f32) (x4 : Vec F S1x2048 .f32) (f) :
    arg7.view.read (Elt F) (arg7.view.writes (Elt F) f (runSample c i arg1 harg1 arg2 harg2 arg3 harg3 arg4 harg4 arg5 harg5 arg6 harg6 arg7 harg7 hc1 hc2 x0 x1 x2 x3 x4).1)
      = tileAt x0 x1 x2 x3 x4 := by
  rw [View.read_writes_eq_canon _ _ _ (sample_cover c i arg1 harg1 arg2 harg2 arg3 harg3 arg4 harg4 arg5 harg5 arg6 harg6 arg7 harg7 hc1 hc2 x0 x1 x2 x3 x4)]
  unfold runSample; dsimp only; sl_unfold_words
  rw [View.canon_unit_zero (S := S512x2048) hz2]
  simp only [View.readAt_eq_ld, harg1.read_unread, harg2.read_unread, harg3.read_unread, harg4.read_unread, harg5.read_unread, View.ld_unit_zero (S := S512x2048) hz2, View.ld_unit_zero (S := S2048x2048) hz2, View.ld_unit_zero (S := S1x2048) hz2]
  rfl

/-! ## The proof data -/

/-- The tile computed at point `t`. -/
def tile (c : Dev nD) (t : Fin cfg0.N) : Vec F S512x2048 .f32 :=
  tileAt (iblk m c 0 t) (iblk m c 1 t) (iblk m c 2 t) (iblk m c 3 t) (iblk m c 4 t)

/-- The point whose tile the prompt's buffer holds after point `t`: `t` itself, from point 15 on point 15. -/
def held (t : Fin cfg0.N) : Fin cfg0.N := ⟨min t.val 15, lt_of_le_of_lt (Nat.min_le_left _ _) t.isLt⟩

/-- Inputs keep their blocks; the prompt's buffer holds the tile of `held t`, the sample's the tile of `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile m c (held t)
    | ⟨6, _⟩ => tile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tile m c (held t) := by dsimp only [dats]
theorem after6 (c : Dev nD) (t : Fin cfg0.N) : (dats m 0 c).after 6 t = tile m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The write-backs and the idle points -/

/-- The prompt's buffer is written back after points 0 to 14 and after the last. -/
theorem flush5 : ∀ t : Fin grid0.N, win0_5.flush t = (decide (t.val < 15) || decide (t.val = 31)) := fun t => by
  rw [Window.flush_eq_flushF]; revert t; decide +kernel

/-- The sample's buffer is written back after each of the last sixteen points. -/
theorem flush6 : ∀ t : Fin grid0.N, win0_6.flush t = decide (16 ≤ t.val) := fun t => by
  rw [Window.flush_eq_flushF]; revert t; decide +kernel

theorem idle5 (t : Fin cfg0.N) : cfg0.idle 5 (grid0.coords t) = decide (16 ≤ t.val) := by
  have h := prompt_branch t
  show (!(k0_cond1 (grid0.coords t) == 1#1)) = _
  by_cases hc : k0_cond1 (grid0.coords t) = 1#1
  · have h1 := h.mp hc
    rw [hc, decide_eq_false (by omega)]; rfl
  · have h1 : ¬ t.val < 16 := fun hh => hc (h.mpr hh)
    rw [decide_eq_true (by omega), beq_false_of_ne hc]; rfl

theorem idle6 (t : Fin cfg0.N) : cfg0.idle 6 (grid0.coords t) = decide (t.val < 16) := by
  have h := sample_branch t
  show (!(k0_cond2 (grid0.coords t) == 1#1)) = _
  by_cases hc : k0_cond2 (grid0.coords t) = 1#1
  · have h1 := h.mp hc
    rw [hc, decide_eq_false h1]; rfl
  · have h1 : t.val < 16 := by by_contra hh; exact hc (h.mpr hh)
    rw [decide_eq_true h1, beq_false_of_ne hc]; rfl

/-- After point 15 the prompt's buffer always holds something the body stored. -/
theorem fresh5 : ∀ n, n ≤ cfg0.N → cfg0.fresh 5 n = (decide (n < 16) || decide (n = 32)) :=
  Cfg.fresh_tab cfg0 5 (fun n => decide (n < 16) || decide (n = 32)) rfl fun t => by
    rw [idle5, show (cfg0.win 5).flush t = _ from flush5 t]
    have ht : t.val < 32 := lt_of_lt_of_eq t.isLt N_0
    generalize t.val = n at ht ⊢
    revert n; decide

/-! ## The body obligation -/

theorem held_of_le {t : Fin cfg0.N} (h : t.val < 16) : held t = t :=
  Fin.ext (show min t.val 15 = t.val by omega)

theorem held_prev {t : Fin cfg0.N} (h : 16 ≤ t.val) : held ⟨t.val - 1, by omega⟩ = held t :=
  Fin.ext (show min (t.val - 1) 15 = min t.val 15 by omega)

/-- From point 16 on the prompt's buffer comes to the body with tile 15 in it. -/
theorem before5 (c : Dev nD) (t : Fin cfg0.N) (h : 16 ≤ t.val) (d) : (dats m 0 c).before 5 t d = tile m c (held t) := by
  have ht : t.val < 32 := lt_of_lt_of_eq t.isLt N_0
  have hcarry : ∀ (s : Fin cfg0.N) (_ : s.val ≠ 0), cfg0.idle 5 (cfg0.grid.coords s) = true → cfg0.fresh 5 s.val = false →
      (dats m 0 c).after 5 s = (dats m 0 c).after 5 ⟨s.val - 1, by omega⟩ := fun s _ hi _ => by
    have hs : 16 ≤ s.val := of_decide_eq_true ((idle5 s).symm.trans hi)
    rw [after5, after5, held_prev hs]
  rw [(dats m 0 c).before_out_traj 5 rfl (fun _ _ => rfl) hcarry t.val t rfl d,
    fresh5 t.val (Nat.le_of_lt t.isLt), decide_eq_false (show ¬ t.val < 16 by omega), decide_eq_false (show ¬ t.val = 32 by omega)]
  exact (after5 m c _).trans (congrArg (tile m c) (held_prev h))

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (dats m 0 c).leavesExact 5 t
    ∗ (dats m 0 c).leavesExact 6 t)

/-- A window that is live at a point is left at `after`. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- So is one that is written back there. -/
theorem leaves_flush (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact; rw [hf]
  cases cfg0.idle w (cfg0.grid.coords t) <;> rfl

/-- Owning a buffer at contents equal to `y` is owning it at `y`. -/
theorem owns_of_read (c : Dev nD) (a : Memref sig .tc .vmem S512x2048 .f32) (y : Vec F S512x2048 .f32) (f)
    (h : a.view.read (Elt F) f = y) :
    (a.view.loc (c : Thread nD τ) ↦[a.view.set]{fullShare} f : sProp (MT nD τ sig Unit (Elt F) ℕ (UR sig nD τ) ℕ)) ⊢ owns (c : Thread nD τ) a fullShare y := by
  iintro H
  unfold owns
  iexists _; isplitr
  swap; · iexact H
  ipureintro; exact h

set_option maxHeartbeats 3200000 in
/-- The body at a prompt point. -/
theorem sound_prompt (c : Dev nD) (t : Fin cfg0.N) (h : t.val < 16) :
    bodyPre m c t ⊢ wp frame (wpE (defs₀ (F := F)) Variants.none c none) Set.univ (bodyAt0 t) (fun _ => bodyPost m c t) := by
  have hi5 : cfg0.idle 5 (cfg0.grid.coords t) = false := (idle5 t).trans (decide_eq_false (by omega))
  have hi6 : cfg0.idle 6 (cfg0.grid.coords t) = true := (idle6 t).trans (decide_eq_true h)
  have hf6 : (cfg0.win 6).flush t = false := (flush6 t).trans (decide_eq_false (by omega))
  unfold bodyPre bodyPost bodyAt0
  rw [leaves_live m c 5 t hi5, (dats m 0 c).leavesExact_idle 6 t hi6 hf6]
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, held_of_le h]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((runPrompt c (grid0.coords t) _ _ _ _ _ _ _ _ _ _ _ _ _ _ ((prompt_branch t).mpr h) (fun hh => (sample_branch t).mp hh h) (iblk m c 0 t) (iblk m c 1 t) (iblk m c 2 t) (iblk m c 3 t) (iblk m c 4 t)).2 ((dats m 0 c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, ⟨%e5, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (owns_of_read c (win0_5.stage (cfg0.slots t 5)) (tile m c t) _ (prompt_writes c _ _ _ _ _ _ _ _ _ _ _ _ _ _ _ _ _ _ _ _ _ _ e5))
    iexact H5
  iexists _; iexact H6

set_option maxHeartbeats 3200000 in
/-- The body at a sample point. -/
theorem sound_sample (c : Dev nD) (t : Fin cfg0.N) (h : ¬ t.val < 16) :
    bodyPre m c t ⊢ wp frame (wpE (defs₀ (F := F)) Variants.none c none) Set.univ (bodyAt0 t) (fun _ => bodyPost m c t) := by
  have hi5 : cfg0.idle 5 (cfg0.grid.coords t) = true := (idle5 t).trans (decide_eq_true (by omega))
  have hi6 : cfg0.idle 6 (cfg0.grid.coords t) = false := (idle6 t).trans (decide_eq_false h)
  have hpost : iprop(∃ d, owns (c : Thread nD τ) ((cfg0.win 5).stage (cfg0.slots t 5)) fullShare ((dats m 0 c).before 5 t d))
      ⊢ ((dats m 0 c).leavesExact 5 t : sProp (MT nD τ sig Unit (Elt F) ℕ (UR sig nD τ) ℕ)) := by
    by_cases h31 : t.val = 31
    · rw [leaves_flush m c 5 t ((flush5 t).trans (by rw [decide_eq_true h31, Bool.or_true])), after5]
      iintro ⟨%d, H⟩
      rw [← before5 m c t (by omega) d]
      iexact H
    · rw [(dats m 0 c).leavesExact_idle 5 t hi5 ((flush5 t).trans (by rw [decide_eq_false h31, decide_eq_false (show ¬ t.val < 15 by omega)]; rfl))]
  unfold bodyPre bodyPost bodyAt0
  rw [leaves_live m c 6 t hi6]
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((runSample c (grid0.coords t) _ _ _ _ _ _ _ _ _ _ _ _ _ _ (fun hh => h ((prompt_branch t).mp hh)) ((sample_branch t).mpr h) (iblk m c 0 t) (iblk m c 1 t) (iblk m c 2 t) (iblk m c 3 t) (iblk m c 4 t)).2 ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply hpost
    iexists _; iexact H5
  iapply (owns_of_read c (win0_6.stage (cfg0.slots t 6)) (tile m c t) _ (sample_writes c _ _ _ _ _ _ _ _ _ _ _ _ _ _ _ _ _ _ _ _ _ _ e6))
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val < 16
  · exact sound_prompt m c t h
  · exact sound_sample m c t h

theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.OutFrameIdeal

end
-- ==== Proof.OutSpec.lean ====
/- The final output projection's arithmetic: one entry of its results in terms of its arguments. -/
module

public import proofs.«01_k».proof.Proof.InSpec

@[expose] public section

noncomputable section

namespace Cert.OutSpec

open Idealize.ShloMosaic

/-- One entry of a row over its root mean square, times the weight. -/
def norm (row w : Fin 2048 → EReal) (d : Fin 2048) : EReal :=
  row d * Ideal.rsqrt (Ideal.div (∑ x, row x * row x) (Ideal.ofBits .f32 0x45000000#32) + Ideal.ofBits .f32 0x358637BD#32) * w d

/-- One entry of the residual row: the input plus the gate times the projection of the merged branches. -/
def resid (x gate merged : Fin 2048 → EReal) (w : Fin 2048 → Fin 2048 → EReal) (d : Fin 2048) : EReal :=
  x d + gate d * ∑ k, merged k * w k d

/-- Entry `(r, d)` of the layer's output, over all the tokens. -/
def entry (merged : (⟨2, ![16384, 2048]⟩ : Shape).Idx → EReal) (w : (⟨2, ![2048, 2048]⟩ : Shape).Idx → EReal)
    (x : (⟨2, ![16384, 2048]⟩ : Shape).Idx → EReal) (mod : (⟨3, ![8, 3, 2048]⟩ : Shape).Idx → EReal)
    (fw : (⟨1, ![2048]⟩ : Shape).Idx → EReal) (r : Fin 16384) (d : Fin 2048) : EReal :=
  norm (resid (fun d => x (ix2 r d)) (fun d => mod (ix3 (InSpec.cond r) 2 d)) (fun k => merged (ix2 r k)) (fun k d => w (ix2 k d))) (fun d => fw (ix1 d)) d

theorem norm_congr {x x' g g' mg mg' fw fw' : Fin 2048 → EReal} {w w' : Fin 2048 → Fin 2048 → EReal} {d : Fin 2048}
    (hx : x = x') (hg : g = g') (hm : mg = mg') (hw : w = w') (hf : fw = fw') :
    norm (resid x g mg w) fw d = norm (resid x' g' mg' w') fw' d := by
  rw [hx, hg, hm, hw, hf]

end Cert.OutSpec

end
-- ==== Proof.OutArray.lean ====
/- The final output projection's two result arrays, entry by entry, in terms of its arguments. -/
module

public import proofs.«01_k».proof.Proof.OutFrameIdeal
public import proofs.«01_k».proof.Proof.OutSpec

@[expose] public section

set_option maxRecDepth 65536

noncomputable section

namespace Cert.Kernel4Ideal.Out

open Cert.Kernel4Ideal Cert.Kernel4Ideal.Gen Cert.OutFrameIdeal Idealize.ShloMosaic Idealize.ShloMosaic.TcCoe Idealize.SL.Sem
open Idealize.ShloMosaic.Pipeline (Dat)

/-- The body's arithmetic, entry by entry. -/
theorem pay1_apply (v0 : Vec Ideal S512x2048 .f32) (v1 : Vec Ideal S1x1x2048 .f32) (v3 : Vec Ideal S512x2048 .bf16) (v4 : Vec Ideal S2048x2048 .bf16)
    (v20 : Vec Ideal S1x2048 .f32) (r : Fin 512) (d : Fin 2048) :
    k0_pay1 (F := Ideal) v0 v1 v3 v4 v20 (ix2 r d)
      = OutSpec.norm (OutSpec.resid (fun d => v0 (ix2 r d)) (fun d => v1 (ix3 0 0 d)) (fun k => v3 (ix2 r k)) (fun k d => v4 (ix2 k d))) (fun d => v20 (ix2 0 d)) d := by
  unfold OutSpec.norm OutSpec.resid
  pointwise [k0_pay1]

variable (m : (ℓ : Loc nD τ sig) → Buf (Elt Ideal) ℓ) (c : Dev nD)

/-- The merged branches. -/
abbrev argMerged : FVec Ideal S16384x2048 .bf16 := m ((c : Thread nD τ).loc main_arg0)
/-- The projection's weight. -/
abbrev argW : FVec Ideal S2048x2048 .f32 := m ((c : Thread nD τ).loc main_arg1)
/-- The layer's input. -/
abbrev argX : FVec Ideal S16384x2048 .f32 := m ((c : Thread nD τ).loc main_arg2)
/-- The modulation. -/
abbrev argMod : FVec Ideal S8x3x2048 .f32 := m ((c : Thread nD τ).loc main_arg3)
/-- The final norm's weight. -/
abbrev argFw : FVec Ideal S2048 .f32 := m ((c : Thread nD τ).loc main_arg4)

theorem V_main_v0 : @Eq (FVec Ideal S2048x2048 .bf16) (V m c main_v0) (truncf .bf16 (argW m c) bitsLt_bf16_f32) := by
  show StableHlo.after hostOps0 _ (Proc.devRef .tc main_v0) = _
  after_results

theorem V_main_v1 : V m c main_v1 = broadcastInDim S1x2048 ![1] bcast_S2048_S1x2048_1 (argFw m c) := by
  show StableHlo.after hostOps0 _ (Proc.devRef .tc main_v1) = _
  after_results

theorem v0_apply (k d : Fin 2048) : (V m c main_v0 : FVec Ideal S2048x2048 .bf16) (ix2 k d) = argW m c (ix2 k d) := by
  rw [V_main_v0]
  rfl

theorem v1_apply (d : Fin 2048) : (V m c main_v1 : FVec Ideal S1x2048 .f32) (ix2 0 d) = argFw m c (ix1 d) := by
  rw [V_main_v1]
  generalize argFw m c = a
  pointwise

/-- The block index of each window at a point. -/
theorem idx_facts : ∀ t : Fin grid0.N,
    (win0_0.index t = ![t.val, 0]) ∧ (win0_1.index t = ![0, 0]) ∧ (win0_2.index t = ![t.val, 0])
    ∧ (win0_3.index t = ![if t.val < 16 then 0 else 1 + (t.val - 16) / 8, 0, 0]) ∧ (win0_4.index t = ![0, 0])
    ∧ (win0_5.index t = ![min t.val 15, 0]) ∧ (win0_6.index t = ![t.val - 16, 0]) := by
  decide +kernel

/-! Each input window's block at a point, entry by entry. -/
section
variable (t : Fin cfg0.N)

theorem blk0 (r : Fin 512) (d : Fin 2048) (R : Fin 16384) (hR : R.val = t.val * 512 + r.val) :
    (iblk m c 0 t : FVec Ideal S512x2048 .bf16) (ix2 r d) = argMerged m c (ix2 R d) := by
  have hi := (idx_facts t).1
  rw [show argMerged m c = V m c main_arg0 from (V_main_arg0 m c).symm]
  unfold iblk
  rw [View.read_apply]
  show V m c main_arg0 _ = V m c main_arg0 _
  congr 1
  funext a
  refine Fin.ext ?_
  match a with
  | ⟨0, _⟩ => show win0_0.index t 0 * 512 + 1 * r.val = R.val; rw [hi]; show t.val * 512 + 1 * r.val = _; omega
  | ⟨1, _⟩ => show win0_0.index t 1 * 2048 + 1 * d.val = d.val; rw [hi]; show 0 * 2048 + 1 * d.val = _; omega

theorem blk1 (k d : Fin 2048) : (iblk m c 1 t : FVec Ideal S2048x2048 .bf16) (ix2 k d) = argW m c (ix2 k d) := by
  have hi := (idx_facts t).2.1
  rw [← v0_apply]
  unfold iblk
  rw [View.read_apply]
  show V m c main_v0 _ = V m c main_v0 _
  congr 1
  funext a
  refine Fin.ext ?_
  match a with
  | ⟨0, _⟩ => show win0_1.index t 0 * 2048 + 1 * k.val = k.val; rw [hi]; show 0 * 2048 + 1 * k.val = _; omega
  | ⟨1, _⟩ => show win0_1.index t 1 * 2048 + 1 * d.val = d.val; rw [hi]; show 0 * 2048 + 1 * d.val = _; omega

theorem blk2 (r : Fin 512) (d : Fin 2048) (R : Fin 16384) (hR : R.val = t.val * 512 + r.val) :
    (iblk m c 2 t : FVec Ideal S512x2048 .f32) (ix2 r d) = argX m c (ix2 R d) := by
  have hi := (idx_facts t).2.2.1
  rw [show argX m c = V m c main_arg2 from (V_main_arg2 m c).symm]
  unfold iblk
  rw [View.read_apply]
  show V m c main_arg2 _ = V m c main_arg2 _
  congr 1
  funext a
  refine Fin.ext ?_
  match a with
  | ⟨0, _⟩ => show win0_2.index t 0 * 512 + 1 * r.val = R.val; rw [hi]; show t.val * 512 + 1 * r.val = _; omega
  | ⟨1, _⟩ => show win0_2.index t 1 * 2048 + 1 * d.val = d.val; rw [hi]; show 0 * 2048 + 1 * d.val = _; omega

theorem blk3 (r : Fin 512) (i : Fin 3) (d : Fin 2048) (R : Fin 16384) (hR : R.val = t.val * 512 + r.val) :
    (iblk m c 3 t : FVec Ideal S1x3x2048 .f32) (ix3 0 i d) = argMod m c (ix3 (InSpec.cond R) i d) := by
  have hi := (idx_facts t).2.2.2.1
  rw [show argMod m c = V m c main_arg3 from (V_main_arg3 m c).symm]
  unfold iblk
  rw [View.read_apply]
  show V m c main_arg3 _ = V m c main_arg3 _
  congr 1
  funext a
  refine Fin.ext ?_
  match a with
  | ⟨0, _⟩ =>
    show win0_3.index t 0 * 1 + 1 * 0 = (if R.val < 8192 then 0 else 1 + (R.val - 8192) / 4096)
    rw [hi]
    show (if t.val < 16 then 0 else 1 + (t.val - 16) / 8) * 1 + 1 * 0 = _
    have := r.isLt
    split <;> split <;> omega
  | ⟨1, _⟩ => show win0_3.index t 1 * 3 + 1 * i.val = i.val; rw [hi]; show 0 * 3 + 1 * i.val = _; omega
  | ⟨2, _⟩ => show win0_3.index t 2 * 2048 + 1 * d.val = d.val; rw [hi]; show 0 * 2048 + 1 * d.val = _; omega

theorem blk4 (d : Fin 2048) : (iblk m c 4 t : FVec Ideal S1x2048 .f32) (ix2 0 d) = argFw m c (ix1 d) := by
  have hi := (idx_facts t).2.2.2.2.1
  rw [← v1_apply]
  unfold iblk
  rw [View.read_apply]
  show V m c main_v1 _ = V m c main_v1 _
  congr 1
  funext a
  refine Fin.ext ?_
  match a with
  | ⟨0, _⟩ => show win0_4.index t 0 * 1 + 1 * 0 = 0; rw [hi]; rfl
  | ⟨1, _⟩ => show win0_4.index t 1 * 2048 + 1 * d.val = d.val; rw [hi]; show 0 * 2048 + 1 * d.val = _; omega
end

/-- The modulation's gate row, read at its own offset. -/
theorem ld_gate (x3 : Vec Ideal S1x3x2048 .f32) (h) (d : Fin 2048) :
    View.ld x3 (Rect.unit (s := S1x3x2048) ![0, 2, 0] S1x1x2048.size h) (ix3 0 0 d) = x3 (ix3 0 2 d) := by
  refine congrArg x3 ?_
  funext a
  refine Fin.ext ?_
  match a with
  | ⟨0, _⟩ => rfl
  | ⟨1, _⟩ => rfl
  | ⟨2, _⟩ => show 0 + 1 * d.val = d.val; omega

/-- The tile computed at a point: the rows of the output it is placed at. -/
theorem tile_apply (t : Fin cfg0.N) (r : Fin 512) (d : Fin 2048) (R : Fin 16384) (hR : R.val = t.val * 512 + r.val) :
    (tile m c t : FVec Ideal S512x2048 .f32) (ix2 r d) = OutSpec.entry (argMerged m c) (argW m c) (argX m c) (argMod m c) (argFw m c) R d := by
  unfold tile tileAt OutSpec.entry
  rw [pay1_apply]
  exact OutSpec.norm_congr (funext fun d => blk2 m c t r d R hR) (funext fun d => (ld_gate _ _ d).trans (blk3 m c t r 2 d R hR))
    (funext fun k => blk0 m c t r k R hR) (funext fun k => funext fun d => blk1 m c t k d) (funext fun d => blk4 m c t d)

/-! ## The two arrays -/

/-- Two points that write the prompt's buffer back write different blocks. -/
theorem disjoint5 : ∀ t t' : Fin cfg0.N, (cfg0.win 5).flush t = true → (cfg0.win 5).flush t' = true → t ≠ t' →
    Disjoint ((cfg0.win 5).blk t).view.set ((cfg0.win 5).blk t').view.set := fun t t' ht ht' hne =>
  (cfg0.win 5).disjoint_blk fun h => hne (by
    have e : win0_5.index t = win0_5.index t' := h
    rw [(idx_facts t).2.2.2.2.2.1, (idx_facts t').2.2.2.2.2.1] at e
    have e0 : min t.val 15 = min t'.val 15 := congrFun e 0
    have f : (decide (t.val < 15) || decide (t.val = 31)) = true := (flush5 t).symm.trans ht
    have f' : (decide (t'.val < 15) || decide (t'.val = 31)) = true := (flush5 t').symm.trans ht'
    simp only [Bool.or_eq_true, decide_eq_true_eq] at f f'
    exact Fin.ext (by omega))

/-- So do two that write the sample's. -/
theorem disjoint6 : ∀ t t' : Fin cfg0.N, (cfg0.win 6).flush t = true → (cfg0.win 6).flush t' = true → t ≠ t' →
    Disjoint ((cfg0.win 6).blk t).view.set ((cfg0.win 6).blk t').view.set := fun t t' ht ht' hne =>
  (cfg0.win 6).disjoint_blk fun h => hne (by
    have e : win0_6.index t = win0_6.index t' := h
    rw [(idx_facts t).2.2.2.2.2.2, (idx_facts t').2.2.2.2.2.2] at e
    have e0 : t.val - 16 = t'.val - 16 := congrFun e 0
    have f := of_decide_eq_true ((flush6 t).symm.trans ht)
    have f' := of_decide_eq_true ((flush6 t').symm.trans ht')
    exact Fin.ext (by omega))

theorem flushed5 (t : Fin cfg0.N) : (dats m 0 c).flushed 5 t = (cfg0.win 5).cut (grid0.coords t) (tile m c (held t)) := by
  show (cfg0.win 5).cut (grid0.coords t) ((dats m 0 c).after 5 t) = _
  rw [after5]

theorem flushed6 (t : Fin cfg0.N) : (dats m 0 c).flushed 6 t = (cfg0.win 6).cut (grid0.coords t) (tile m c t) := by
  show (cfg0.win 6).cut (grid0.coords t) ((dats m 0 c).after 6 t) = _
  rw [after6]

/-- THE PROMPT'S ARRAY: the output of the first 8192 tokens. -/
theorem prompt_apply (R : Fin 8192) (J : Fin 2048) :
    ((dats m 0 c).arrAt 5 cfg0.N : FVec Ideal S8192x2048 .f32) (ix2 R J)
      = OutSpec.entry (argMerged m c) (argW m c) (argX m c) (argMod m c) (argFw m c) ⟨R.val, by omega⟩ J := by
  have hN : cfg0.N = 32 := N_0
  obtain ⟨t, htv⟩ : ∃ t : Fin cfg0.N, t.val = if R.val / 512 < 15 then R.val / 512 else 31 := ⟨⟨if R.val / 512 < 15 then R.val / 512 else 31, by rw [hN]; split <;> omega⟩, rfl⟩
  have hh : (held t).val = R.val / 512 := by
    show min t.val 15 = _
    rw [htv]; split <;> omega
  let y : S512x2048.Idx := ix2 (⟨R.val % 512, by omega⟩ : Fin 512) J
  have hi := (idx_facts t).2.2.2.2.2.1
  have hidx : ((cfg0.win 5).blk t).view.emb y = ix2 R J := by
    funext a
    refine Fin.ext ?_
    match a with
    | ⟨0, _⟩ => show win0_5.index t 0 * 512 + 1 * (R.val % 512) = R.val; rw [hi]; show (held t).val * 512 + 1 * (R.val % 512) = _; omega
    | ⟨1, _⟩ => show win0_5.index t 1 * 2048 + 1 * J.val = J.val; rw [hi]; show 0 * 2048 + 1 * J.val = _; omega
  have hf : (cfg0.win 5).flush t = true := (flush5 t).trans (by rw [htv]; split <;> simp [*])
  have hel := (dats m 0 c).arrAt_emb_eq_flushed 5 disjoint5 t hf y
  rw [hidx] at hel
  refine hel.trans ?_
  have hw := tile_apply m c (held t) (⟨R.val % 512, by omega⟩ : Fin 512) J ⟨R.val, by omega⟩ (show R.val = (held t).val * 512 + R.val % 512 by omega)
  rw [flushed5]
  generalize tile m c (held t) = o at hw ⊢
  exact hw

/-- THE SAMPLES' ARRAY: the output of the other 8192. -/
theorem sample_apply (R : Fin 8192) (J : Fin 2048) :
    ((dats m 0 c).arrAt 6 cfg0.N : FVec Ideal S8192x2048 .f32) (ix2 R J)
      = OutSpec.entry (argMerged m c) (argW m c) (argX m c) (argMod m c) (argFw m c) ⟨8192 + R.val, by omega⟩ J := by
  have hN : cfg0.N = 32 := N_0
  obtain ⟨t, htv⟩ : ∃ t : Fin cfg0.N, t.val = 16 + R.val / 512 := ⟨⟨16 + R.val / 512, by rw [hN]; omega⟩, rfl⟩
  let y : S512x2048.Idx := ix2 (⟨R.val % 512, by omega⟩ : Fin 512) J
  have hi := (idx_facts t).2.2.2.2.2.2
  have hidx : ((cfg0.win 6).blk t).view.emb y = ix2 R J := by
    funext a
    refine Fin.ext ?_
    match a with
    | ⟨0, _⟩ => show win0_6.index t 0 * 512 + 1 * (R.val % 512) = R.val; rw [hi]; show (t.val - 16) * 512 + 1 * (R.val % 512) = _; omega
    | ⟨1, _⟩ => show win0_6.index t 1 * 2048 + 1 * J.val = J.val; rw [hi]; show 0 * 2048 + 1 * J.val = _; omega
  have hf : (cfg0.win 6).flush t = true := (flush6 t).trans (decide_eq_true (by omega))
  have hel := (dats m 0 c).arrAt_emb_eq_flushed 6 disjoint6 t hf y
  rw [hidx] at hel
  refine hel.trans ?_
  have hw := tile_apply m c t (⟨R.val % 512, by omega⟩ : Fin 512) J ⟨8192 + R.val, by omega⟩ (show 8192 + R.val = t.val * 512 + R.val % 512 by omega)
  rw [flushed6]
  generalize tile m c t = o at hw ⊢
  exact hw

end Cert.Kernel4Ideal.Out

end
-- ==== Proof.OutRef.lean ====
/- The reference's final output projection, entry by entry, in terms of its arguments. -/
module

public import proofs.«01_k».proof.Proof.Gen.Reference4Ideal.Read
public import proofs.«01_k».proof.Proof.OutSpec
public import Idealize.ShloMosaic.Lib.Pointwise

@[expose] public section

set_option maxRecDepth 65536

noncomputable section

namespace Cert.Reference4Ideal.Out

open Cert.Reference4Ideal Cert.Reference4Ideal.Read Idealize.ShloMosaic Idealize.ShloMosaic.TcCoe Idealize.SL.Sem

variable (mg : FVec Ideal S16384x2048 .bf16) (w : FVec Ideal S2048x2048 .f32) (x : FVec Ideal S16384x2048 .f32) (mod : FVec Ideal S8x3x2048 .f32)
  (fw : FVec Ideal S2048 .f32)

theorem ix2_of {n0 n1 : ℕ} (i : (⟨2, ![n0, n1]⟩ : Shape).Idx) (r : Fin n0) (k : Fin n1) (h0 : (i 0).val = r.val) (h1 : (i 1).val = k.val) : i = ix2 r k :=
  funext fun a => Fin.ext (match a with
    | ⟨0, _⟩ => h0
    | ⟨1, _⟩ => h1)

/-- The gate of token `r`: its modulation row. -/
theorem v8_apply (r : Fin 16384) (d : Fin 2048) : (val_main_v8 (F := Ideal) mod : FVec Ideal S16384x2048 .f32) (ix2 r d) = mod (ix3 (InSpec.cond r) 2 d) := by
  have hr := r.isLt
  have hd := d.isLt
  by_cases h : r.val < 8192
  · have e : (val_main_v3 (F := Ideal) mod : FVec Ideal S8192x2048 .f32) (ix2 (⟨r.val, h⟩ : Fin 8192) d) = mod (ix3 (InSpec.cond r) 2 d) := by
      rw [val_main_v3_apply, val_main_v2_apply, val_main_v1_apply, val_main_v0_apply]
      refine congrArg mod ?_
      funext a
      refine Fin.ext ?_
      match a with
      | ⟨0, _⟩ => show (0 * 2048 + d.val) / 2048 = if r.val < 8192 then 0 else 1 + (r.val - 8192) / 4096; rw [if_pos h]; omega
      | ⟨1, _⟩ => rfl
      | ⟨2, _⟩ => show (0 * 2048 + d.val) % 2048 = d.val; omega
    unfold val_main_v8
    generalize val_main_v3 (F := Ideal) mod = y at e ⊢
    generalize val_main_v7 (F := Ideal) mod = z
    pointwise
    simp only [h]
    exact e
  · have e : (val_main_v7 (F := Ideal) mod : FVec Ideal S8192x2048 .f32) (ix2 (⟨r.val - 8192, by omega⟩ : Fin 8192) d) = mod (ix3 (InSpec.cond r) 2 d) := by
      rw [val_main_v7_apply, val_main_v6_apply, val_main_v5_apply, val_main_v4_apply, val_main_v1_apply, val_main_v0_apply]
      refine congrArg mod ?_
      funext a
      refine Fin.ext ?_
      match a with
      | ⟨0, _⟩ =>
        show ((1 + ((r.val - 8192) * 2048 + d.val) / 8388608) * 2048 + ((r.val - 8192) * 2048 + d.val) % 2048) / 2048
          = if r.val < 8192 then 0 else 1 + (r.val - 8192) / 4096
        rw [if_neg h]
        omega
      | ⟨1, _⟩ => rfl
      | ⟨2, _⟩ =>
        show ((1 + ((r.val - 8192) * 2048 + d.val) / 8388608) * 2048 + ((r.val - 8192) * 2048 + d.val) % 2048) % 2048 = d.val
        omega
    unfold val_main_v8
    generalize val_main_v3 (F := Ideal) mod = y
    generalize val_main_v7 (F := Ideal) mod = z at e ⊢
    pointwise
    simp only [h]
    exact e

/-- The projection. -/
theorem v10_apply (r : Fin 16384) (d : Fin 2048) : (val_main_v10 (F := Ideal) mg w : FVec Ideal S16384x2048 .f32) (ix2 r d) = ∑ k : Fin 2048, mg (ix2 r k) * w (ix2 k d) := by
  rw [val_main_v10_apply]
  refine Finset.sum_congr rfl fun k _ => ?_
  rw [ix2_of (lidx_main_v10 (ix2 r d) k) r k rfl rfl, ix2_of (ridx_main_v10 (ix2 r d) k) k d rfl rfl, val_main_v9_apply]
  rfl

/-- The residual row. -/
theorem v12_apply (r : Fin 16384) (d : Fin 2048) : (val_main_v12 (F := Ideal) mg w x mod : FVec Ideal S16384x2048 .f32) (ix2 r d)
    = OutSpec.resid (fun d => x (ix2 r d)) (fun d => mod (ix3 (InSpec.cond r) 2 d)) (fun k => mg (ix2 r k)) (fun k d => w (ix2 k d)) d := by
  rw [val_main_v12_apply, val_main_v11_apply, v8_apply, v10_apply]
  rfl

/-- The normed residual row. -/
theorem v25_apply (r : Fin 16384) (d : Fin 2048) : (val_main_v25 (F := Ideal) mg w x mod fw : FVec Ideal S16384x2048 .f32) (ix2 r d) = OutSpec.entry mg w x mod fw r d := by
  have e1 : ∀ k : Fin 2048, (idx_main_v14 (idx_main_v15 (idx_main_v21 (ix2 r d))) k : S16384x2048.Idx) = ix2 r k := fun k => ix2_of _ r k rfl rfl
  have e2 : (idx_main_v23 (idx_main_v24 (ix2 r d)) : S2048.Idx) = ix1 d := funext fun a => Fin.ext (by
    match a with
    | ⟨0, _⟩ => rfl)
  have e3 : ∀ k : Fin 2048, (val_main_v13 (F := Ideal) mg w x mod : FVec Ideal S16384x2048 .f32) (idx_main_v14 (idx_main_v15 (idx_main_v21 (ix2 r d))) k)
      = OutSpec.resid (fun d => x (ix2 r d)) (fun d => mod (ix3 (InSpec.cond r) 2 d)) (fun k => mg (ix2 r k)) (fun k d => w (ix2 k d)) k
        * OutSpec.resid (fun d => x (ix2 r d)) (fun d => mod (ix3 (InSpec.cond r) 2 d)) (fun k => mg (ix2 r k)) (fun k d => w (ix2 k d)) k := fun k => by
    rw [e1, val_main_v13_apply, v12_apply]
    rfl
  rw [val_main_v25_apply, val_main_v22_apply, val_main_v21_apply, val_main_v20_apply, val_main_v19_apply, val_main_v17_apply, val_main_v15_apply, val_main_v14_apply,
    val_main_v16_apply, val_main_v18_apply, val_main_v24_apply, val_main_v23_apply, v12_apply, e2]
  simp only [e3]
  unfold OutSpec.entry OutSpec.norm
  show _ * Ideal.rsqrt (Ideal.div (Ideal.ofBits .f32 0x00000000#32 + _) _ + _) * _ = _
  rw [Ideal.ofBits_zero_f32, zero_add]
  rfl

/-- The prompt's result. -/
theorem prompt_apply (r : Fin 8192) (d : Fin 2048) : (val_main_v26 (F := Ideal) mg w x mod fw : FVec Ideal S8192x2048 .f32) (ix2 r d)
    = OutSpec.entry mg w x mod fw ⟨r.val, by omega⟩ d := by
  rw [val_main_v26_apply, ix2_of (idx_main_v26 (ix2 r d)) (⟨r.val, by omega⟩ : Fin 16384) d rfl rfl, v25_apply]

/-- The samples' result. -/
theorem sample_apply (r : Fin 8192) (d : Fin 2048) : (val_main_v27 (F := Ideal) mg w x mod fw : FVec Ideal S8192x2048 .f32) (ix2 r d)
    = OutSpec.entry mg w x mod fw ⟨8192 + r.val, by omega⟩ d := by
  rw [val_main_v27_apply, ix2_of (idx_main_v27 (ix2 r d)) (⟨8192 + r.val, by omega⟩ : Fin 16384) d rfl rfl, v25_apply]

end Cert.Reference4Ideal.Out

end
-- ==== Proof.OutClaim.lean ====
/- The claim that the final output projection's call and the reference compute the same two arrays. -/
module

public import proofs.«01_k».proof.Defs
public import proofs.«01_k».proof.Proof.OutArray
public import proofs.«01_k».proof.Proof.OutRef
public import proofs.«01_k».proof.Proof.Gen.Reference4Ideal.Run

@[expose] public section

set_option maxRecDepth 65536

noncomputable section

namespace Cert.Proof

open Idealize.ShloMosaic Idealize.ShloMosaic.TcCoe Idealize.SL.Sem

attribute [local instance] Cert.Kernel4Ideal.Gen.facts Cert.Reference4Ideal.Gen.facts

/-- The final output projection's run, its two result arrays named. -/
theorem out_run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩
      (fun r => (∀ c : Dev Cert.Kernel4Ideal.nD,
        r.2.mem ((c.tc : Thread Cert.Kernel4Ideal.nD Cert.Kernel4Ideal.τ).loc Cert.Kernel4Ideal.main_v2_0) = (Cert.OutFrameIdeal.dats m 0 c).arrAt 5 Cert.Kernel4Ideal.cfg0.N
        ∧ r.2.mem ((c.tc : Thread Cert.Kernel4Ideal.nD Cert.Kernel4Ideal.τ).loc Cert.Kernel4Ideal.main_v2_1) = (Cert.OutFrameIdeal.dats m 0 c).arrAt 6 Cert.Kernel4Ideal.cfg0.N)) :=
  (θ_run _ _ _).mono (fun r h c => ⟨(h c).1 5, (h c).1 6⟩) (Cert.OutFrameIdeal.run_main (F := Ideal) m g)

/-- The kernel's output projection and the reference's, from equal arguments, end with equal results. -/
theorem algebraic_out : Cert.algebraic_Kernel4Ideal_Reference4Ideal := by
  intro m g m' g' _ hag
  refine ⟨fun c => (Cert.OutFrameIdeal.dats m 0 c).arrAt 5 Cert.Kernel4Ideal.cfg0.N, fun c => (Cert.OutFrameIdeal.dats m 0 c).arrAt 6 Cert.Kernel4Ideal.cfg0.N, ?_, ?_⟩
  · exact (θ_run _ _ _).mono (fun r h c => ⟨(h.1 c).1, (h.1 c).2, h.2.1 c⟩) (θ_run_and (out_run m g) (Cert.OutFrameIdeal.frame (F := Ideal) m g))
  refine (θ_run _ _ _).mono (fun r h c => ⟨(h c).1.trans ?_, (h c).2.1.trans ?_, (h c).2.2⟩) (Cert.Reference4Ideal.Value.run m' g')
  · obtain ⟨g0, g1, g2, g3, g4⟩ := hag c
    rw [Cert.Reference4Ideal.Read.val_main_v26_eq, g0, g1, g2, g3, g4]
    funext i
    rw [Cert.Reference4Ideal.Out.ix2_of i (i 0) (i 1) rfl rfl]
    refine (Cert.Reference4Ideal.Out.prompt_apply _ _ _ _ _ (i 0) (i 1)).trans ?_
    exact (Cert.Kernel4Ideal.Out.prompt_apply m c (i 0) (i 1)).symm
  · obtain ⟨g0, g1, g2, g3, g4⟩ := hag c
    rw [Cert.Reference4Ideal.Read.val_main_v27_eq, g0, g1, g2, g3, g4]
    funext i
    rw [Cert.Reference4Ideal.Out.ix2_of i (i 0) (i 1) rfl rfl]
    refine (Cert.Reference4Ideal.Out.sample_apply _ _ _ _ _ (i 0) (i 1)).trans ?_
    exact (Cert.Kernel4Ideal.Out.sample_apply m c (i 0) (i 1)).symm

/-- The reference's output projection ends, with its arguments unchanged. -/
theorem frame_out_reference : Cert.quiescent_Reference4Ideal := fun m ρ _ =>
  (θ_run Cert.Reference4Ideal.defs _ _).mono (fun r h => And.intro (fun c => (h c).2.2) (sem_eq_zero_of_no_sems (by decide) r.2))
    (Cert.Reference4Ideal.Value.run (F := Ideal) m ρ)

end Cert.Proof

end
-- ==== Proof.KvArray.lean ====
/- The cache call's two result arrays, entry by entry, in terms of its arguments. -/
module

public import proofs.«01_k».proof.Proof.Gen.Kernel5Ideal.Value
public import Idealize.ShloMosaic.Lib.Pipeline.Value
public import Idealize.ShloMosaic.Lib.Pointwise

@[expose] public section

set_option maxRecDepth 65536

noncomputable section

namespace Cert.KvSpec

open Idealize.ShloMosaic

/-- One entry of a cache after the last layer: of the first layer, the entry the cache held; of the last layer, the entry of
    the prompt's projection `p` at that token, in the column the cache's part of `p` begins with `off`. -/
def entry (p : FVec Ideal (⟨2, ![16384, 17664]⟩ : Shape) .bf16) (old : FVec Ideal (⟨4, ![32, 2, 256, 1024]⟩ : Shape) .f32) (off : ℕ) (hoff : off + 1024 ≤ 17664)
    (b : Fin 32) (l : Fin 2) (r : Fin 256) (d : Fin 1024) : EReal :=
  if l.val = 0 then old (ix4 b 0 r d) else p (ix2 ⟨b.val * 256 + r.val, by omega⟩ ⟨off + d.val, by omega⟩)

end Cert.KvSpec

namespace Cert.Kernel5Ideal.Kv

open Cert.Kernel5Ideal Cert.Kernel5Ideal.Gen Idealize.ShloMosaic Idealize.ShloMosaic.TcCoe Idealize.SL.Sem
open Idealize.ShloMosaic.Pipeline (Dat)

theorem pay1_apply (v : Vec Ideal S256x1024 .bf16) (r : Fin 256) (d : Fin 1024) : k0_pay1 (F := Ideal) v (ix4 0 0 r d) = v (ix2 r d) := by
  unfold k0_pay1
  pointwise

theorem pay2_apply (v : Vec Ideal S256x1024 .bf16) (r : Fin 256) (d : Fin 1024) : k0_pay2 (F := Ideal) v (ix4 0 0 r d) = v (ix2 r d) := by
  unfold k0_pay2
  pointwise

theorem hz2 : (![0, 0] : Fin 2 → ℕ) = 0 := by decide
theorem hz4 : (![0, 0, 0, 0] : Fin 4 → ℕ) = 0 := by decide

section
variable {F : FTy → Type} [FloatOps F]
variable (c : Dev nD) (i : grid0.Coords) (arg1 : Memref sig .tc .vmem S256x1024 .bf16) (harg1 : arg1.IsWhole) (arg2 : Memref sig .tc .vmem S256x1024 .bf16) (harg2 : arg2.IsWhole)
  (arg5 : Memref sig .tc .vmem S1x1x256x1024 .f32) (harg5 : arg5.IsWhole) (arg6 : Memref sig .tc .vmem S1x1x256x1024 .f32) (harg6 : arg6.IsWhole)
  (x0 : Vec F S256x1024 .bf16) (x1 : Vec F S256x1024 .bf16)

/-- What a point writes into output 1. -/
theorem out_A_2 : out0_A_2 c i arg1 harg1 arg2 harg2 arg5 harg5 arg6 harg6 x0 x1 = k0_pay1 x0 := by
  unfold out0_A_2
  rw [View.read_writes_eq_canon _ _ _ (cover0_A_2 c i arg1 harg1 arg2 harg2 arg5 harg5 arg6 harg6 x0 x1)]
  unfold kernelRun0_A
  dsimp only
  sl_unfold_words
  rw [View.canon_unit_zero (S := S1x1x256x1024) hz4]
  simp only [View.readAt_eq_ld, harg1.read_unread, harg2.read_unread, View.ld_unit_zero (S := S256x1024) hz2]

/-- What a point writes into output 2. -/
theorem out_A_3 : out0_A_3 c i arg1 harg1 arg2 harg2 arg5 harg5 arg6 harg6 x0 x1 = k0_pay2 x1 := by
  unfold out0_A_3
  rw [View.read_writes_eq_canon _ _ _ (cover0_A_3 c i arg1 harg1 arg2 harg2 arg5 harg5 arg6 harg6 x0 x1)]
  unfold kernelRun0_A
  dsimp only
  sl_unfold_words
  rw [View.canon_unit_zero (S := S1x1x256x1024) hz4]
  simp only [View.readAt_eq_ld, harg1.read_unread, harg2.read_unread, View.ld_unit_zero (S := S256x1024) hz2]

end

variable (m : (ℓ : Loc nD τ sig) → Buf (Elt Ideal) ℓ) (c : Dev nD)

/-- The projection. -/
abbrev argP : FVec Ideal S16384x17664 .bf16 := m ((c : Thread nD τ).loc main_arg0)
/-- The cache of the keys. -/
abbrev argK : FVec Ideal S32x2x256x1024 .f32 := m ((c : Thread nD τ).loc main_arg1)
/-- The cache of the values. -/
abbrev argV : FVec Ideal S32x2x256x1024 .f32 := m ((c : Thread nD τ).loc main_arg2)

/-- The first result's array begins as the cache of the keys. -/
theorem V_keys : V m c main_v0_0 = argK m c := by
  show StableHlo.after hostOps0 _ (Proc.devRef .tc main_v0_0) = _
  after_results
  rfl

/-- The second result's array begins as the cache of the values. -/
theorem V_values : V m c main_v0_1 = argV m c := by
  show StableHlo.after hostOps0 _ (Proc.devRef .tc main_v0_1) = _
  after_results
  rfl

/-- Which block each window holds at each point. -/
theorem idx_facts : ∀ t : Fin grid0.N,
    (win0_0.index t = ![t.val, 7]) ∧ (win0_1.index t = ![t.val, 8]) ∧ (win0_2.index t = ![t.val, 1, 0, 0]) ∧ (win0_3.index t = ![t.val, 1, 0, 0]) := by
  decide +kernel

theorem blk0 (t : Fin cfg0.N) (r : Fin 256) (d : Fin 1024) (R : Fin 16384) (C : Fin 17664) (hR : R.val = t.val * 256 + r.val) (hC : C.val = 7168 + d.val) :
    (X0_0 m c t : FVec Ideal S256x1024 .bf16) (ix2 r d) = argP m c (ix2 R C) := by
  have hi := (idx_facts t).1
  rw [show argP m c = V m c main_arg0 from (V_main_arg0 m c).symm]
  unfold X0_0
  unfold Pipeline.Window.fill
  rw [dif_pos (moved0_0 t _)]
  unfold iblk
  rw [View.read_apply]
  show V m c main_arg0 _ = V m c main_arg0 _
  congr 1
  funext a
  refine Fin.ext ?_
  match a with
  | ⟨0, _⟩ => show win0_0.index t 0 * 256 + 1 * r.val = R.val; rw [hi]; show t.val * 256 + 1 * r.val = _; omega
  | ⟨1, _⟩ => show win0_0.index t 1 * 1024 + 1 * d.val = C.val; rw [hi]; show 7 * 1024 + 1 * d.val = _; omega

theorem blk1 (t : Fin cfg0.N) (r : Fin 256) (d : Fin 1024) (R : Fin 16384) (C : Fin 17664) (hR : R.val = t.val * 256 + r.val) (hC : C.val = 8192 + d.val) :
    (X0_1 m c t : FVec Ideal S256x1024 .bf16) (ix2 r d) = argP m c (ix2 R C) := by
  have hi := (idx_facts t).2.1
  rw [show argP m c = V m c main_arg0 from (V_main_arg0 m c).symm]
  unfold X0_1
  unfold Pipeline.Window.fill
  rw [dif_pos (moved0_1 t _)]
  unfold iblk
  rw [View.read_apply]
  show V m c main_arg0 _ = V m c main_arg0 _
  congr 1
  funext a
  refine Fin.ext ?_
  match a with
  | ⟨0, _⟩ => show win0_1.index t 0 * 256 + 1 * r.val = R.val; rw [hi]; show t.val * 256 + 1 * r.val = _; omega
  | ⟨1, _⟩ => show win0_1.index t 1 * 1024 + 1 * d.val = C.val; rw [hi]; show 8 * 1024 + 1 * d.val = _; omega

/-- THE ARRAY: the cache of the keys, entry by entry. -/
theorem keys_apply (b : Fin 32) (l : Fin 2) (r : Fin 256) (d : Fin 1024) :
    ((dats m 0 c).arrAt 2 cfg0.N : FVec Ideal S32x2x256x1024 .f32) (ix4 b l r d) = KvSpec.entry (argP m c) (argK m c) 7168 (by decide) b l r d := by
  have hN : cfg0.N = 32 := N_0
  have hb := b.isLt
  have hr := r.isLt
  have hd := d.isLt
  unfold KvSpec.entry
  by_cases hl : l.val = 0
  · obtain rfl : l = 0 := Fin.ext hl
    rw [if_pos hl]
    refine (Value.entry2 m c (ix4 b 0 r d) fun t _ hm => ?_).trans (congrFun (V_keys m c) (ix4 b 0 r d))
    have hi := (idx_facts t).2.2.1
    obtain ⟨y, -, hy⟩ := Finset.mem_map.mp hm
    have h1 : win0_2.index t 1 * 1 + 1 * (y 1).val = 0 := congrArg (fun j : S32x2x256x1024.Idx => (j 1).val) hy
    rw [hi] at h1
    have h2 : 1 * 1 + 1 * (y 1).val = 0 := h1
    omega
  · rw [if_neg hl]
    have hl1 : l.val = 1 := by omega
    obtain ⟨t, htv⟩ : ∃ t : Fin cfg0.N, t.val = b.val := ⟨⟨b.val, by rw [hN]; omega⟩, rfl⟩
    let y : S1x1x256x1024.Idx := ix4 0 0 r d
    have hi := (idx_facts t).2.2.1
    have hidx : ((cfg0.win 2).blk t).view.emb y = ix4 b l r d := by
      funext a
      refine Fin.ext ?_
      match a with
      | ⟨0, _⟩ => show win0_2.index t 0 * 1 + 1 * 0 = b.val; rw [hi]; show t.val * 1 + 1 * 0 = _; omega
      | ⟨1, _⟩ => show win0_2.index t 1 * 1 + 1 * 0 = l.val; rw [hi]; show 1 * 1 + 1 * 0 = _; omega
      | ⟨2, _⟩ => show win0_2.index t 2 * 256 + 1 * r.val = r.val; rw [hi]; show 0 * 256 + 1 * r.val = _; omega
      | ⟨3, _⟩ => show win0_2.index t 3 * 1024 + 1 * d.val = d.val; rw [hi]; show 0 * 1024 + 1 * d.val = _; omega
    have hel := (dats m 0 c).arrAt_emb_eq_flushed 2 Value.disjoint2 t (flush0_2 t) y
    rw [hidx] at hel
    refine hel.trans ?_
    have hw : ((outsAt0 m c t).1 : FVec Ideal S1x1x256x1024 .f32) (ix4 0 0 r d)
        = argP m c (ix2 ⟨b.val * 256 + r.val, by omega⟩ ⟨7168 + d.val, by omega⟩) := by
      unfold outsAt0
      dsimp only
      rw [out_A_2, pay1_apply]
      exact blk0 m c t r d _ _ (by show b.val * 256 + r.val = _; omega) rfl
    rw [Value.flushed2]
    generalize outsAt0 m c t = o at hw ⊢
    exact hw

/-- THE ARRAY: the cache of the values, entry by entry. -/
theorem values_apply (b : Fin 32) (l : Fin 2) (r : Fin 256) (d : Fin 1024) :
    ((dats m 0 c).arrAt 3 cfg0.N : FVec Ideal S32x2x256x1024 .f32) (ix4 b l r d) = KvSpec.entry (argP m c) (argV m c) 8192 (by decide) b l r d := by
  have hN : cfg0.N = 32 := N_0
  have hb := b.isLt
  have hr := r.isLt
  have hd := d.isLt
  unfold KvSpec.entry
  by_cases hl : l.val = 0
  · obtain rfl : l = 0 := Fin.ext hl
    rw [if_pos hl]
    refine (Value.entry3 m c (ix4 b 0 r d) fun t _ hm => ?_).trans (congrFun (V_values m c) (ix4 b 0 r d))
    have hi := (idx_facts t).2.2.2
    obtain ⟨y, -, hy⟩ := Finset.mem_map.mp hm
    have h1 : win0_3.index t 1 * 1 + 1 * (y 1).val = 0 := congrArg (fun j : S32x2x256x1024.Idx => (j 1).val) hy
    rw [hi] at h1
    have h2 : 1 * 1 + 1 * (y 1).val = 0 := h1
    omega
  · rw [if_neg hl]
    have hl1 : l.val = 1 := by omega
    obtain ⟨t, htv⟩ : ∃ t : Fin cfg0.N, t.val = b.val := ⟨⟨b.val, by rw [hN]; omega⟩, rfl⟩
    let y : S1x1x256x1024.Idx := ix4 0 0 r d
    have hi := (idx_facts t).2.2.2
    have hidx : ((cfg0.win 3).blk t).view.emb y = ix4 b l r d := by
      funext a
      refine Fin.ext ?_
      match a with
      | ⟨0, _⟩ => show win0_3.index t 0 * 1 + 1 * 0 = b.val; rw [hi]; show t.val * 1 + 1 * 0 = _; omega
      | ⟨1, _⟩ => show win0_3.index t 1 * 1 + 1 * 0 = l.val; rw [hi]; show 1 * 1 + 1 * 0 = _; omega
      | ⟨2, _⟩ => show win0_3.index t 2 * 256 + 1 * r.val = r.val; rw [hi]; show 0 * 256 + 1 * r.val = _; omega
      | ⟨3, _⟩ => show win0_3.index t 3 * 1024 + 1 * d.val = d.val; rw [hi]; show 0 * 1024 + 1 * d.val = _; omega
    have hel := (dats m 0 c).arrAt_emb_eq_flushed 3 Value.disjoint3 t (flush0_3 t) y
    rw [hidx] at hel
    refine hel.trans ?_
    have hw : ((outsAt0 m c t).2 : FVec Ideal S1x1x256x1024 .f32) (ix4 0 0 r d)
        = argP m c (ix2 ⟨b.val * 256 + r.val, by omega⟩ ⟨8192 + d.val, by omega⟩) := by
      unfold outsAt0
      dsimp only
      rw [out_A_3, pay2_apply]
      exact blk1 m c t r d _ _ (by show b.val * 256 + r.val = _; omega) rfl
    rw [Value.flushed3]
    generalize outsAt0 m c t = o at hw ⊢
    exact hw

end Cert.Kernel5Ideal.Kv

end
-- ==== Proof.KvRef.lean ====
/- The reference's two caches, entry by entry, in terms of its arguments. -/
module

public import proofs.«01_k».proof.Proof.Gen.Reference5Ideal.Read
public import proofs.«01_k».proof.Proof.KvArray

@[expose] public section

set_option maxRecDepth 65536

noncomputable section

namespace Cert.Reference5Ideal.Kv

open Cert.Reference5Ideal Cert.Reference5Ideal.Read Idealize.ShloMosaic Idealize.ShloMosaic.TcCoe Idealize.SL.Sem

theorem ix4_of {n0 n1 n2 n3 : ℕ} (i : (⟨4, ![n0, n1, n2, n3]⟩ : Shape).Idx) (b : Fin n0) (l : Fin n1) (r : Fin n2) (k : Fin n3)
    (h0 : (i 0).val = b.val) (h1 : (i 1).val = l.val) (h2 : (i 2).val = r.val) (h3 : (i 3).val = k.val) : i = ix4 b l r k :=
  funext fun a => Fin.ext (match a with
    | ⟨0, _⟩ => h0
    | ⟨1, _⟩ => h1
    | ⟨2, _⟩ => h2
    | ⟨3, _⟩ => h3)

variable (p : FVec Ideal S16384x17664 .bf16) (old : FVec Ideal S32x2x256x1024 .f32)

/-- The first layer's part of the keys. -/
theorem keys_old (b : Fin 32) (r : Fin 256) (d : Fin 1024) : (val_main_v8 (F := Ideal) old : FVec Ideal S32x1x256x1024 .f32) (ix4 b 0 r d) = old (ix4 b 0 r d) := by
  have hb := b.isLt
  have hr := r.isLt
  have hd := d.isLt
  rw [val_main_v8_apply, val_main_v7_apply, val_main_v6_apply]
  refine congrArg old (ix4_of _ _ _ _ _ ?_ ?_ ?_ ?_)
  · show ((b.val * 256 + r.val) * 1024 + d.val) / 262144 = b.val; omega
  · rfl
  · show ((b.val * 256 + r.val) * 1024 + d.val) / 1024 % 256 = r.val; omega
  · show ((b.val * 256 + r.val) * 1024 + d.val) % 1024 = d.val; omega

/-- The last layer's part of the keys. -/
theorem keys_new (b : Fin 32) (r : Fin 256) (d : Fin 1024) : (val_main_v9 (F := Ideal) p : FVec Ideal S32x1x256x1024 .f32) (ix4 b 0 r d)
    = p (ix2 ⟨b.val * 256 + r.val, by omega⟩ ⟨7168 + d.val, by omega⟩) := by
  have hb := b.isLt
  have hr := r.isLt
  have hd := d.isLt
  rw [val_main_v9_apply, val_main_v2_apply, val_main_v1_apply, val_main_v0_apply]
  refine congrArg p ?_
  funext a
  refine Fin.ext ?_
  match a with
  | ⟨0, _⟩ => show ((b.val * 256 + r.val) * 1024 + d.val) / 1024 = b.val * 256 + r.val; omega
  | ⟨1, _⟩ => show 7168 + ((b.val * 256 + r.val) * 1024 + d.val) % 1024 = 7168 + d.val; omega

/-- The keys, both layers. -/
theorem keys_apply (b : Fin 32) (l : Fin 2) (r : Fin 256) (d : Fin 1024) : (val_main_v10 (F := Ideal) p old : FVec Ideal S32x2x256x1024 .f32) (ix4 b l r d)
    = KvSpec.entry p old 7168 (by decide) b l r d := by
  have eo := keys_old old b r d
  have en := keys_new p b r d
  unfold KvSpec.entry val_main_v10
  generalize val_main_v8 (F := Ideal) old = y at eo ⊢
  generalize val_main_v9 (F := Ideal) p = z at en ⊢
  by_cases hl : l.val = 0
  · obtain rfl : l = 0 := Fin.ext hl
    rw [if_pos hl, ← eo]
    pointwise
  · obtain rfl : l = 1 := Fin.ext (by show l.val = 1; omega)
    rw [if_neg hl, ← en]
    pointwise

/-- The first layer's part of the values. -/
theorem values_old (b : Fin 32) (r : Fin 256) (d : Fin 1024) : (val_main_v13 (F := Ideal) old : FVec Ideal S32x1x256x1024 .f32) (ix4 b 0 r d) = old (ix4 b 0 r d) := by
  have hb := b.isLt
  have hr := r.isLt
  have hd := d.isLt
  rw [val_main_v13_apply, val_main_v12_apply, val_main_v11_apply]
  refine congrArg old (ix4_of _ _ _ _ _ ?_ ?_ ?_ ?_)
  · show ((b.val * 256 + r.val) * 1024 + d.val) / 262144 = b.val; omega
  · rfl
  · show ((b.val * 256 + r.val) * 1024 + d.val) / 1024 % 256 = r.val; omega
  · show ((b.val * 256 + r.val) * 1024 + d.val) % 1024 = d.val; omega

/-- The last layer's part of the values. -/
theorem values_new (b : Fin 32) (r : Fin 256) (d : Fin 1024) : (val_main_v14 (F := Ideal) p : FVec Ideal S32x1x256x1024 .f32) (ix4 b 0 r d)
    = p (ix2 ⟨b.val * 256 + r.val, by omega⟩ ⟨8192 + d.val, by omega⟩) := by
  have hb := b.isLt
  have hr := r.isLt
  have hd := d.isLt
  rw [val_main_v14_apply, val_main_v5_apply, val_main_v4_apply, val_main_v3_apply]
  refine congrArg p ?_
  funext a
  refine Fin.ext ?_
  match a with
  | ⟨0, _⟩ => show ((b.val * 256 + r.val) * 1024 + d.val) / 1024 = b.val * 256 + r.val; omega
  | ⟨1, _⟩ => show 8192 + ((b.val * 256 + r.val) * 1024 + d.val) % 1024 = 8192 + d.val; omega

/-- The values, both layers. -/
theorem values_apply (b : Fin 32) (l : Fin 2) (r : Fin 256) (d : Fin 1024) : (val_main_v15 (F := Ideal) p old : FVec Ideal S32x2x256x1024 .f32) (ix4 b l r d)
    = KvSpec.entry p old 8192 (by decide) b l r d := by
  have eo := values_old old b r d
  have en := values_new p b r d
  unfold KvSpec.entry val_main_v15
  generalize val_main_v13 (F := Ideal) old = y at eo ⊢
  generalize val_main_v14 (F := Ideal) p = z at en ⊢
  by_cases hl : l.val = 0
  · obtain rfl : l = 0 := Fin.ext hl
    rw [if_pos hl, ← eo]
    pointwise
  · obtain rfl : l = 1 := Fin.ext (by show l.val = 1; omega)
    rw [if_neg hl, ← en]
    pointwise

end Cert.Reference5Ideal.Kv

end
-- ==== Proof.KvClaim.lean ====
/- The claim that the last layer's cache call and the reference compute the same two arrays. -/
module

public import proofs.«01_k».proof.Defs
public import proofs.«01_k».proof.Proof.KvArray
public import proofs.«01_k».proof.Proof.KvRef
public import proofs.«01_k».proof.Proof.Gen.Reference5Ideal.Run

@[expose] public section

set_option maxRecDepth 65536

noncomputable section

namespace Cert.Proof

open Idealize.ShloMosaic Idealize.ShloMosaic.TcCoe Idealize.SL.Sem

attribute [local instance] Cert.Kernel5Ideal.Gen.facts Cert.Reference5Ideal.Gen.facts

/-- The kernel's caches and the reference's, from equal arguments, end equal. -/
theorem algebraic_kv : Cert.algebraic_Kernel5Ideal_Reference5Ideal := by
  intro m g m' g' _ hag
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N, ?_, ?_⟩
  · exact Cert.Kernel5Ideal.Value.run_blocks m g
  refine (θ_run _ _ _).mono (fun r h c => ⟨(h c).1.trans ?_, (h c).2.1.trans ?_, (h c).2.2⟩) (Cert.Reference5Ideal.Value.run m' g')
  · obtain ⟨g0, g1, g2⟩ := hag c
    rw [Cert.Reference5Ideal.Read.val_main_v10_eq, g0, g1]
    funext i
    rw [Cert.Reference5Ideal.Kv.ix4_of i (i 0) (i 1) (i 2) (i 3) rfl rfl rfl rfl]
    refine (Cert.Reference5Ideal.Kv.keys_apply _ _ (i 0) (i 1) (i 2) (i 3)).trans ?_
    exact (Cert.Kernel5Ideal.Kv.keys_apply m c (i 0) (i 1) (i 2) (i 3)).symm
  · obtain ⟨g0, g1, g2⟩ := hag c
    rw [Cert.Reference5Ideal.Read.val_main_v15_eq, g0, g2]
    funext i
    rw [Cert.Reference5Ideal.Kv.ix4_of i (i 0) (i 1) (i 2) (i 3) rfl rfl rfl rfl]
    refine (Cert.Reference5Ideal.Kv.values_apply _ _ (i 0) (i 1) (i 2) (i 3)).trans ?_
    exact (Cert.Kernel5Ideal.Kv.values_apply m c (i 0) (i 1) (i 2) (i 3)).symm

/-- The reference's caches end, with its arguments unchanged. -/
theorem frame_kv_reference : Cert.quiescent_Reference5Ideal := fun m ρ _ =>
  (θ_run Cert.Reference5Ideal.defs _ _).mono (fun r h => And.intro (fun c => (h c).2.2) (sem_eq_zero_of_no_sems (by decide) r.2))
    (Cert.Reference5Ideal.Value.run (F := Ideal) m ρ)

end Cert.Proof

end
-- ==== Proof.ScanMath.lean ====
/- The chunked form of the linear recurrence, over the real numbers: one chunk of 64 tokens of one head. -/
module

public import Mathlib.Analysis.SpecialFunctions.Exp
public import Mathlib.Data.Matrix.Mul
public import Mathlib.Tactic.Ring
public import Mathlib.Tactic.Abel

@[expose] public section

noncomputable section

namespace Cert.Scan

open Finset

/-- A square table of one head: tokens or value lanes by lanes. -/
abbrev Tab := Matrix (Fin 64) (Fin 64) ℝ

/-- One token of the recurrence: the state decays lane by lane, loses along the token's direction `kk` what `b` puts back,
    and gains the outer product of value and key. -/
def tok (lw kk b k v : Fin 64 → ℝ) (S : Tab) : Tab := fun i j =>
  S i j * Real.exp (lw j) + (∑ l, S i l * -(kk l)) * b j + v i * k j

/-- The state after `n` tokens from the state `S`. -/
def st (lw kk b k v : ℕ → Fin 64 → ℝ) (S : Tab) : ℕ → Tab
  | 0 => S
  | n + 1 => tok (lw n) (kk n) (b n) (k n) (v n) (st lw kk b k v S n)

/-- Running the recurrence `n + p` tokens is running it `n` tokens and then `p` more. -/
theorem st_add (lw kk b k v : ℕ → Fin 64 → ℝ) (S : Tab) (n p : ℕ) :
    st lw kk b k v S (n + p) = st (fun q => lw (n + q)) (fun q => kk (n + q)) (fun q => b (n + q)) (fun q => k (n + q))
      (fun q => v (n + q)) (st lw kk b k v S n) p := by
  induction p with
  | zero => rfl
  | succ p ih => rw [← Nat.add_assoc]; simp only [st]; rw [ih]

/-- `n` tokens of the recurrence depend on the first `n` tokens' factors alone. -/
theorem st_congr {lw kk b k v lw' kk' b' k' v' : ℕ → Fin 64 → ℝ} {S S' : Tab} (n : ℕ) (hS : S = S')
    (h : ∀ q < n, lw q = lw' q ∧ kk q = kk' q ∧ b q = b' q ∧ k q = k' q ∧ v q = v' q) :
    st lw kk b k v S n = st lw' kk' b' k' v' S' n := by
  subst hS
  induction n with
  | zero => rfl
  | succ n ih =>
    obtain ⟨h1, h2, h3, h4, h5⟩ := h n (Nat.lt_succ_self n)
    simp only [st]
    rw [ih (fun q hq => h q (Nat.lt_succ_of_lt hq)), h1, h2, h3, h4, h5]

section closed

variable (lw kk b k v : ℕ → Fin 64 → ℝ) (S : Tab)

/-- The logarithms' sum over the first `n` tokens. -/
def cum (n : ℕ) (j : Fin 64) : ℝ := ∑ m ∈ range n, lw m j

/-- What the token `n` reads of the state along its direction. -/
def sa (n : ℕ) (i : Fin 64) : ℝ := ∑ l, st lw kk b k v S n i l * -(kk n l)

/-- The state in closed form: each token's gain decayed by the tokens after it. -/
theorem st_closed (n : ℕ) (i j : Fin 64) :
    st lw kk b k v S n i j = S i j * Real.exp (cum lw n j)
      + ∑ m ∈ range n, (sa lw kk b k v S m i * b m j + v m i * k m j) * Real.exp (cum lw n j - cum lw (m + 1) j) := by
  induction n with
  | zero => simp [st, cum]
  | succ n ih =>
    have e : cum lw (n + 1) j = cum lw n j + lw n j := by simp [cum, sum_range_succ]
    rw [sum_range_succ]
    simp only [st, tok]
    have hs : (∑ l, st lw kk b k v S n i l * -(kk n l)) = sa lw kk b k v S n i := rfl
    rw [hs, ih, sub_self, Real.exp_zero, mul_one, e, add_mul, sum_mul, Real.exp_add]
    have : ∀ m ∈ range n, (sa lw kk b k v S m i * b m j + v m i * k m j) * Real.exp (cum lw n j - cum lw (m + 1) j) * Real.exp (lw n j)
        = (sa lw kk b k v S m i * b m j + v m i * k m j) * Real.exp (cum lw n j + lw n j - cum lw (m + 1) j) := by
      intro m _
      rw [mul_assoc, ← Real.exp_add]
      congr 2
      ring
    rw [sum_congr rfl this]
    ring

end closed

/-- Five doublings of `1 + A`: the product of the `1 + A ^ (2 ^ k)`. -/
def tinv (A : Tab) : Tab :=
  let n0 := A * A
  let t0 := 1 + A
  let t1 := t0 + t0 * n0
  let n1 := n0 * n0
  let t2 := t1 + t1 * n1
  let n2 := n1 * n1
  let t3 := t2 + t2 * n2
  let n3 := n2 * n2
  let t4 := t3 + t3 * n3
  let n4 := n3 * n3
  t4 + t4 * n4

/-- One doubling. -/
theorem doubling {A t n : Tab} (h : t * (1 - A) = 1 - n) (hc : n * A = A * n) : (t + t * n) * (1 - A) = 1 - n * n := by
  have : (t + t * n) * (1 - A) = t * (1 - A) + t * (1 - A) * n := by
    rw [add_mul, mul_assoc t n, mul_assoc t (1 - A) n]
    congr 2
    rw [mul_sub, sub_mul, hc, mul_one, one_mul]
  rw [this, h, sub_mul, one_mul]
  abel

/-- The doublings invert `1 - A` up to the 64th power. -/
theorem tinv_mul (A : Tab) : tinv A * (1 - A) = 1 - A ^ 64 := by
  have c : ∀ {n : Tab}, n * A = A * n → (n * n) * A = A * (n * n) := fun {n} h => by
    rw [mul_assoc, h, ← mul_assoc, h, mul_assoc]
  have h0 : (1 + A) * (1 - A) = 1 - A * A := by rw [add_mul, mul_sub, mul_sub]; simp
  have c0 : A * A * A = A * (A * A) := mul_assoc _ _ _
  have h := doubling (doubling (doubling (doubling (doubling h0 c0) (c c0)) (c (c c0))) (c (c (c c0)))) (c (c (c (c c0))))
  have e : A * A * (A * A) * (A * A * (A * A)) * (A * A * (A * A) * (A * A * (A * A)))
      * (A * A * (A * A) * (A * A * (A * A)) * (A * A * (A * A) * (A * A * (A * A)))) * (A * A * (A * A) * (A * A * (A * A))
      * (A * A * (A * A) * (A * A * (A * A))) * (A * A * (A * A) * (A * A * (A * A)) * (A * A * (A * A) * (A * A * (A * A))))) = A ^ 64 := by
    simp only [← pow_two, ← pow_mul]
    norm_num
  exact h.trans (congrArg (1 - ·) e)

/-- A table that leads from lower ranks to higher ones alone has no 64th power. -/
theorem pow64 (ρ : Fin 64 ≃ Fin 64) (A : Tab) (h : ∀ r s, ¬ ρ s < ρ r → A r s = 0) : A ^ 64 = 0 := by
  have key : ∀ n r s, ¬ (ρ s).val + n ≤ (ρ r).val → (A ^ n) r s = 0 := by
    intro n
    induction n with
    | zero =>
      intro r s hn
      rw [pow_zero, Matrix.one_apply_ne]
      rintro rfl
      omega
    | succ n ih =>
      intro r s hn
      rw [pow_succ, Matrix.mul_apply]
      refine sum_eq_zero fun q _ => ?_
      by_cases h1 : (ρ q).val + n ≤ (ρ r).val
      · rw [h q s (by rw [Fin.lt_def]; omega), mul_zero]
      · rw [ih r q h1, zero_mul]
  ext r s
  exact key 64 r s (by have := (ρ r).isLt; omega)

section chunk

variable (ρ : Fin 64 ≃ Fin 64) (lw kk b k v : ℕ → Fin 64 → ℝ) (S : Tab)

/-- The tokens' read vectors, scaled by the decay before them. -/
def bt : Tab := fun r j => -(kk (ρ r) j * Real.exp (cum lw (ρ r + 1) j - lw (ρ r) j))

/-- Rows of a factor scaled by the inverse decay. -/
def inv (x : ℕ → Fin 64 → ℝ) : Tab := fun s j => x (ρ s) j * Real.exp (-(cum lw (ρ s + 1) j))

/-- Rows of a factor scaled by the decay that remains in the chunk. -/
def rem (x : ℕ → Fin 64 → ℝ) : Tab := fun s j => x (ρ s) j * Real.exp (cum lw 64 j - cum lw (ρ s + 1) j)

/-- Rows of a factor. -/
def row (x : ℕ → Fin 64 → ℝ) : Tab := fun s j => x (ρ s) j

/-- The part of the tokens' products in which the first comes strictly later. -/
def low (X Y : Tab) : Tab := fun r s => if ρ s < ρ r then ∑ j, X r j * Y s j else 0

/-- The tokens' read vectors after solving the chunk's triangular system. -/
def wMat : Tab := tinv (low ρ (bt ρ lw kk) (inv ρ lw b)) * bt ρ lw kk

/-- The tokens' values after solving the chunk's triangular system. -/
def xMat : Tab := tinv (low ρ (bt ρ lw kk) (inv ρ lw b)) * (low ρ (bt ρ lw kk) (inv ρ lw k) * row ρ v)

/-- The chunk's state in matrix form. -/
def fin : Tab := fun i j => S i j * Real.exp (cum lw 64 j)
  + (∑ s, (xMat ρ lw kk b k v s i + ∑ l, S i l * wMat ρ lw kk b s l) * rem ρ lw b s j
    + ∑ s, row ρ v s i * rem ρ lw k s j)

/-- The tokens' reads solve the triangular system. -/
theorem reads (r i : Fin 64) :
    sa lw kk b k v S (ρ r) i = (∑ j, S i j * bt ρ lw kk r j)
      + (∑ s, low ρ (bt ρ lw kk) (inv ρ lw b) r s * sa lw kk b k v S (ρ s) i
      + ∑ s, low ρ (bt ρ lw kk) (inv ρ lw k) r s * v (ρ s) i) := by
  have hsum : ∀ f : ℕ → ℝ, ∑ m ∈ range (ρ r), f m = ∑ s, if ρ s < ρ r then f (ρ s) else 0 := by
    intro f
    rw [Equiv.sum_comp ρ (fun n : Fin 64 => if n < ρ r then f n else 0)]
    refine Eq.trans ?_ (Fin.sum_univ_eq_sum_range (fun n => if n < (ρ r).val then f n else 0) 64).symm
    rw [← sum_filter]
    refine sum_congr ?_ fun _ _ => rfl
    ext n
    have := (ρ r).isLt
    simp only [mem_range, mem_filter]
    omega
  have e : ∀ j, cum lw (ρ r + 1) j - lw (ρ r) j = cum lw (ρ r) j := fun j => by simp [cum, sum_range_succ]
  conv_lhs => unfold sa
  simp only [st_closed, bt, low, inv, e]
  simp only [hsum, add_mul, sum_add_distrib]
  congr 1
  · exact sum_congr rfl fun j _ => by ring
  · simp only [sum_mul]
    rw [sum_comm, ← sum_add_distrib]
    refine sum_congr rfl fun s _ => ?_
    split_ifs with h
    · rw [sum_mul, sum_mul, ← sum_add_distrib]
      refine sum_congr rfl fun j _ => ?_
      rw [sub_eq_add_neg, Real.exp_add]
      ring
    · simp

/-- One chunk in matrix form IS the recurrence over its 64 tokens. -/
theorem fin_eq : fin ρ lw kk b k v S = st lw kk b k v S 64 := by
  set A := low ρ (bt ρ lw kk) (inv ρ lw b) with hA
  have hT : tinv A * (1 - A) = 1 := by
    rw [tinv_mul, pow64 ρ A, sub_zero]
    intro r s h
    simp only [hA, low, if_neg h]
  -- the reads are the solution
  let R : Tab := fun r i => sa lw kk b k v S (ρ r) i
  have hR : (1 - A) * R = bt ρ lw kk * S.transpose + low ρ (bt ρ lw kk) (inv ρ lw k) * row ρ v := by
    rw [sub_mul, one_mul, sub_eq_iff_eq_add]
    ext r i
    have h := reads ρ lw kk b k v S r i
    simp only [Matrix.add_apply, Matrix.mul_apply, Matrix.transpose_apply]
    change sa lw kk b k v S (ρ r) i = _
    rw [h]
    simp only [row, mul_comm (S i _)]
    ring
  have hU : R = xMat ρ lw kk b k v + wMat ρ lw kk b * S.transpose := by
    have : R = tinv A * ((1 - A) * R) := by rw [← mul_assoc, hT, one_mul]
    rw [this, hR, mul_add, ← mul_assoc, add_comm]
    rfl
  have hu : ∀ s i, xMat ρ lw kk b k v s i + ∑ l, S i l * wMat ρ lw kk b s l = sa lw kk b k v S (ρ s) i := by
    intro s i
    have := congrFun (congrFun hU s) i
    simp only [Matrix.add_apply, Matrix.mul_apply, Matrix.transpose_apply] at this
    change sa lw kk b k v S (ρ s) i = _ at this
    rw [this]
    simp only [mul_comm (S i _)]
  ext i j
  rw [st_closed]
  simp only [fin, hu, rem, row]
  congr 1
  rw [← sum_add_distrib, ← Fin.sum_univ_eq_sum_range
    (fun m => (sa lw kk b k v S m i * b m j + v m i * k m j) * Real.exp (cum lw 64 j - cum lw (m + 1) j)) 64]
  refine Eq.trans ?_ (Equiv.sum_comp ρ (fun m : Fin 64 =>
    (sa lw kk b k v S m i * b m j + v m i * k m j) * Real.exp (cum lw 64 j - cum lw (m.val + 1) j)))
  exact sum_congr rfl fun s _ => by ring

end chunk

end Cert.Scan
-- ==== Proof.ScanUnit.lean ====
/- One chunk of one pair of heads, as the scan's kernel computes it: the vector operations, generically in the inputs. -/
module

public import proofs.«01_k».proof.Proof.Gen.Kernel6Ideal.Skeleton
public import Idealize.ShloMosaic.Lib.Pointwise
public import proofs.«01_k».proof.Proof.ScanMath

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

section ops
variable {F : FTy → Type} [FloatOps F]

/-- The zero of the pair's tables. -/
abbrev zf : FVec F S64x128 .f32 := broadcast S64x128 (Scalar.ofBits .f32 0x00000000#32)

/-- The two heads of a pair one above the other, each with the other's lanes cleared. -/
def stk (h0 h1 : IVec S64x128 1) (x : FVec F S64x128 .f32) : FVec F S128x128 .bf16 :=
  concatenate S128x128 0 [⟨S64x128, select h0 (truncf .bf16 x bitsLt_bf16_f32) (broadcast S64x128 (Scalar.ofBits .bf16 0x0000#16))⟩,
    ⟨S64x128, select h1 (truncf .bf16 x bitsLt_bf16_f32) (broadcast S64x128 (Scalar.ofBits .bf16 0x0000#16))⟩] concatenates_S64x128_S64x128_S128x128_d0

/-- A product per head. -/
def mm (h0 h1 : IVec S64x128 1) (x y : FVec F S64x128 .f32) : FVec F S64x128 .f32 :=
  matmul dot_S64x128_S128x128_S64x128_1_0_0_1_n_n none (truncf .bf16 x bitsLt_bf16_f32) (stk h0 h1 y) (constant S64x128 .f32 0x00000000#32)

/-- The tokens' products with the tokens' two factors. -/
def nn (h0 h1 : IVec S64x128 1) (bt rt b k : FVec F S64x128 .f32) : FVec F S128x256 .f32 :=
  matmul dot_S128x128_S256x128_S128x256_1_1_0_0_n_n none
    (truncf .bf16 (concatenate S128x128 0 [⟨S64x128, bt⟩, ⟨S64x128, rt⟩] concatenates_S64x128_S64x128_S128x128_d0) bitsLt_bf16_f32)
    (concatenate S256x128 0 [⟨S128x128, stk h0 h1 b⟩, ⟨S128x128, stk h0 h1 k⟩] concatenates_S128x128_S128x128_S256x128_d0)
    (constant S128x256 .f32 0x00000000#32)

/-- The strictly earlier part of the products with the first factor. -/
def aab (strict : IVec S64x128 1) (n : FVec F S128x256 .f32) : FVec F S64x128 .f32 :=
  select strict (extractStridedSlice S64x128 ![0, 0] n slices_S128x256_o0_0_S64x128) zf

/-- The strictly earlier part of the products with the second factor. -/
def abk (strict : IVec S64x128 1) (n : FVec F S128x256 .f32) : FVec F S64x128 .f32 :=
  select strict (extractStridedSlice S64x128 ![0, 128] n slices_S128x256_o0_128_S64x128) zf

/-- A power and the inverse so far, both times the power. -/
def dbl (h0 h1 : IVec S64x128 1) (n t : FVec F S64x128 .f32) : FVec F S128x128 .f32 :=
  matmul dot_S128x128_S128x128_S128x128_1_0_0_1_n_n none
    (truncf .bf16 (concatenate S128x128 0 [⟨S64x128, n⟩, ⟨S64x128, t⟩] concatenates_S64x128_S64x128_S128x128_d0) bitsLt_bf16_f32)
    (stk h0 h1 n) (constant S128x128 .f32 0x00000000#32)

/-- The next power. -/
def nxN (h0 h1 : IVec S64x128 1) (n t : FVec F S64x128 .f32) : FVec F S64x128 .f32 :=
  extractStridedSlice S64x128 ![0, 0] (dbl h0 h1 n t) slices_S128x128_o0_0_S64x128

/-- The next inverse. -/
def nxT (h0 h1 : IVec S64x128 1) (n t : FVec F S64x128 .f32) : FVec F S64x128 .f32 :=
  addf t (extractStridedSlice S64x128 ![64, 0] (dbl h0 h1 n t) slices_S128x128_o64_0_S64x128)

/-- The doublings from the strictly lower table. -/
def tOf (h0 h1 : IVec S64x128 1) (eye a : FVec F S64x128 .f32) : FVec F S64x128 .f32 :=
  let t0 := addf eye a
  let n0 := mm h0 h1 a a
  let t1 := nxT h0 h1 n0 t0
  let n1 := nxN h0 h1 n0 t0
  let t2 := nxT h0 h1 n1 t1
  let n2 := nxN h0 h1 n1 t1
  let t3 := nxT h0 h1 n2 t2
  let n3 := nxN h0 h1 n2 t2
  let t4 := nxT h0 h1 n3 t3
  let n4 := nxN h0 h1 n3 t3
  addf t4 (mm h0 h1 t4 n4)

/-- The inverse times the read vectors and the value products, side by side. -/
def wx (h0 h1 : IVec S64x128 1) (t bt p : FVec F S64x128 .f32) : FVec F S64x256 .f32 :=
  matmul dot_S64x128_S128x256_S64x256_1_0_0_1_n_n none (truncf .bf16 t bitsLt_bf16_f32)
    (concatenate S128x256 1 [⟨S128x128, stk h0 h1 bt⟩, ⟨S128x128, stk h0 h1 p⟩] concatenates_S128x128_S128x128_S128x256_d1)
    (constant S64x256 .f32 0x00000000#32)

/-- The tokens' reads and values, transposed. -/
def uv (w x v : FVec F S64x128 .f32) (s : FVec F S128x128 .f32) : FVec F S128x128 .f32 :=
  addf (transpose S128x128 [1, 0] (concatenate S128x128 0 [⟨S64x128, x⟩, ⟨S64x128, v⟩] concatenates_S64x128_S64x128_S128x128_d0)
      transposes_S128x128_p1_0_S128x128)
    (matmul dot_S128x128_S128x128_S128x128_1_1_0_0_n_n none (truncf .bf16 s bitsLt_bf16_f32)
      (truncf .bf16 (concatenate S128x128 0 [⟨S64x128, w⟩, ⟨S64x128, zf⟩] concatenates_S64x128_S64x128_S128x128_d0) bitsLt_bf16_f32)
      (constant S128x128 .f32 0x00000000#32))

/-- The new state: the old one decayed, and the tokens' gains within each head. -/
def upd (same : IVec S128x128 1) (ctot : FVec F S1x128 .f32) (s q : FVec F S128x128 .f32) (b k : FVec F S64x128 .f32) : FVec F S128x128 .f32 :=
  addf (mulf s (broadcastTo S128x128 (exp ctot) broadcasts_S1x128_S128x128))
    (select same (matmul dot_S128x128_S128x128_S128x128_1_0_0_1_n_n none (truncf .bf16 q bitsLt_bf16_f32)
      (truncf .bf16 (concatenate S128x128 0 [⟨S64x128, b⟩, ⟨S64x128, k⟩] concatenates_S64x128_S64x128_S128x128_d0) bitsLt_bf16_f32)
      (constant S128x128 .f32 0x00000000#32)) (broadcast S128x128 (Scalar.ofBits .f32 0x00000000#32)))

/-- One chunk of one pair of heads: the state after it. -/
def unit (h0 h1 strict : IVec S64x128 1) (same : IVec S128x128 1) (eye : FVec F S64x128 .f32) (ctot : FVec F S1x128 .f32)
    (r v kk lw c kd bd : FVec F S64x128 .f32) (s : FVec F S128x128 .f32) : FVec F S128x128 .f32 :=
  let g := exp (subf zf c)
  let bt := subf zf (mulf kk (exp (subf c lw)))
  let n := nn h0 h1 bt (mulf r (exp c)) (mulf bd g) (mulf kd g)
  let y := wx h0 h1 (tOf h0 h1 eye (aab strict n)) bt (mm h0 h1 (abk strict n) v)
  let e := exp (subf (broadcastTo S64x128 ctot broadcasts_S1x128_S64x128) c)
  upd same ctot s (uv (extractStridedSlice S64x128 ![0, 0] y slices_S64x256_o0_0_S64x128)
    (extractStridedSlice S64x128 ![0, 128] y slices_S64x256_o0_128_S64x128) v s) (mulf bd e) (mulf kd e)

end ops

/-- Lane `s` of head `h` of a pair. -/
abbrev col (h : Fin 2) (s : Fin 64) : Fin 128 := ⟨64 * h.val + s.val, by omega⟩

/-- A sum over a pair's lanes, head by head. -/
theorem sum_col (f : Fin 128 → EReal) : ∑ x, f x = ∑ h, ∑ s, f (col h s) := by
  show ∑ x : Fin (64 + 64), f x = _
  rw [Fin.sum_univ_add, Fin.sum_univ_two]
  congr 1
  all_goals exact Finset.sum_congr rfl fun s _ => congrArg f (Fin.ext (by simp))

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice by a mask that is `1` where `p` holds. -/
theorem select_if {p : Prop} [Decidable p] (a b : EReal) :
    Scalar.select (α := EReal) (if p then 1#1 else 0#1) a b = if p then a else b := by
  by_cases h : p <;> simp [h, Scalar.select]

/-- What the masks and the unit table of a pair say: which head a lane belongs to, which token comes earlier, which
    lanes belong to the same head. -/
structure Masks (ρ : Fin 64 ≃ Fin 64) (h0 h1 strict : IVec S64x128 1) (same : IVec S128x128 1) (eye : FVec Ideal S64x128 .f32) : Prop where
  zero : ∀ t h j, h0 (ix2 t (col h j)) = if h = 0 then 1#1 else 0#1
  one : ∀ t h j, h1 (ix2 t (col h j)) = if h = 1 then 1#1 else 0#1
  strict : ∀ t h s, strict (ix2 t (col h s)) = if ρ s < ρ t then 1#1 else 0#1
  same : ∀ g i h j, same (ix2 (col g i) (col h j)) = if g = h then 1#1 else 0#1
  eye : ∀ t h s, eye (ix2 t (col h s)) = (((1 : Tab) t s : ℝ) : EReal)

/-- The pair's table `x` holds the real tables `X`, one per head. -/
def Rep (x : FVec Ideal S64x128 .f32) (X : Fin 2 → Tab) : Prop := ∀ h t j, x (ix2 t (col h j)) = ((X h t j : ℝ) : EReal)

/-- The pair's state holds the real states `S`, one per head, and zero across the heads. -/
def RepS (s : FVec Ideal S128x128 .f32) (S : Fin 2 → Tab) : Prop :=
  ∀ g i h j, s (ix2 (col g i) (col h j)) = if g = h then ((S h i j : ℝ) : EReal) else 0

variable {ρ : Fin 64 ≃ Fin 64} {h0 h1 strict : IVec S64x128 1} {same : IVec S128x128 1} {eye : FVec Ideal S64x128 .f32}
  (H : Masks ρ h0 h1 strict same eye)

include H in
/-- The stacked table, entry by entry. -/
theorem stk_apply (x : FVec Ideal S64x128 .f32) (g h : Fin 2) (s j : Fin 64) :
    stk h0 h1 x (ix2 (col g s) (col h j)) = if g = h then x (ix2 s (col h j)) else 0 := by
  have e0 := H.zero s h j
  have e1 := H.one s h j
  match g with
  | 0 =>
    pointwise [stk]
    rw [e0, select_if]
    simp only [eq_comm]
  | 1 =>
    pointwise [stk]
    rw [e1, select_if]
    simp only [eq_comm]

/-- A product per head with the second factor stacked. -/
theorem prod_stk {X Y : Fin 2 → Tab} {y : FVec Ideal S64x128 .f32} (hy : Rep y Y) (f : Fin 128 → EReal) (t : Fin 64) (h : Fin 2) (j : Fin 64)
    (H : Masks ρ h0 h1 strict same eye) (hf : ∀ h s, f (col h s) = ((X h t s : ℝ) : EReal)) :
    (∑ x, f x * stk h0 h1 y (ix2 x (col h j))) = (((X h * Y h) t j : ℝ) : EReal) := by
  rw [sum_col]
  have e : ∀ g s, f (col g s) * stk h0 h1 y (ix2 (col g s) (col h j))
      = (((if g = h then X g t s * Y g s j else 0) : ℝ) : EReal) := by
    intro g s
    rw [stk_apply H, hf g s]
    split_ifs with e
    · subst e
      rw [hy g s j, EReal.coe_mul]
    · rw [mul_zero, EReal.coe_zero]
  simp only [e, ← coe_sum]
  congr 1
  rw [Finset.sum_eq_single h]
  · simp [Matrix.mul_apply]
  · intro g _ hg
    simp [hg]
  · simp

include H in
theorem mm_rep {x y : FVec Ideal S64x128 .f32} {X Y : Fin 2 → Tab} (hx : Rep x X) (hy : Rep y Y) :
    Rep (mm h0 h1 x y) (fun h => X h * Y h) := by
  intro h t j
  refine Eq.trans ?_ (prod_stk hy (fun l => x (ix2 t l)) t h j H (fun g s => hx g t s))
  pointwise [mm]

include H in
theorem nxN_rep {n t : FVec Ideal S64x128 .f32} {N : Fin 2 → Tab} (hn : Rep n N) :
    Rep (nxN h0 h1 n t) (fun h => N h * N h) := by
  intro h r j
  refine Eq.trans ?_ (prod_stk hn (fun l => n (ix2 r l)) r h j H (fun g s => hn g r s))
  pointwise [nxN, dbl]

include H in
theorem nxT_rep {n t : FVec Ideal S64x128 .f32} {N T : Fin 2 → Tab} (hn : Rep n N) (ht : Rep t T) :
    Rep (nxT h0 h1 n t) (fun h => T h + T h * N h) := by
  intro h r j
  show _ = ((T h r j + (T h * N h) r j : ℝ) : EReal)
  rw [EReal.coe_add]
  refine Eq.trans ?_ (congrArg₂ (· + ·) (ht h r j) (prod_stk hn (fun l => t (ix2 r l)) r h j H (fun g s => ht g r s)))
  pointwise [nxT, dbl]

theorem add_rep {x y : FVec Ideal S64x128 .f32} {X Y : Fin 2 → Tab} (hx : Rep x X) (hy : Rep y Y) :
    Rep (addf x y) (fun h => X h + Y h) := by
  intro h t j
  show _ = ((X h t j + Y h t j : ℝ) : EReal)
  rw [EReal.coe_add, ← hx h t j, ← hy h t j]
  rfl

include H in
theorem tOf_rep {a : FVec Ideal S64x128 .f32} {A : Fin 2 → Tab} (ha : Rep a A) : Rep (tOf h0 h1 eye a) (fun h => tinv (A h)) := by
  have he : Rep eye (fun _ => 1) := fun h t s => H.eye t h s
  have t0 := add_rep he ha
  have n0 := mm_rep H ha ha
  have t1 := nxT_rep H n0 t0
  have n1 := nxN_rep H (t := addf eye a) n0
  have t2 := nxT_rep H n1 t1
  have n2 := nxN_rep H (t := nxT h0 h1 (mm h0 h1 a a) (addf eye a)) n1
  have t3 := nxT_rep H n2 t2
  have n3 := nxN_rep H (t := nxT h0 h1 (nxN h0 h1 (mm h0 h1 a a) (addf eye a)) (nxT h0 h1 (mm h0 h1 a a) (addf eye a))) n2
  have t4 := nxT_rep H n3 t3
  have n4 := nxN_rep H (t := nxT h0 h1 (nxN h0 h1 (nxN h0 h1 (mm h0 h1 a a) (addf eye a)) (nxT h0 h1 (mm h0 h1 a a) (addf eye a)))
    (nxT h0 h1 (nxN h0 h1 (mm h0 h1 a a) (addf eye a)) (nxT h0 h1 (mm h0 h1 a a) (addf eye a)))) n3
  exact add_rep t4 (mm_rep H t4 n4)

include H in
/-- The products with the first factor, strictly earlier. -/
theorem aab_rep {bt rt b k : FVec Ideal S64x128 .f32} {BT B : Fin 2 → Tab} (hbt : Rep bt BT) (hb : Rep b B) :
    Rep (aab strict (nn h0 h1 bt rt b k)) (fun h => low ρ (BT h) (B h)) := by
  intro h t s
  have e : nn h0 h1 bt rt b k (ix2 (⟨t.val, by omega⟩ : Fin 128) (⟨64 * h.val + s.val, by omega⟩ : Fin 256))
      = ((∑ j, BT h t j * B h s j : ℝ) : EReal) := by
    have : nn h0 h1 bt rt b k (ix2 (⟨t.val, by omega⟩ : Fin 128) (⟨64 * h.val + s.val, by omega⟩ : Fin 256))
        = ∑ x, bt (ix2 t x) * stk h0 h1 b (ix2 (col h s) x) := by
      pointwise [nn]
      refine Finset.sum_congr rfl fun x _ => ?_
      rw [dif_pos (by omega)]
    rw [this, sum_col]
    have e : ∀ g j, bt (ix2 t (col g j)) * stk h0 h1 b (ix2 (col h s) (col g j))
        = (((if h = g then BT g t j * B g s j else 0) : ℝ) : EReal) := by
      intro g j
      rw [stk_apply H, hbt g t j]
      split_ifs with e
      · rw [hb g s j, EReal.coe_mul]
      · rw [mul_zero, EReal.coe_zero]
    simp only [e, ← coe_sum]
    congr 1
    rw [Finset.sum_eq_single h]
    · simp
    · intro g _ hg
      simp [Ne.symm hg]
    · simp
  have hs := H.strict t h s
  have : aab strict (nn h0 h1 bt rt b k) (ix2 t (col h s)) = Scalar.select (α := EReal) (strict (ix2 t (col h s)))
      (nn h0 h1 bt rt b k (ix2 (⟨t.val, by omega⟩ : Fin 128) (⟨64 * h.val + s.val, by omega⟩ : Fin 256))) 0 := by
    pointwise [aab]
  rw [this, hs, select_if, e]
  show _ = ((if ρ s < ρ t then ∑ j, BT h t j * B h s j else 0 : ℝ) : EReal)
  split_ifs <;> rfl

include H in
/-- The products with the second factor, strictly earlier. -/
theorem abk_rep {bt rt b k : FVec Ideal S64x128 .f32} {BT K : Fin 2 → Tab} (hbt : Rep bt BT) (hk : Rep k K) :
    Rep (abk strict (nn h0 h1 bt rt b k)) (fun h => low ρ (BT h) (K h)) := by
  intro h t s
  have e : nn h0 h1 bt rt b k (ix2 (⟨t.val, by omega⟩ : Fin 128) (⟨128 + (64 * h.val + s.val), by omega⟩ : Fin 256))
      = ((∑ j, BT h t j * K h s j : ℝ) : EReal) := by
    have : nn h0 h1 bt rt b k (ix2 (⟨t.val, by omega⟩ : Fin 128) (⟨128 + (64 * h.val + s.val), by omega⟩ : Fin 256))
        = ∑ x, bt (ix2 t x) * stk h0 h1 k (ix2 (col h s) x) := by
      pointwise [nn]
    rw [this, sum_col]
    have e : ∀ g j, bt (ix2 t (col g j)) * stk h0 h1 k (ix2 (col h s) (col g j))
        = (((if h = g then BT g t j * K g s j else 0) : ℝ) : EReal) := by
      intro g j
      rw [stk_apply H, hbt g t j]
      split_ifs with e
      · rw [hk g s j, EReal.coe_mul]
      · rw [mul_zero, EReal.coe_zero]
    simp only [e, ← coe_sum]
    congr 1
    rw [Finset.sum_eq_single h]
    · simp
    · intro g _ hg
      simp [Ne.symm hg]
    · simp
  have hs := H.strict t h s
  have : abk strict (nn h0 h1 bt rt b k) (ix2 t (col h s)) = Scalar.select (α := EReal) (strict (ix2 t (col h s)))
      (nn h0 h1 bt rt b k (ix2 (⟨t.val, by omega⟩ : Fin 128) (⟨128 + (64 * h.val + s.val), by omega⟩ : Fin 256))) 0 := by
    pointwise [abk]
  rw [this, hs, select_if, e]
  show _ = ((if ρ s < ρ t then ∑ j, BT h t j * K h s j else 0 : ℝ) : EReal)
  split_ifs <;> rfl

include H in
/-- The first half of the solved system. -/
theorem w_rep {t bt p : FVec Ideal S64x128 .f32} {T BT : Fin 2 → Tab} (ht : Rep t T) (hbt : Rep bt BT) :
    Rep (extractStridedSlice S64x128 ![0, 0] (wx h0 h1 t bt p) slices_S64x256_o0_0_S64x128) (fun h => T h * BT h) := by
  intro h r j
  refine Eq.trans ?_ (prod_stk hbt (fun l => t (ix2 r l)) r h j H (fun g s => ht g r s))
  pointwise [wx]
  refine Finset.sum_congr rfl fun x _ => ?_
  rw [dif_pos (by omega)]

include H in
/-- The second half of the solved system. -/
theorem x_rep {t bt p : FVec Ideal S64x128 .f32} {T P : Fin 2 → Tab} (ht : Rep t T) (hp : Rep p P) :
    Rep (extractStridedSlice S64x128 ![0, 128] (wx h0 h1 t bt p) slices_S64x256_o0_128_S64x128) (fun h => T h * P h) := by
  intro h r j
  refine Eq.trans ?_ (prod_stk hp (fun l => t (ix2 r l)) r h j H (fun g s => ht g r s))
  pointwise [wx]

/-- The tokens' reads, transposed. -/
theorem uv_lo {w x v : FVec Ideal S64x128 .f32} {s : FVec Ideal S128x128 .f32} {W X S : Fin 2 → Tab} (hw : Rep w W) (hx : Rep x X) (hS : RepS s S)
    (h : Fin 2) (i q : Fin 64) :
    uv w x v s (ix2 (col h i) (col 0 q)) = ((X h q i + ∑ l, S h i l * W h q l : ℝ) : EReal) := by
  have : uv w x v s (ix2 (col h i) (col 0 q)) = x (ix2 q (col h i)) + ∑ y, s (ix2 (col h i) y) * w (ix2 q y) := by
    pointwise [uv]
  rw [this, hx h q i, sum_col]
  have e : ∀ g l, s (ix2 (col h i) (col g l)) * w (ix2 q (col g l)) = (((if h = g then S g i l * W g q l else 0) : ℝ) : EReal) := by
    intro g l
    rw [hS h i g l, hw g q l]
    split_ifs
    · rw [EReal.coe_mul]
    · rw [zero_mul, EReal.coe_zero]
  simp only [e, ← coe_sum]
  rw [← EReal.coe_add]
  congr 2
  rw [Finset.sum_eq_single h]
  · simp
  · intro g _ hg
    simp [Ne.symm hg]
  · simp

/-- The tokens' values, transposed. -/
theorem uv_hi {w x v : FVec Ideal S64x128 .f32} {s : FVec Ideal S128x128 .f32} {V : Fin 2 → Tab} (hv : Rep v V)
    (h : Fin 2) (i q : Fin 64) : uv w x v s (ix2 (col h i) (col 1 q)) = ((V h q i : ℝ) : EReal) := by
  rw [← hv h q i]
  pointwise [uv]
  simp

include H in
/-- The new state. -/
theorem upd_rep {ctot : FVec Ideal S1x128 .f32} {s q : FVec Ideal S128x128 .f32} {b k : FVec Ideal S64x128 .f32} {S U V B K : Fin 2 → Tab}
    {c : Fin 2 → Fin 64 → ℝ} (hc : ∀ h j, ctot (ix2 0 (col h j)) = ((c h j : ℝ) : EReal)) (hS : RepS s S)
    (hlo : ∀ h i r, q (ix2 (col h i) (col 0 r)) = ((U h r i : ℝ) : EReal))
    (hhi : ∀ h i r, q (ix2 (col h i) (col 1 r)) = ((V h r i : ℝ) : EReal)) (hb : Rep b B) (hk : Rep k K) :
    RepS (upd same ctot s q b k) (fun h i j => S h i j * Real.exp (c h j) + (∑ r, U h r i * B h r j + ∑ r, V h r i * K h r j)) := by
  intro g i h j
  have : upd same ctot s q b k (ix2 (col g i) (col h j)) = s (ix2 (col g i) (col h j)) * Ideal.exp (ctot (ix2 0 (col h j)))
      + Scalar.select (α := EReal) (same (ix2 (col g i) (col h j)))
        (∑ r, q (ix2 (col g i) (col 0 r)) * b (ix2 r (col h j)) + ∑ r, q (ix2 (col g i) (col 1 r)) * k (ix2 r (col h j))) 0 := by
    pointwise [upd]
    have c0 : ∀ r : Fin 64, col 0 r = (⟨r.val, by omega⟩ : Fin 128) := fun r => Fin.ext (by simp)
    have c1 : ∀ r : Fin 64, col 1 r = (⟨64 + r.val, by omega⟩ : Fin 128) := fun r => Fin.ext (by simp)
    simp only [c0, c1]
  rw [this, H.same, select_if, hS g i h j, hc]
  by_cases e : g = h
  · subst e
    simp only [if_true, hlo, hhi, hb g _ j, hk g _ j, Ideal.exp_coe, ← EReal.coe_mul, ← coe_sum, ← EReal.coe_add]
  · simp [e]

section whole

variable {lwT kkT bT kT vT : Fin 2 → ℕ → Fin 64 → ℝ} {S : Fin 2 → Tab}

/-- A table of one factor's rows times an exponential. -/
theorem mul_exp_rep {x e : FVec Ideal S64x128 .f32} {X E : Fin 2 → Tab} (hx : Rep x X) (he : Rep e E) :
    Rep (mulf x (exp e)) (fun h t j => X h t j * Real.exp (E h t j)) := by
  intro h t j
  show x (ix2 t (col h j)) * Ideal.exp (e (ix2 t (col h j))) = _
  rw [hx h t j, he h t j, Ideal.exp_coe, EReal.coe_mul]

theorem sub_rep {x y : FVec Ideal S64x128 .f32} {X Y : Fin 2 → Tab} (hx : Rep x X) (hy : Rep y Y) :
    Rep (subf x y) (fun h t j => X h t j - Y h t j) := by
  intro h t j
  show x (ix2 t (col h j)) - y (ix2 t (col h j)) = _
  rw [hx h t j, hy h t j, EReal.coe_sub]

theorem zf_rep : Rep zf (fun _ _ _ => 0) := by
  intro h t j
  show Ideal.ofBits .f32 0x00000000#32 = _
  rw [Ideal.ofBits_zero_f32, EReal.coe_zero]

theorem Rep.cong {x : FVec Ideal S64x128 .f32} {X Y : Fin 2 → Tab} (hx : Rep x X) (h : ∀ g t j, X g t j = Y g t j) : Rep x Y :=
  fun g t j => by rw [hx g t j, h g t j]

include H in
/-- The state after the chunk, from the solved system. -/
theorem upd_fin {ctot : FVec Ideal S1x128 .f32} {w x v b k : FVec Ideal S64x128 .f32} {s : FVec Ideal S128x128 .f32}
    (ht : ∀ h j, ctot (ix2 0 (col h j)) = ((cum (lwT h) 64 j : ℝ) : EReal)) (hS : RepS s S)
    (hv : Rep v (fun h => row ρ (vT h))) (hw : Rep w (fun h => wMat ρ (lwT h) (kkT h) (bT h)))
    (hx : Rep x (fun h => xMat ρ (lwT h) (kkT h) (bT h) (kT h) (vT h)))
    (hb : Rep b (fun h => rem ρ (lwT h) (bT h))) (hk : Rep k (fun h => rem ρ (lwT h) (kT h))) :
    RepS (upd same ctot s (uv w x v s) b k) (fun h => st (lwT h) (kkT h) (bT h) (kT h) (vT h) (S h) 64) := by
  have hu := upd_rep H ht hS (fun h i q => uv_lo (v := v) hw hx hS h i q) (fun h i q => uv_hi (w := w) (x := x) (s := s) hv h i q) hb hk
  intro g i h j
  refine (hu g i h j).trans ?_
  exact congrArg (fun y : Tab => if g = h then ((y i j : ℝ) : EReal) else 0)
    (fin_eq ρ (lwT h) (kkT h) (bT h) (kT h) (vT h) (S h))

include H in
/-- One chunk of one pair of heads IS the recurrence over the chunk's 64 tokens, head by head. -/
theorem unit_rep {ctot : FVec Ideal S1x128 .f32} {r v kk lw c kd bd : FVec Ideal S64x128 .f32} {s : FVec Ideal S128x128 .f32}
    (hv : Rep v (fun h => row ρ (vT h))) (hkk : Rep kk (fun h => row ρ (kkT h))) (hlw : Rep lw (fun h => row ρ (lwT h)))
    (hk : Rep kd (fun h => row ρ (kT h))) (hb : Rep bd (fun h => row ρ (bT h)))
    (hc : Rep c (fun h t j => cum (lwT h) (ρ t + 1) j)) (ht : ∀ h j, ctot (ix2 0 (col h j)) = ((cum (lwT h) 64 j : ℝ) : EReal))
    (hS : RepS s S) :
    RepS (unit h0 h1 strict same eye ctot r v kk lw c kd bd s)
      (fun h => st (lwT h) (kkT h) (bT h) (kT h) (vT h) (S h) 64) := by
  have hg := sub_rep zf_rep hc
  have hbt : Rep (subf zf (mulf kk (exp (subf c lw)))) (fun h => bt ρ (lwT h) (kkT h)) :=
    (sub_rep zf_rep (mul_exp_rep hkk (sub_rep hc hlw))).cong fun h t j => by simp [bt, row]
  have hbi : Rep (mulf bd (exp (subf zf c))) (fun h => Cert.Scan.inv ρ (lwT h) (bT h)) :=
    (mul_exp_rep hb hg).cong fun h t j => by simp [Cert.Scan.inv, row]
  have hki : Rep (mulf kd (exp (subf zf c))) (fun h => Cert.Scan.inv ρ (lwT h) (kT h)) :=
    (mul_exp_rep hk hg).cong fun h t j => by simp [Cert.Scan.inv, row]
  have hct : Rep (broadcastTo S64x128 ctot broadcasts_S1x128_S64x128) (fun h _ j => cum (lwT h) 64 j) := by
    intro h t j
    refine Eq.trans ?_ (ht h j)
    pointwise
  have he := sub_rep hct hc
  have hA := aab_rep H (rt := mulf r (exp c)) (k := mulf kd (exp (subf zf c))) hbt hbi
  have hB := abk_rep H (rt := mulf r (exp c)) (b := mulf bd (exp (subf zf c))) hbt hki
  have hT := tOf_rep H hA
  have hP := mm_rep H hB hv
  have hw : Rep _ (fun h => wMat ρ (lwT h) (kkT h) (bT h)) := w_rep H (p := mm h0 h1 (abk strict (nn h0 h1 (subf zf (mulf kk (exp (subf c lw))))
    (mulf r (exp c)) (mulf bd (exp (subf zf c))) (mulf kd (exp (subf zf c))))) v) hT hbt
  have hx : Rep _ (fun h => xMat ρ (lwT h) (kkT h) (bT h) (kT h) (vT h)) := x_rep H (bt := subf zf (mulf kk (exp (subf c lw)))) hT hP
  have hbr : Rep _ (fun h => rem ρ (lwT h) (bT h)) := mul_exp_rep hb he
  have hkr : Rep _ (fun h => rem ρ (lwT h) (kT h)) := mul_exp_rep hk he
  exact upd_fin H ht hS hv hw hx hbr hkr

end whole

end Cert.Kernel6Ideal.Scan
-- ==== Proof.ScanMasks.lean ====
/- The masks of a pair of heads and the running sums of the logarithms, as the scan's kernel makes them. -/
module

public import proofs.«01_k».proof.Proof.ScanUnit

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

/-- The mask of a pair's first head. -/
abbrev HM0 : IVec S64x128 1 := k0_pay47 (iota .tc S64x128 32 [1] iota_S64x128_d1_w32) 64#32 k0_pay45 k0_pay46
/-- The mask of a pair's second head. -/
abbrev HM1 : IVec S64x128 1 := k0_pay48 (iota .tc S64x128 32 [1] iota_S64x128_d1_w32)
/-- The mask of equal heads. -/
abbrev SM : IVec S128x128 1 := k0_pay51 (iota .tc S128x128 32 [0] iota_S128x128_d0_w32) 64#32 k0_pay49 k0_pay50
/-- The mask of earlier tokens, forwards. -/
abbrev SF : IVec S64x128 1 := k0_pay52 (iota .tc S64x128 32 [0] iota_S64x128_d0_w32) k0_pay43
/-- The mask of earlier tokens, backwards. -/
abbrev SB : IVec S64x128 1 := k0_pay54 (iota .tc S64x128 32 [0] iota_S64x128_d0_w32) k0_pay43

theorem hm0 (t : Fin 64) (h : Fin 2) (j : Fin 64) : HM0 (ix2 t (col h j)) = if h = 0 then 1#1 else 0#1 := by
  pointwise [k0_pay47, k0_pay45, k0_pay46]
  revert h j
  decide +kernel

theorem hm1 (t : Fin 64) (h : Fin 2) (j : Fin 64) : HM1 (ix2 t (col h j)) = if h = 1 then 1#1 else 0#1 := by
  pointwise [k0_pay48]
  revert h j
  decide +kernel

theorem sm (g : Fin 2) (i : Fin 64) (h : Fin 2) (j : Fin 64) : SM (ix2 (col g i) (col h j)) = if g = h then 1#1 else 0#1 := by
  pointwise [k0_pay51, k0_pay49, k0_pay50]
  revert g i h j
  decide +kernel

theorem pos (t : Fin 64) (h : Fin 2) (s : Fin 64) : k0_pay43 (ix2 t (col h s)) = BitVec.ofNat 32 s.val := by
  pointwise [k0_pay43]
  revert h s
  decide +kernel

theorem sf (t : Fin 64) (h : Fin 2) (s : Fin 64) : SF (ix2 t (col h s)) = if s < t then 1#1 else 0#1 := by
  have e : SF (ix2 t (col h s)) = IntOp.cmpi .slt (k0_pay43 (ix2 t (col h s))) (BitVec.ofNat 32 t.val) := by
    pointwise [k0_pay52]
  rw [e, pos]
  clear e
  revert t s
  decide +kernel

theorem sb (t : Fin 64) (h : Fin 2) (s : Fin 64) : SB (ix2 t (col h s)) = if Fin.rev s < Fin.rev t then 1#1 else 0#1 := by
  have e : SB (ix2 t (col h s)) = IntOp.cmpi .sgt (k0_pay43 (ix2 t (col h s))) (BitVec.ofNat 32 t.val) := by
    pointwise [k0_pay54]
  rw [e, pos]
  clear e
  revert t s
  decide +kernel

/-- A bit as a float. -/
theorem bit_if {p : Prop} [Decidable p] :
    (FloatOps.sitofp (F := Ideal) .f32 (BitVec.setWidth 32 (if p then 1#1 else 0#1)) : EReal) = (((if p then 1 else 0) : ℝ) : EReal) := by
  by_cases h : p
  · simp only [if_pos h]
    show (((BitVec.setWidth 32 1#1).toInt : ℝ) : EReal) = _
    have : (BitVec.setWidth 32 1#1).toInt = 1 := by decide
    rw [this, Int.cast_one]
  · simp only [if_neg h]
    show (((BitVec.setWidth 32 0#1).toInt : ℝ) : EReal) = _
    have : (BitVec.setWidth 32 0#1).toInt = 0 := by decide
    rw [this, Int.cast_zero]

/-- A three-part sum of products with bits, of which the second and third parts vanish. -/
theorem sum3 (p : Fin 64 → Prop) [DecidablePred p] (f : Fin 64 → EReal) (L : Fin 64 → ℝ) (hf : ∀ s, f s = ((L s : ℝ) : EReal)) :
    (∑ s, (((if p s then 1 else 0) : ℝ) : EReal) * f s + ∑ s, (((if p s then 1 else 0) : ℝ) : EReal) * (f s - f s))
      + ∑ s, (((if p s then 1 else 0) : ℝ) : EReal) * (f s - f s - (f s - f s)) = ((∑ s, if p s then L s else 0 : ℝ) : EReal) := by
  simp only [hf, ← EReal.coe_sub, ← EReal.coe_mul, ← coe_sum, ← EReal.coe_add]
  congr 1
  simp

theorem eyeT (t : Fin 64) (h : Fin 2) (s : Fin 64) : (k0_pay44 (F := Ideal)) (ix2 t (col h s)) = (((1 : Tab) t s : ℝ) : EReal) := by
  have e : IntOp.cmpi .eq (k0_pay43 (ix2 t (col h s))) (BitVec.ofNat 32 t.val) = if t = s then 1#1 else 0#1 := by
    rw [pos]
    revert t s
    decide +kernel
  pointwise [k0_pay44]
  rw [e, bit_if, Matrix.one_apply]

/-- Forwards: a row's rank is its index. -/
theorem masksF : Masks (Equiv.refl _) HM0 HM1 SF SM (k0_pay44 (F := Ideal)) :=
  ⟨hm0, hm1, sf, sm, eyeT⟩

/-- Backwards: a row's rank is its index from the end. -/
theorem masksB : Masks Fin.revPerm HM0 HM1 SB SM (k0_pay44 (F := Ideal)) :=
  ⟨hm0, hm1, sb, sm, eyeT⟩

/-- The running sums forwards. -/
abbrev CF {F : FTy → Type} [FloatOps F] (x : Vec F S1x64x1024 .f32) : FVec F S1x64x1024 .f32 := k0_pay34 x
/-- The running sums backwards. -/
abbrev CB {F : FTy → Type} [FloatOps F] (x : Vec F S1x64x1024 .f32) : FVec F S1x64x1024 .f32 :=
  k0_pay42 (k0_pay35 (F := F)) (k0_pay39 x) (k0_pay40 x) (k0_pay41 x) (constant S64x1024 .f32 0x00000000#32)

theorem CF_apply (x : Vec Ideal S1x64x1024 .f32) (L : Fin 64 → Fin 1024 → ℝ) (hx : ∀ t j, x (ix3 0 t j) = ((L t j : ℝ) : EReal))
    (t : Fin 64) (j : Fin 1024) : CF x (ix3 0 t j) = ((∑ s, if s ≤ t then L s j else 0 : ℝ) : EReal) := by
  have e : ∀ s : Fin 64, IntOp.cmpi .sle (BitVec.ofNat 32 s.val) (BitVec.ofNat 32 t.val) = if s ≤ t then 1#1 else 0#1 := by
    revert t
    decide +kernel
  pointwise [k0_pay34]
  simp only [e, bit_if]
  exact sum3 (fun s => s ≤ t) (fun s => x (ix3 0 s j)) (fun s => L s j) (fun s => hx s j)

theorem CB_apply (x : Vec Ideal S1x64x1024 .f32) (L : Fin 64 → Fin 1024 → ℝ) (hx : ∀ t j, x (ix3 0 t j) = ((L t j : ℝ) : EReal))
    (t : Fin 64) (j : Fin 1024) : CB x (ix3 0 t j) = ((∑ s, if t ≤ s then L s j else 0 : ℝ) : EReal) := by
  have e : ∀ s : Fin 64, IntOp.cmpi .sge (BitVec.ofNat 32 s.val) (BitVec.ofNat 32 t.val) = if t ≤ s then 1#1 else 0#1 := by
    revert t
    decide +kernel
  pointwise [k0_pay42, k0_pay35, k0_pay39, k0_pay40, k0_pay41, k0_pay38, k0_pay37, k0_pay36]
  simp only [e, bit_if]
  exact sum3 (fun s => t ≤ s) (fun s => x (ix3 0 s j)) (fun s => L s j) (fun s => hx s j)

end Cert.Kernel6Ideal.Scan
-- ==== Proof.ScanPieces.lean ====
/- What one grid point of the scan's kernel stores in the carried state, as the update of a pair of heads. -/
module

public import proofs.«01_k».proof.Proof.Gen.Kernel6Ideal.Frame
public import proofs.«01_k».proof.Proof.ScanMasks
public import Idealize.ShloMosaic.Lib.Pipeline.Value

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

variable {F : FTy → Type} [FloatOps F]

/-- The lanes of pair `p` in a block of tokens. -/
def R2 (p : Fin 8) : Rect S64x1024 := Rect.unit (s := S64x1024) ![0, 128 * p.val] S64x128.size (by
  intro a; match a with | ⟨0, _⟩ => show 0 + 64 ≤ 64; omega | ⟨1, _⟩ => show 128 * p.val + 128 ≤ 1024; omega)
/-- The lanes of pair `p` in one direction's block of tokens. -/
def R3 (p : Fin 8) : Rect S1x64x1024 := Rect.unit (s := S1x64x1024) ![0, 0, 128 * p.val] S1x64x128.size (by
  intro a; match a with | ⟨0, _⟩ => show 0 + 1 ≤ 1; omega | ⟨1, _⟩ => show 0 + 64 ≤ 64; omega | ⟨2, _⟩ => show 128 * p.val + 128 ≤ 1024; omega)
/-- The lanes of pair `p` in the running sums of direction `d`. -/
def RC (d : Fin 2) (p : Fin 8) : Rect S2x64x1024 := Rect.unit (s := S2x64x1024) ![d.val, 0, 128 * p.val] S1x64x128.size (by
  intro a; match a with | ⟨0, _⟩ => show d.val + 1 ≤ 2; omega | ⟨1, _⟩ => show 0 + 64 ≤ 64; omega | ⟨2, _⟩ => show 128 * p.val + 128 ≤ 1024; omega)
/-- The state of pair `p` in direction `d`. -/
def RS (d : Fin 2) (p : Fin 8) : Rect S2x8x128x128 := Rect.unit (s := S2x8x128x128) ![d.val, p.val, 0, 0] S1x1x128x128.size (by
  intro a; match a with | ⟨0, _⟩ => show d.val + 1 ≤ 2; omega | ⟨1, _⟩ => show p.val + 1 ≤ 8; omega | ⟨2, _⟩ => show 0 + 128 ≤ 128; omega | ⟨3, _⟩ => show 0 + 128 ≤ 128; omega)

/-- The forward update of a pair. -/
def stepF (r v : Vec F S64x128 .bf16) (kk : Vec F S64x128 .f32) (lw kd bd c : Vec F S1x64x128 .f32) (s : Vec F S1x1x128x128 .f32) :
    Vec F S1x1x128x128 .f32 :=
  shapeCast S1x1x128x128 (unit HM0 HM1 SF SM k0_pay44
    (extractStridedSlice S1x128 ![63, 0] (shapeCast S64x128 c shapeCasts_S1x64x128_S64x128) slices_S64x128_o63_0_S1x128)
    (extf .f32 r bitsLt_bf16_f32) (extf .f32 v bitsLt_bf16_f32) kk (shapeCast S64x128 lw shapeCasts_S1x64x128_S64x128)
    (shapeCast S64x128 c shapeCasts_S1x64x128_S64x128) (shapeCast S64x128 kd shapeCasts_S1x64x128_S64x128)
    (shapeCast S64x128 bd shapeCasts_S1x64x128_S64x128) (shapeCast S128x128 s shapeCasts_S1x1x128x128_S128x128))
    shapeCasts_S128x128_S1x1x128x128

/-- The backward update of a pair. -/
def stepB (r v : Vec F S64x128 .bf16) (kk : Vec F S64x128 .f32) (lw kd bd c : Vec F S1x64x128 .f32) (s : Vec F S1x1x128x128 .f32) :
    Vec F S1x1x128x128 .f32 :=
  shapeCast S1x1x128x128 (unit HM0 HM1 SB SM k0_pay44
    (extractStridedSlice S1x128 ![0, 0] (shapeCast S64x128 c shapeCasts_S1x64x128_S64x128) slices_S64x128_o0_0_S1x128)
    (extf .f32 r bitsLt_bf16_f32) (extf .f32 v bitsLt_bf16_f32) kk (shapeCast S64x128 lw shapeCasts_S1x64x128_S64x128)
    (shapeCast S64x128 c shapeCasts_S1x64x128_S64x128) (shapeCast S64x128 kd shapeCasts_S1x64x128_S64x128)
    (shapeCast S64x128 bd shapeCasts_S1x64x128_S64x128) (shapeCast S128x128 s shapeCasts_S1x1x128x128_S128x128))
    shapeCasts_S128x128_S1x1x128x128

/-- The whole buffer of running sums. -/
def sums (a b : Vec F S1x64x1024 .f32) : List (View.Piece (Elt F) S2x64x1024 .f32) :=
  [⟨Rect.unit (s := S2x64x1024) ![1, 0, 0] S1x64x1024.size inb_S2x64x1024_S1x64x1024_1_0_0, CB b⟩,
    ⟨Rect.unit (s := S2x64x1024) ![0, 0, 0] S1x64x1024.size inb_S2x64x1024_S1x64x1024_0_0_0, CF a⟩]

/-- The stores of all pairs, the last first: `f` forwards and `g` backwards. -/
def pcs (f g : Fin 8 → Vec F S1x1x128x128 .f32) : List (View.Piece (Elt F) S2x8x128x128 .f32) :=
  [⟨RS 1 7, g 7⟩, ⟨RS 0 7, f 7⟩, ⟨RS 1 6, g 6⟩, ⟨RS 0 6, f 6⟩, ⟨RS 1 5, g 5⟩, ⟨RS 0 5, f 5⟩, ⟨RS 1 4, g 4⟩, ⟨RS 0 4, f 4⟩,
    ⟨RS 1 3, g 3⟩, ⟨RS 0 3, f 3⟩, ⟨RS 1 2, g 2⟩, ⟨RS 0 2, f 2⟩, ⟨RS 1 1, g 1⟩, ⟨RS 0 1, f 1⟩, ⟨RS 1 0, g 0⟩, ⟨RS 0 0, f 0⟩]

/-- The stores of a sequence's first grid point: the state starts at zero. -/
theorem piecesA (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : cond0_0 i) (hc1 : ¬cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11).2.2.2.1
    = (pcs (fun p => stepF (View.readAt (Elt F) arg2.view (R2 p).toLoadRect (harg2.unread x0)) (View.readAt (Elt F) arg3.view (R2 p).toLoadRect (harg3.unread x1)) (View.readAt (Elt F) arg4.view (R2 p).toLoadRect (harg4.unread x2)) (View.readAt (Elt F) arg5.view (R3 p).toLoadRect (harg5.unread x3)) (View.readAt (Elt F) arg6.view (R3 p).toLoadRect (harg6.unread x4)) (View.readAt (Elt F) arg7.view (R3 p).toLoadRect (harg7.unread x5))
      (arg18.view.readCov (sums (View.readAt (Elt F) arg5.view (Rect.unit (s := S1x64x1024) ![0, 0, 0] S1x64x1024.size inb_S1x64x1024_S1x64x1024_0_0_0).toLoadRect (harg5.unread x3)) (View.readAt (Elt F) arg11.view (Rect.unit (s := S1x64x1024) ![0, 0, 0] S1x64x1024.size inb_S1x64x1024_S1x64x1024_0_0_0).toLoadRect (harg11.unread x9))) (RC 0 p).toLoadRect) (arg17.view.readCov [⟨Rect.unit (s := S2x8x128x128) ![0, 0, 0, 0] S2x8x128x128.size inb_S2x8x128x128_S2x8x128x128_0_0_0_0, k0_pay33⟩] (RS 0 p).toLoadRect))
    (fun p => stepB (View.readAt (Elt F) arg8.view (R2 p).toLoadRect (harg8.unread x6)) (View.readAt (Elt F) arg9.view (R2 p).toLoadRect (harg9.unread x7)) (View.readAt (Elt F) arg10.view (R2 p).toLoadRect (harg10.unread x8)) (View.readAt (Elt F) arg11.view (R3 p).toLoadRect (harg11.unread x9)) (View.readAt (Elt F) arg12.view (R3 p).toLoadRect (harg12.unread x10)) (View.readAt (Elt F) arg13.view (R3 p).toLoadRect (harg13.unread x11))
      (arg18.view.readCov (sums (View.readAt (Elt F) arg5.view (Rect.unit (s := S1x64x1024) ![0, 0, 0] S1x64x1024.size inb_S1x64x1024_S1x64x1024_0_0_0).toLoadRect (harg5.unread x3)) (View.readAt (Elt F) arg11.view (Rect.unit (s := S1x64x1024) ![0, 0, 0] S1x64x1024.size inb_S1x64x1024_S1x64x1024_0_0_0).toLoadRect (harg11.unread x9))) (RC 1 p).toLoadRect) (arg17.view.readCov [⟨Rect.unit (s := S2x8x128x128) ![0, 0, 0, 0] S2x8x128x128.size inb_S2x8x128x128_S2x8x128x128_0_0_0_0, k0_pay33⟩] (RS 1 p).toLoadRect))) ++
      [⟨Rect.unit (s := S2x8x128x128) ![0, 0, 0, 0] S2x8x128x128.size inb_S2x8x128x128_S2x8x128x128_0_0_0_0, k0_pay33⟩] := by
  unfold kernelRun0_A
  dsimp only
  sl_unfold_words
  rfl

/-- The stores of a middle grid point. -/
theorem piecesB (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : ¬cond0_0 i) (hc1 : ¬cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) (xs0 : Vec F S2x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0).2.2.2.1
    = pcs (fun p => stepF (View.readAt (Elt F) arg2.view (R2 p).toLoadRect (harg2.unread x0)) (View.readAt (Elt F) arg3.view (R2 p).toLoadRect (harg3.unread x1)) (View.readAt (Elt F) arg4.view (R2 p).toLoadRect (harg4.unread x2)) (View.readAt (Elt F) arg5.view (R3 p).toLoadRect (harg5.unread x3)) (View.readAt (Elt F) arg6.view (R3 p).toLoadRect (harg6.unread x4)) (View.readAt (Elt F) arg7.view (R3 p).toLoadRect (harg7.unread x5))
      (arg18.view.readCov (sums (View.readAt (Elt F) arg5.view (Rect.unit (s := S1x64x1024) ![0, 0, 0] S1x64x1024.size inb_S1x64x1024_S1x64x1024_0_0_0).toLoadRect (harg5.unread x3)) (View.readAt (Elt F) arg11.view (Rect.unit (s := S1x64x1024) ![0, 0, 0] S1x64x1024.size inb_S1x64x1024_S1x64x1024_0_0_0).toLoadRect (harg11.unread x9))) (RC 0 p).toLoadRect) (View.readAt (Elt F) arg17.view (RS 0 p).toLoadRect (harg17.unread xs0)))
    (fun p => stepB (View.readAt (Elt F) arg8.view (R2 p).toLoadRect (harg8.unread x6)) (View.readAt (Elt F) arg9.view (R2 p).toLoadRect (harg9.unread x7)) (View.readAt (Elt F) arg10.view (R2 p).toLoadRect (harg10.unread x8)) (View.readAt (Elt F) arg11.view (R3 p).toLoadRect (harg11.unread x9)) (View.readAt (Elt F) arg12.view (R3 p).toLoadRect (harg12.unread x10)) (View.readAt (Elt F) arg13.view (R3 p).toLoadRect (harg13.unread x11))
      (arg18.view.readCov (sums (View.readAt (Elt F) arg5.view (Rect.unit (s := S1x64x1024) ![0, 0, 0] S1x64x1024.size inb_S1x64x1024_S1x64x1024_0_0_0).toLoadRect (harg5.unread x3)) (View.readAt (Elt F) arg11.view (Rect.unit (s := S1x64x1024) ![0, 0, 0] S1x64x1024.size inb_S1x64x1024_S1x64x1024_0_0_0).toLoadRect (harg11.unread x9))) (RC 1 p).toLoadRect) (View.readAt (Elt F) arg17.view (RS 1 p).toLoadRect (harg17.unread xs0))) := by
  unfold kernelRun0_B
  dsimp only
  sl_unfold_words
  rfl

/-- The stores of a sequence's last grid point. -/
theorem piecesC (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : ¬cond0_0 i) (hc1 : cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) (xs0 : Vec F S2x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0).2.2.2.1
    = pcs (fun p => stepF (View.readAt (Elt F) arg2.view (R2 p).toLoadRect (harg2.unread x0)) (View.readAt (Elt F) arg3.view (R2 p).toLoadRect (harg3.unread x1)) (View.readAt (Elt F) arg4.view (R2 p).toLoadRect (harg4.unread x2)) (View.readAt (Elt F) arg5.view (R3 p).toLoadRect (harg5.unread x3)) (View.readAt (Elt F) arg6.view (R3 p).toLoadRect (harg6.unread x4)) (View.readAt (Elt F) arg7.view (R3 p).toLoadRect (harg7.unread x5))
      (arg18.view.readCov (sums (View.readAt (Elt F) arg5.view (Rect.unit (s := S1x64x1024) ![0, 0, 0] S1x64x1024.size inb_S1x64x1024_S1x64x1024_0_0_0).toLoadRect (harg5.unread x3)) (View.readAt (Elt F) arg11.view (Rect.unit (s := S1x64x1024) ![0, 0, 0] S1x64x1024.size inb_S1x64x1024_S1x64x1024_0_0_0).toLoadRect (harg11.unread x9))) (RC 0 p).toLoadRect) (View.readAt (Elt F) arg17.view (RS 0 p).toLoadRect (harg17.unread xs0)))
    (fun p => stepB (View.readAt (Elt F) arg8.view (R2 p).toLoadRect (harg8.unread x6)) (View.readAt (Elt F) arg9.view (R2 p).toLoadRect (harg9.unread x7)) (View.readAt (Elt F) arg10.view (R2 p).toLoadRect (harg10.unread x8)) (View.readAt (Elt F) arg11.view (R3 p).toLoadRect (harg11.unread x9)) (View.readAt (Elt F) arg12.view (R3 p).toLoadRect (harg12.unread x10)) (View.readAt (Elt F) arg13.view (R3 p).toLoadRect (harg13.unread x11))
      (arg18.view.readCov (sums (View.readAt (Elt F) arg5.view (Rect.unit (s := S1x64x1024) ![0, 0, 0] S1x64x1024.size inb_S1x64x1024_S1x64x1024_0_0_0).toLoadRect (harg5.unread x3)) (View.readAt (Elt F) arg11.view (Rect.unit (s := S1x64x1024) ![0, 0, 0] S1x64x1024.size inb_S1x64x1024_S1x64x1024_0_0_0).toLoadRect (harg11.unread x9))) (RC 1 p).toLoadRect) (View.readAt (Elt F) arg17.view (RS 1 p).toLoadRect (harg17.unread xs0))) := by
  unfold kernelRun0_C
  dsimp only
  sl_unfold_words
  rfl

/-- The state of one head: half `h` of pair `p` in direction `d`. -/
def RD (d : Fin 2) (p : Fin 8) (h : Fin 2) : Rect S2x8x128x128 :=
  Rect.unit (s := S2x8x128x128) ![d.val, p.val, 64 * h.val, 64 * h.val] S1x1x64x64.size (by
    intro a
    match a with
    | ⟨0, _⟩ => show d.val + 1 ≤ 2; omega
    | ⟨1, _⟩ => show p.val + 1 ≤ 8; omega
    | ⟨2, _⟩ => show 64 * h.val + 64 ≤ 128; omega
    | ⟨3, _⟩ => show 64 * h.val + 64 ≤ 128; omega)

/-- Where it goes among a sequence's final states. -/
def RH (d : Fin 2) (p : Fin 8) (h : Fin 2) : Rect S1x2x16x64x64 :=
  Rect.unit (s := S1x2x16x64x64) ![0, d.val, 2 * p.val + h.val, 0, 0] S1x1x1x64x64.size (by
    intro a
    match a with
    | ⟨0, _⟩ => show 0 + 1 ≤ 1; omega
    | ⟨1, _⟩ => show d.val + 1 ≤ 2; omega
    | ⟨2, _⟩ => show 2 * p.val + h.val + 1 ≤ 16; omega
    | ⟨3, _⟩ => show 0 + 64 ≤ 64; omega
    | ⟨4, _⟩ => show 0 + 64 ≤ 64; omega)

/-- One head's final state, in the shape it is stored in. -/
def blk (x : Vec F S1x1x64x64 .f32) : Vec F S1x1x1x64x64 .f32 :=
  shapeCast S1x1x1x64x64 (shapeCast S64x64 x shapeCasts_S1x1x64x64_S64x64) shapeCasts_S64x64_S1x1x1x64x64

/-- The stores of the final states, the last first. -/
def fins (f : Fin 2 → Fin 8 → Fin 2 → Vec F S1x1x64x64 .f32) : List (View.Piece (Elt F) S1x2x16x64x64 .f32) :=
  [⟨RH 1 7 1, blk (f 1 7 1)⟩, ⟨RH 1 7 0, blk (f 1 7 0)⟩, ⟨RH 1 6 1, blk (f 1 6 1)⟩, ⟨RH 1 6 0, blk (f 1 6 0)⟩,
    ⟨RH 1 5 1, blk (f 1 5 1)⟩, ⟨RH 1 5 0, blk (f 1 5 0)⟩, ⟨RH 1 4 1, blk (f 1 4 1)⟩, ⟨RH 1 4 0, blk (f 1 4 0)⟩,
    ⟨RH 1 3 1, blk (f 1 3 1)⟩, ⟨RH 1 3 0, blk (f 1 3 0)⟩, ⟨RH 1 2 1, blk (f 1 2 1)⟩, ⟨RH 1 2 0, blk (f 1 2 0)⟩,
    ⟨RH 1 1 1, blk (f 1 1 1)⟩, ⟨RH 1 1 0, blk (f 1 1 0)⟩, ⟨RH 1 0 1, blk (f 1 0 1)⟩, ⟨RH 1 0 0, blk (f 1 0 0)⟩,
    ⟨RH 0 7 1, blk (f 0 7 1)⟩, ⟨RH 0 7 0, blk (f 0 7 0)⟩, ⟨RH 0 6 1, blk (f 0 6 1)⟩, ⟨RH 0 6 0, blk (f 0 6 0)⟩,
    ⟨RH 0 5 1, blk (f 0 5 1)⟩, ⟨RH 0 5 0, blk (f 0 5 0)⟩, ⟨RH 0 4 1, blk (f 0 4 1)⟩, ⟨RH 0 4 0, blk (f 0 4 0)⟩,
    ⟨RH 0 3 1, blk (f 0 3 1)⟩, ⟨RH 0 3 0, blk (f 0 3 0)⟩, ⟨RH 0 2 1, blk (f 0 2 1)⟩, ⟨RH 0 2 0, blk (f 0 2 0)⟩,
    ⟨RH 0 1 1, blk (f 0 1 1)⟩, ⟨RH 0 1 0, blk (f 0 1 0)⟩, ⟨RH 0 0 1, blk (f 0 0 1)⟩, ⟨RH 0 0 0, blk (f 0 0 0)⟩]

/-- The stores of the final states, off the state just stored. -/
theorem piecesH (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : ¬cond0_0 i) (hc1 : cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) (xs0 : Vec F S2x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0).2.2.1
    = fins (fun d q h => arg17.view.readCov (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0).2.2.2.1
      (RD d q h).toLoadRect) := by
  unfold kernelRun0_C
  dsimp only
  sl_unfold_words
  rfl

end Cert.Kernel6Ideal.Scan

end
-- ==== Proof.ScanPoint.lean ====
/- What one grid point of the scan's kernel leaves: the carried state and, at the last, the final states, as terms in the
point's input blocks. -/
module

public import proofs.«01_k».proof.Proof.ScanPieces

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

variable {F : FTy → Type} [FloatOps F]

/-- The forward updates of all pairs, off the point's blocks and the state `s`. -/
def fwd (x0 x1 : Vec F S64x1024 .bf16) (x2 : Vec F S64x1024 .f32) (x3 x4 x5 x9 : Vec F S1x64x1024 .f32) (s : Vec F S2x8x128x128 .f32)
    (p : Fin 8) : Vec F S1x1x128x128 .f32 :=
  stepF (View.ld x0 (R2 p)) (View.ld x1 (R2 p)) (View.ld x2 (R2 p)) (View.ld x3 (R3 p)) (View.ld x4 (R3 p)) (View.ld x5 (R3 p))
    (View.ld (View.canon (sums x3 x9)) (RC 0 p)) (View.ld s (RS 0 p))

/-- The backward updates of all pairs. -/
def bwd (x6 x7 : Vec F S64x1024 .bf16) (x8 : Vec F S64x1024 .f32) (x3 x9 x10 x11 : Vec F S1x64x1024 .f32) (s : Vec F S2x8x128x128 .f32)
    (p : Fin 8) : Vec F S1x1x128x128 .f32 :=
  stepB (View.ld x6 (R2 p)) (View.ld x7 (R2 p)) (View.ld x8 (R2 p)) (View.ld x9 (R3 p)) (View.ld x10 (R3 p)) (View.ld x11 (R3 p))
    (View.ld (View.canon (sums x3 x9)) (RC 1 p)) (View.ld s (RS 1 p))

/-- All the stores of a point that starts from the state `s`. -/
def nxt (x0 x1 : Vec F S64x1024 .bf16) (x2 : Vec F S64x1024 .f32) (x3 x4 x5 : Vec F S1x64x1024 .f32) (x6 x7 : Vec F S64x1024 .bf16)
    (x8 : Vec F S64x1024 .f32) (x9 x10 x11 : Vec F S1x64x1024 .f32) (s : Vec F S2x8x128x128 .f32) :
    List (View.Piece (Elt F) S2x8x128x128 .f32) :=
  pcs (fwd x0 x1 x2 x3 x4 x5 x9 s) (bwd x6 x7 x8 x3 x9 x10 x11 s)

theorem z5 : (![0, 0, 0] : Fin 3 → ℕ) = fun _ => 0 := by
  funext a; match a with | ⟨0, _⟩ => rfl | ⟨1, _⟩ => rfl | ⟨2, _⟩ => rfl

theorem z4 : (![0, 0, 0, 0] : Fin 4 → ℕ) = fun _ => 0 := by
  funext a; match a with | ⟨0, _⟩ => rfl | ⟨1, _⟩ => rfl | ⟨2, _⟩ => rfl | ⟨3, _⟩ => rfl

/-- The zero state's store. -/
abbrev zp : View.Piece (Elt F) S2x8x128x128 .f32 :=
  ⟨Rect.unit (s := S2x8x128x128) ![0, 0, 0, 0] S2x8x128x128.size inb_S2x8x128x128_S2x8x128x128_0_0_0_0, k0_pay33⟩

/-- The state after a sequence's first point. -/
theorem stA (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : cond0_0 i) (hc1 : ¬cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11
    = View.canon (nxt x0 x1 x2 x3 x4 x5 x6 x7 x8 x9 x10 x11 k0_pay33 ++ [zp]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11)]
  rw [piecesA]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x64x1024) z5]
  simp only [View.readCov_eq_canon', View.canon_unit_zero (S := S2x8x128x128) z4]
  rfl

/-- The state after a middle point. -/
theorem stB (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : ¬cond0_0 i) (hc1 : ¬cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) (xs0 : Vec F S2x8x128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0
    = View.canon (nxt x0 x1 x2 x3 x4 x5 x6 x7 x8 x9 x10 x11 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0)]
  rw [piecesB]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S1x64x1024) z5]
  simp only [View.readCov_eq_canon']
  rfl

/-- The state after a sequence's last point. -/
theorem stC (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : ¬cond0_0 i) (hc1 : cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) (xs0 : Vec F S2x8x128x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0
    = View.canon (nxt x0 x1 x2 x3 x4 x5 x6 x7 x8 x9 x10 x11 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0)]
  rw [piecesC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S1x64x1024) z5]
  simp only [View.readCov_eq_canon']
  rfl

/-- The final states a sequence's last point stores. -/
theorem outC (c : Dev nD) (i : grid0.Coords) (arg2 : Memref sig .tc .vmem S64x1024 .bf16) (harg2 : arg2.IsWhole) (arg3 : Memref sig .tc .vmem S64x1024 .bf16) (harg3 : arg3.IsWhole) (arg4 : Memref sig .tc .vmem S64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S1x2x16x64x64 .f32) (harg16 : arg16.IsWhole) (arg17 : Memref sig .tc .vmem S2x8x128x128 .f32) (harg17 : arg17.IsWhole) (arg18 : Memref sig .tc .vmem S2x64x1024 .f32) (harg18 : arg18.IsWhole) (hc0 : ¬cond0_0 i) (hc1 : cond0_1 i)
    (x0 : Vec F S64x1024 .bf16) (x1 : Vec F S64x1024 .bf16) (x2 : Vec F S64x1024 .f32) (x3 : Vec F S1x64x1024 .f32) (x4 : Vec F S1x64x1024 .f32) (x5 : Vec F S1x64x1024 .f32) (x6 : Vec F S64x1024 .bf16) (x7 : Vec F S64x1024 .bf16) (x8 : Vec F S64x1024 .f32) (x9 : Vec F S1x64x1024 .f32) (x10 : Vec F S1x64x1024 .f32) (x11 : Vec F S1x64x1024 .f32) (xs0 : Vec F S2x8x128x128 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0
    = View.canon (fins fun d q h => View.ld (View.canon (nxt x0 x1 x2 x3 x4 x5 x6 x7 x8 x9 x10 x11 xs0)) (RD d q h)) := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 xs0)]
  rw [piecesH, piecesC]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S1x64x1024) z5]
  simp only [View.readCov_eq_canon']
  rfl

end Cert.Kernel6Ideal.Scan

end
-- ==== Proof.ScanSpec.lean ====
/- The final states of the scan as a function of its arguments: what both programs compute. -/
module

public import proofs.«01_k».proof.Proof.ScanMath

@[expose] public section

noncomputable section

namespace Cert.Scan

/-- A factor of the recurrence: per direction, token (in the direction's order) and lane. -/
abbrev Fac := Fin 2 → ℕ → Fin 1024 → ℝ

/-- The lane of dimension `j` of head `e`. -/
def ln (e : Fin 16) (j : Fin 64) : Fin 1024 := ⟨64 * e.val + j.val, by omega⟩

/-- One head's factor. -/
def hf (X : Fac) (d : Fin 2) (e : Fin 16) : ℕ → Fin 64 → ℝ := fun n j => X d n (ln e j)

/-- The state of every direction and head after `n` tokens. -/
def sts (lw kk b k v : Fac) (S : Fin 2 → Fin 16 → Tab) (n : ℕ) (d : Fin 2) (e : Fin 16) : Tab :=
  st (hf lw d e) (hf kk d e) (hf b d e) (hf k d e) (hf v d e) (S d e) n

/-- The row of sequence `q` that is its `n`-th token in direction `d`: from the front forwards, from the back backwards. -/
def rowOf (q : Fin 32) (d : Fin 2) (n : ℕ) : Fin 8192 :=
  ⟨256 * q.val + (if d = 0 then n % 256 else 255 - n % 256), by split <;> omega⟩

/-- The factor of sequence `q`. -/
def seqF (X : Fin 2 → Fin 8192 → Fin 1024 → ℝ) (q : Fin 32) : Fac := fun d n j => X d (rowOf q d n) j

/-- The factor from the token `n0` on. -/
def shift (n0 : ℕ) (X : Fac) : Fac := fun d n j => X d (n0 + n) j

/-- Running `n + p` tokens is running `n` and then the next `p`. -/
theorem sts_add (lw kk b k v : Fac) (S : Fin 2 → Fin 16 → Tab) (n p : ℕ) :
    sts lw kk b k v S (n + p) = sts (shift n lw) (shift n kk) (shift n b) (shift n k) (shift n v) (sts lw kk b k v S n) p := by
  funext d e
  exact st_add _ _ _ _ _ _ n p

/-- The state of head `e` of sequence `q` in direction `d` after `n` tokens. -/
def after (v kk : Fin 8192 → Fin 1024 → ℝ) (lw k b : Fin 2 → Fin 8192 → Fin 1024 → ℝ) (q : Fin 32) (n : ℕ) : Fin 2 → Fin 16 → Tab :=
  sts (seqF lw q) (seqF (fun _ => kk) q) (seqF b q) (seqF k q) (seqF (fun _ => v) q) (fun _ _ => 0) n

/-- A prompt's row among all rows. -/
def up (R : Fin 8192) : Fin 16384 := ⟨R.val, by omega⟩

/-- The prompt's rows of the arguments are real numbers: the columns of the values, the keys' directions, the logarithms of the
decays, the keys and the gains. -/
structure RealArgs (P : Fin 16384 → Fin 17664 → EReal) (KK : Fin 16384 → Fin 1024 → EReal) (LW KD BD : Fin 2 → Fin 16384 → Fin 1024 → EReal)
    (v kk : Fin 8192 → Fin 1024 → ℝ) (lw k b : Fin 2 → Fin 8192 → Fin 1024 → ℝ) : Prop where
  hv : ∀ (R : Fin 8192) (j : Fin 1024), P (up R) ⟨15360 + j.val, by omega⟩ = ((v R j : ℝ) : EReal)
  hkk : ∀ (R : Fin 8192) (j : Fin 1024), KK (up R) j = ((kk R j : ℝ) : EReal)
  hlw : ∀ d (R : Fin 8192) (j : Fin 1024), LW d (up R) j = ((lw d R j : ℝ) : EReal)
  hk : ∀ d (R : Fin 8192) (j : Fin 1024), KD d (up R) j = ((k d R j : ℝ) : EReal)
  hb : ∀ d (R : Fin 8192) (j : Fin 1024), BD d (up R) j = ((b d R j : ℝ) : EReal)

end Cert.Scan

end
-- ==== Proof.ScanBlock.lean ====
/- What one grid point of the scan's kernel does to the carried state, head by head: 64 tokens of the recurrence. -/
module

public import proofs.«01_k».proof.Proof.ScanPoint
public import proofs.«01_k».proof.Proof.ScanSpec
public import Idealize.ShloMosaic.Lib.Pointwise

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

/-- Head `h` of pair `p`. -/
def hd (p : Fin 8) (h : Fin 2) : Fin 16 := ⟨2 * p.val + h.val, by omega⟩

/-- The buffer `s` holds the states `S`, two heads of a pair on the diagonal. -/
def RepA (s : Vec Ideal S2x8x128x128 .f32) (S : Fin 2 → Fin 16 → Tab) : Prop :=
  ∀ d p g (i : Fin 64) h (j : Fin 64), s (ix4 d p (col g i) (col h j)) = if g = h then ((S d (hd p h) i j : ℝ) : EReal) else 0

/-- A sum over the rows up to `t` is one over the first tokens. -/
theorem sum_le (f : ℕ → ℝ) (t : Fin 64) : (∑ s : Fin 64, if s ≤ t then f s.val else 0) = ∑ m ∈ Finset.range (t.val + 1), f m := by
  have e := Finset.sum_range (n := 64) (fun m => if m ≤ t.val then f m else 0)
  refine e.symm.trans ?_
  rw [← Finset.sum_filter]
  refine Finset.sum_congr ?_ fun _ _ => rfl
  ext m
  simp only [Finset.mem_filter, Finset.mem_range]
  omega

/-- The same in reversed order. -/
theorem sum_ge (f : ℕ → ℝ) (t : Fin 64) :
    (∑ s : Fin 64, if t ≤ s then f s.rev.val else 0) = ∑ m ∈ Finset.range (t.rev.val + 1), f m := by
  rw [← sum_le f t.rev, ← Equiv.sum_comp Fin.revPerm]
  refine Finset.sum_congr rfl fun s _ => ?_
  simp only [Fin.revPerm_apply, Fin.rev_rev]
  by_cases h : t ≤ s.rev
  · rw [if_pos h, if_pos (by rw [Fin.le_def, Fin.val_rev] at *; omega)]
  · rw [if_neg h, if_neg (by rw [Fin.le_def, Fin.val_rev] at *; omega)]

section
variable {r v : Vec Ideal S64x128 .bf16} {kk : Vec Ideal S64x128 .f32} {lw kd bd c : Vec Ideal S1x64x128 .f32}
  {s : Vec Ideal S1x1x128x128 .f32} {vT kkT lwT kT bT : Fin 2 → ℕ → Fin 64 → ℝ} {S : Fin 2 → Tab}

/-- The forward update of a pair. -/
theorem stepF_rep (hv : ∀ h (t : Fin 64) j, v (ix2 t (col h j)) = ((vT h t j : ℝ) : EReal))
    (hkk : ∀ h (t : Fin 64) j, kk (ix2 t (col h j)) = ((kkT h t j : ℝ) : EReal))
    (hlw : ∀ h (t : Fin 64) j, lw (ix3 0 t (col h j)) = ((lwT h t j : ℝ) : EReal))
    (hk : ∀ h (t : Fin 64) j, kd (ix3 0 t (col h j)) = ((kT h t j : ℝ) : EReal))
    (hb : ∀ h (t : Fin 64) j, bd (ix3 0 t (col h j)) = ((bT h t j : ℝ) : EReal))
    (hc : ∀ h (t : Fin 64) j, c (ix3 0 t (col h j)) = ((cum (lwT h) (t.val + 1) j : ℝ) : EReal))
    (hS : ∀ g i h j, s (ix4 0 0 (col g i) (col h j)) = if g = h then ((S h i j : ℝ) : EReal) else 0) (g : Fin 2) (i : Fin 64) (h : Fin 2) (j : Fin 64) :
    stepF r v kk lw kd bd c s (ix4 0 0 (col g i) (col h j))
      = if g = h then ((st (lwT h) (kkT h) (bT h) (kT h) (vT h) (S h) 64 i j : ℝ) : EReal) else 0 := by
  refine Eq.trans ?_ (unit_rep (r := extf .f32 r bitsLt_bf16_f32) masksF (vT := vT) (kkT := kkT) (lwT := lwT) (kT := kT) (bT := bT) (S := S)
    (v := extf .f32 v bitsLt_bf16_f32) (kk := kk) (lw := shapeCast S64x128 lw shapeCasts_S1x64x128_S64x128)
    (c := shapeCast S64x128 c shapeCasts_S1x64x128_S64x128) (kd := shapeCast S64x128 kd shapeCasts_S1x64x128_S64x128)
    (bd := shapeCast S64x128 bd shapeCasts_S1x64x128_S64x128) (s := shapeCast S128x128 s shapeCasts_S1x1x128x128_S128x128)
    (ctot := extractStridedSlice S1x128 ![63, 0] (shapeCast S64x128 c shapeCasts_S1x64x128_S64x128) slices_S64x128_o63_0_S1x128)
    (fun h t j => hv h t j) (fun h t j => hkk h t j) (fun h t j => ?_) (fun h t j => ?_) (fun h t j => ?_) (fun h t j => ?_) (fun h j => ?_)
    (fun g i h j => ?_) g i h j)
  · unfold stepF
    generalize unit (F := Ideal) _ _ _ _ _ _ _ _ _ _ _ _ _ _ = U
    pointwise []
  · refine Eq.trans ?_ (hlw h t j); pointwise []
  · refine Eq.trans ?_ (hk h t j); pointwise []
  · refine Eq.trans ?_ (hb h t j); pointwise []
  · refine Eq.trans ?_ (hc h t j); pointwise []
  · refine Eq.trans ?_ (hc h 63 j); pointwise []
  · refine Eq.trans ?_ (hS g i h j); pointwise []

/-- The backward update of a pair. -/
theorem stepB_rep (hv : ∀ h (t : Fin 64) j, v (ix2 t (col h j)) = ((vT h t.rev j : ℝ) : EReal))
    (hkk : ∀ h (t : Fin 64) j, kk (ix2 t (col h j)) = ((kkT h t.rev j : ℝ) : EReal))
    (hlw : ∀ h (t : Fin 64) j, lw (ix3 0 t (col h j)) = ((lwT h t.rev j : ℝ) : EReal))
    (hk : ∀ h (t : Fin 64) j, kd (ix3 0 t (col h j)) = ((kT h t.rev j : ℝ) : EReal))
    (hb : ∀ h (t : Fin 64) j, bd (ix3 0 t (col h j)) = ((bT h t.rev j : ℝ) : EReal))
    (hc : ∀ h (t : Fin 64) j, c (ix3 0 t (col h j)) = ((cum (lwT h) (t.rev.val + 1) j : ℝ) : EReal))
    (hS : ∀ g i h j, s (ix4 0 0 (col g i) (col h j)) = if g = h then ((S h i j : ℝ) : EReal) else 0) (g : Fin 2) (i : Fin 64) (h : Fin 2) (j : Fin 64) :
    stepB r v kk lw kd bd c s (ix4 0 0 (col g i) (col h j))
      = if g = h then ((st (lwT h) (kkT h) (bT h) (kT h) (vT h) (S h) 64 i j : ℝ) : EReal) else 0 := by
  refine Eq.trans ?_ (unit_rep (r := extf .f32 r bitsLt_bf16_f32) masksB (vT := vT) (kkT := kkT) (lwT := lwT) (kT := kT) (bT := bT) (S := S)
    (v := extf .f32 v bitsLt_bf16_f32) (kk := kk) (lw := shapeCast S64x128 lw shapeCasts_S1x64x128_S64x128)
    (c := shapeCast S64x128 c shapeCasts_S1x64x128_S64x128) (kd := shapeCast S64x128 kd shapeCasts_S1x64x128_S64x128)
    (bd := shapeCast S64x128 bd shapeCasts_S1x64x128_S64x128) (s := shapeCast S128x128 s shapeCasts_S1x1x128x128_S128x128)
    (ctot := extractStridedSlice S1x128 ![0, 0] (shapeCast S64x128 c shapeCasts_S1x64x128_S64x128) slices_S64x128_o0_0_S1x128)
    (fun h t j => hv h t j) (fun h t j => hkk h t j) (fun h t j => ?_) (fun h t j => ?_) (fun h t j => ?_) (fun h t j => ?_) (fun h j => ?_)
    (fun g i h j => ?_) g i h j)
  · unfold stepB
    generalize unit (F := Ideal) _ _ _ _ _ _ _ _ _ _ _ _ _ _ = U
    pointwise []
  · refine Eq.trans ?_ (hlw h t j); pointwise []
  · refine Eq.trans ?_ (hk h t j); pointwise []
  · refine Eq.trans ?_ (hb h t j); pointwise []
  · refine Eq.trans ?_ (hc h t j); pointwise []
  · refine Eq.trans ?_ (hc h 0 j); pointwise []
  · refine Eq.trans ?_ (hS g i h j); pointwise []
end

end Cert.Kernel6Ideal.Scan

end
-- ==== Proof.ScanCarry.lean ====
/- The carried state after one grid point of the scan's kernel, and the final states its last point stores. -/
module

public import proofs.«01_k».proof.Proof.ScanBlock

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

/-- Pieces that agree with one function where they lie give that function there, whatever was stored before them. -/
theorem canon_app {S : Shape} {e : EltTy} (G : S.Idx → Elt Ideal e) (M : List (View.Piece (Elt Ideal) S e)) (y : S.Idx) :
    ∀ (L : List (View.Piece (Elt Ideal) S e)) (_ : ∀ p ∈ L, ∀ x : p.1.shape.Idx, p.2 x = G (p.1.emb x)) (_ : ∃ p ∈ L, y ∈ p.1.set),
      View.canon (L ++ M) y = G y
  | [], _, hy => by obtain ⟨p, hp, _⟩ := hy; simp at hp
  | p :: L, hL, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_app G M y L (fun q hq => hL q (by simp [hq])) ?_
      obtain ⟨q, hq, hyq⟩ := hy
      rcases List.mem_cons.mp hq with rfl | hq'
      · exact absurd hyq hm
      · exact ⟨q, hq', hyq⟩

theorem emb_RS (d : Fin 2) (p : Fin 8) (i j : Fin 128) : (RS d p).emb (ix4 0 0 i j) = ix4 d p i j := by
  funext a
  refine Fin.ext ?_
  match a with
  | ⟨0, _⟩ => show d.val + 1 * 0 = d.val; omega
  | ⟨1, _⟩ => show p.val + 1 * 0 = p.val; omega
  | ⟨2, _⟩ => show 0 + 1 * i.val = i.val; omega
  | ⟨3, _⟩ => show 0 + 1 * j.val = j.val; omega

theorem emb_R2 (p : Fin 8) (t : Fin 64) (h : Fin 2) (j : Fin 64) : (R2 p).emb (ix2 t (col h j)) = ix2 t (ln (hd p h) j) := by
  funext a
  refine Fin.ext ?_
  match a with
  | ⟨0, _⟩ => show 0 + 1 * t.val = t.val; omega
  | ⟨1, _⟩ => show 128 * p.val + 1 * (64 * h.val + j.val) = 64 * (2 * p.val + h.val) + j.val; omega

theorem emb_R3 (p : Fin 8) (t : Fin 64) (h : Fin 2) (j : Fin 64) : (R3 p).emb (ix3 0 t (col h j)) = ix3 0 t (ln (hd p h) j) := by
  funext a
  refine Fin.ext ?_
  match a with
  | ⟨0, _⟩ => rfl
  | ⟨1, _⟩ => show 0 + 1 * t.val = t.val; omega
  | ⟨2, _⟩ => show 128 * p.val + 1 * (64 * h.val + j.val) = 64 * (2 * p.val + h.val) + j.val; omega

theorem emb_RC (d : Fin 2) (p : Fin 8) (t : Fin 64) (h : Fin 2) (j : Fin 64) :
    (RC d p).emb (ix3 0 t (col h j)) = ix3 d t (ln (hd p h) j) := by
  funext a
  refine Fin.ext ?_
  match a with
  | ⟨0, _⟩ => show d.val + 1 * 0 = d.val; omega
  | ⟨1, _⟩ => show 0 + 1 * t.val = t.val; omega
  | ⟨2, _⟩ => show 128 * p.val + 1 * (64 * h.val + j.val) = 64 * (2 * p.val + h.val) + j.val; omega

/-- The stores of all pairs, as one function. -/
def stG (f g : Fin 8 → Vec Ideal S1x1x128x128 .f32) (y : S2x8x128x128.Idx) : Elt Ideal .f32 :=
  if (y 0).val = 0 then f (y 1) (ix4 0 0 (y 2) (y 3)) else g (y 1) (ix4 0 0 (y 2) (y 3))

theorem stG_f (f g : Fin 8 → Vec Ideal S1x1x128x128 .f32) (p : Fin 8) (x : S1x1x128x128.Idx) : f p x = stG f g ((RS 0 p).emb x) := by
  obtain ⟨i, j, rfl⟩ : ∃ i j : Fin 128, x = ix4 0 0 i j :=
    ⟨x 2, x 3, by rw [eq_ix4 x]; congr 1 <;> exact Subsingleton.elim (α := Fin 1) _ _⟩
  rw [emb_RS]
  rfl

theorem stG_g (f g : Fin 8 → Vec Ideal S1x1x128x128 .f32) (p : Fin 8) (x : S1x1x128x128.Idx) : g p x = stG f g ((RS 1 p).emb x) := by
  obtain ⟨i, j, rfl⟩ : ∃ i j : Fin 128, x = ix4 0 0 i j :=
    ⟨x 2, x 3, by rw [eq_ix4 x]; congr 1 <;> exact Subsingleton.elim (α := Fin 1) _ _⟩
  rw [emb_RS]
  rfl

/-- What the stores leave, pair by pair. -/
theorem canon_pcs (f g : Fin 8 → Vec Ideal S1x1x128x128 .f32) (M : List (View.Piece (Elt Ideal) S2x8x128x128 .f32)) (d : Fin 2) (p : Fin 8)
    (i j : Fin 128) : View.canon (pcs f g ++ M) (ix4 d p i j) = if d = 0 then f p (ix4 0 0 i j) else g p (ix4 0 0 i j) := by
  refine (canon_app (stG f g) M _ (pcs f g) ?_ ?_).trans ?_
  case refine_3 =>
    match d with
    | 0 => rfl
    | 1 => rfl
  · unfold pcs
    simp only [List.forall_mem_cons]
    refine ⟨stG_g f g 7, stG_f f g 7, stG_g f g 6, stG_f f g 6, stG_g f g 5, stG_f f g 5, stG_g f g 4, stG_f f g 4,
      stG_g f g 3, stG_f f g 3, stG_g f g 2, stG_f f g 2, stG_g f g 1, stG_f f g 1, stG_g f g 0, stG_f f g 0, ?_⟩
    simp
  · have hm : ix4 d p i j ∈ (RS d p).set := by
      rw [← emb_RS]
      exact LoadRect.idx_mem (RS d p).toLoadRect (ix4 0 0 i j)
    refine ⟨⟨RS d p, if d = 0 then f p else g p⟩, List.mem_of_getElem? (i := 2 * (7 - p.val) + (1 - d.val)) ?_, hm⟩
    fin_cases d <;> fin_cases p <;> rfl

/-- The buffer of running sums, direction by direction. -/
theorem canon_sums (a b : Vec Ideal S1x64x1024 .f32) (t : Fin 64) (j : Fin 1024) :
    View.canon (sums a b) (ix3 0 t j) = CF a (ix3 0 t j) ∧ View.canon (sums a b) (ix3 1 t j) = CB b (ix3 0 t j) := by
  have e0 : (Rect.unit (s := S2x64x1024) ![0, 0, 0] S1x64x1024.size inb_S2x64x1024_S1x64x1024_0_0_0).emb (ix3 0 t j) = ix3 0 t j := by
    funext a
    refine Fin.ext ?_
    match a with
    | ⟨0, _⟩ => rfl
    | ⟨1, _⟩ => show 0 + 1 * t.val = t.val; omega
    | ⟨2, _⟩ => show 0 + 1 * j.val = j.val; omega
  have e1 : (Rect.unit (s := S2x64x1024) ![1, 0, 0] S1x64x1024.size inb_S2x64x1024_S1x64x1024_1_0_0).emb (ix3 0 t j) = ix3 1 t j := by
    funext a
    refine Fin.ext ?_
    match a with
    | ⟨0, _⟩ => rfl
    | ⟨1, _⟩ => show 0 + 1 * t.val = t.val; omega
    | ⟨2, _⟩ => show 0 + 1 * j.val = j.val; omega
  unfold sums
  constructor
  · rw [View.canon_cons_of_not_mem]
    · rw [← e0, View.canon_cons_emb]
    · intro hm
      obtain ⟨x, hx⟩ := LoadRect.exists_idx_of_mem _ hm
      have := congrArg (fun y : S2x64x1024.Idx => (y 0).val) hx
      change 1 + 1 * (x 0).val = 0 at this
      omega
  · rw [← e1, View.canon_cons_emb]

section
variable (x0 x1 : Vec Ideal S64x1024 .bf16) (x2 : Vec Ideal S64x1024 .f32) (x3 x4 x5 : Vec Ideal S1x64x1024 .f32)
  (x6 x7 : Vec Ideal S64x1024 .bf16) (x8 : Vec Ideal S64x1024 .f32) (x9 x10 x11 : Vec Ideal S1x64x1024 .f32)
  (lw kk b k v : Fac)

/-- The point's input blocks hold the factors of its 64 tokens: forwards in order, backwards from the last row. -/
structure Ins : Prop where
  v0 : ∀ (t : Fin 64) j, x1 (ix2 t j) = ((v 0 t j : ℝ) : EReal)
  kk0 : ∀ (t : Fin 64) j, x2 (ix2 t j) = ((kk 0 t j : ℝ) : EReal)
  lw0 : ∀ (t : Fin 64) j, x3 (ix3 0 t j) = ((lw 0 t j : ℝ) : EReal)
  k0 : ∀ (t : Fin 64) j, x4 (ix3 0 t j) = ((k 0 t j : ℝ) : EReal)
  b0 : ∀ (t : Fin 64) j, x5 (ix3 0 t j) = ((b 0 t j : ℝ) : EReal)
  v1 : ∀ (t : Fin 64) j, x7 (ix2 t j) = ((v 1 t.rev j : ℝ) : EReal)
  kk1 : ∀ (t : Fin 64) j, x8 (ix2 t j) = ((kk 1 t.rev j : ℝ) : EReal)
  lw1 : ∀ (t : Fin 64) j, x9 (ix3 0 t j) = ((lw 1 t.rev j : ℝ) : EReal)
  k1 : ∀ (t : Fin 64) j, x10 (ix3 0 t j) = ((k 1 t.rev j : ℝ) : EReal)
  b1 : ∀ (t : Fin 64) j, x11 (ix3 0 t j) = ((b 1 t.rev j : ℝ) : EReal)

variable {x0 x1 x2 x3 x4 x5 x6 x7 x8 x9 x10 x11 lw kk b k v}

/-- One point: 64 tokens of every head's recurrence, in both directions. -/
theorem nxt_rep (H : Ins x1 x2 x3 x4 x5 x7 x8 x9 x10 x11 lw kk b k v) {s : Vec Ideal S2x8x128x128 .f32} {S : Fin 2 → Fin 16 → Tab}
    (hs : RepA s S) (M : List (View.Piece (Elt Ideal) S2x8x128x128 .f32)) :
    RepA (View.canon (nxt x0 x1 x2 x3 x4 x5 x6 x7 x8 x9 x10 x11 s ++ M)) (sts lw kk b k v S 64) := by
  intro d p g i h j
  unfold nxt
  rw [canon_pcs]
  match d with
  | 0 =>
    rw [if_pos rfl]
    unfold fwd
    refine (stepF_rep (vT := fun h => hf v 0 (hd p h)) (kkT := fun h => hf kk 0 (hd p h)) (lwT := fun h => hf lw 0 (hd p h))
      (kT := fun h => hf k 0 (hd p h)) (bT := fun h => hf b 0 (hd p h)) (S := fun h => S 0 (hd p h))
      (fun h t j => ?_) (fun h t j => ?_) (fun h t j => ?_) (fun h t j => ?_) (fun h t j => ?_) (fun h t j => ?_) (fun g i h j => ?_) g i h j).trans ?_
    · show x1 ((R2 p).emb _) = _; rw [emb_R2]; exact H.v0 t _
    · show x2 ((R2 p).emb _) = _; rw [emb_R2]; exact H.kk0 t _
    · show x3 ((R3 p).emb _) = _; rw [emb_R3]; exact H.lw0 t _
    · show x4 ((R3 p).emb _) = _; rw [emb_R3]; exact H.k0 t _
    · show x5 ((R3 p).emb _) = _; rw [emb_R3]; exact H.b0 t _
    · show View.canon (sums x3 x9) ((RC 0 p).emb _) = _
      rw [emb_RC, (canon_sums x3 x9 t _).1, CF_apply x3 (fun t j => lw 0 t j) H.lw0]
      exact congrArg _ (sum_le (fun m => lw 0 m _) t)
    · show s ((RS 0 p).emb _) = _; rw [emb_RS]; exact hs 0 p g i h j
    · rfl
  | 1 =>
    rw [if_neg (by decide)]
    unfold bwd
    refine (stepB_rep (vT := fun h => hf v 1 (hd p h)) (kkT := fun h => hf kk 1 (hd p h)) (lwT := fun h => hf lw 1 (hd p h))
      (kT := fun h => hf k 1 (hd p h)) (bT := fun h => hf b 1 (hd p h)) (S := fun h => S 1 (hd p h))
      (fun h t j => ?_) (fun h t j => ?_) (fun h t j => ?_) (fun h t j => ?_) (fun h t j => ?_) (fun h t j => ?_) (fun g i h j => ?_) g i h j).trans ?_
    · show x7 ((R2 p).emb _) = _; rw [emb_R2]; exact H.v1 t _
    · show x8 ((R2 p).emb _) = _; rw [emb_R2]; exact H.kk1 t _
    · show x9 ((R3 p).emb _) = _; rw [emb_R3]; exact H.lw1 t _
    · show x10 ((R3 p).emb _) = _; rw [emb_R3]; exact H.k1 t _
    · show x11 ((R3 p).emb _) = _; rw [emb_R3]; exact H.b1 t _
    · show View.canon (sums x3 x9) ((RC 1 p).emb _) = _
      rw [emb_RC, (canon_sums x3 x9 t _).2, CB_apply x9 (fun t j => lw 1 t.rev j) H.lw1]
      exact congrArg _ (sum_ge (fun m => lw 1 m _) t)
    · show s ((RS 1 p).emb _) = _; rw [emb_RS]; exact hs 1 p g i h j
    · rfl
end

/-- The zero state. -/
theorem zero_rep : RepA (k0_pay33 (F := Ideal)) (fun _ _ => 0) := by
  intro d p g i h j
  have e : (k0_pay33 (F := Ideal)) (ix4 d p (col g i) (col h j)) = 0 := by
    pointwise [k0_pay33]
  rw [e]
  show (0 : EReal) = if g = h then ((0 : ℝ) : EReal) else 0
  simp

theorem emb_RD (d : Fin 2) (p : Fin 8) (h : Fin 2) (i j : Fin 64) : (RD d p h).emb (ix4 0 0 i j) = ix4 d p (col h i) (col h j) := by
  funext a
  refine Fin.ext ?_
  match a with
  | ⟨0, _⟩ => show d.val + 1 * 0 = d.val; omega
  | ⟨1, _⟩ => show p.val + 1 * 0 = p.val; omega
  | ⟨2, _⟩ => show 64 * h.val + 1 * i.val = 64 * h.val + i.val; omega
  | ⟨3, _⟩ => show 64 * h.val + 1 * j.val = 64 * h.val + j.val; omega

theorem emb_RH (d : Fin 2) (p : Fin 8) (h : Fin 2) (i j : Fin 64) : (RH d p h).emb (ix5 0 0 0 i j) = ix5 0 d (hd p h) i j := by
  funext a
  refine Fin.ext ?_
  match a with
  | ⟨0, _⟩ => rfl
  | ⟨1, _⟩ => show d.val + 1 * 0 = d.val; omega
  | ⟨2, _⟩ => show 2 * p.val + h.val + 1 * 0 = 2 * p.val + h.val; omega
  | ⟨3, _⟩ => show 0 + 1 * i.val = i.val; omega
  | ⟨4, _⟩ => show 0 + 1 * j.val = j.val; omega

/-- The final states' block, as one function. -/
def finG (S : Fin 2 → Fin 16 → Tab) (y : S1x2x16x64x64.Idx) : Elt Ideal .f32 := ((S (y 1) (y 2) (y 3) (y 4) : ℝ) : EReal)

theorem finG_pc {s : Vec Ideal S2x8x128x128 .f32} {S : Fin 2 → Fin 16 → Tab} (hs : RepA s S) (d : Fin 2) (p : Fin 8) (h : Fin 2)
    (x : S1x1x1x64x64.Idx) : blk (View.ld s (RD d p h)) x = finG S ((RH d p h).emb x) := by
  obtain ⟨i, j, rfl⟩ : ∃ i j : Fin 64, x = ix5 0 0 0 i j :=
    ⟨x 3, x 4, by rw [eq_ix5 x]; congr 1 <;> exact Subsingleton.elim (α := Fin 1) _ _⟩
  rw [emb_RH]
  have e : blk (View.ld s (RD d p h)) (ix5 0 0 0 i j) = View.ld s (RD d p h) (ix4 0 0 i j) := by
    unfold blk
    generalize View.ld s (RD d p h) = U
    pointwise []
  rw [e]
  show s ((RD d p h).emb _) = _
  rw [emb_RD, hs, if_pos rfl]
  rfl

/-- The final states stored by a sequence's last point. -/
theorem fins_rep {s : Vec Ideal S2x8x128x128 .f32} {S : Fin 2 → Fin 16 → Tab} (hs : RepA s S) (d : Fin 2) (e : Fin 16) (i j : Fin 64) :
    View.canon (fins fun d q h => View.ld s (RD d q h)) (ix5 0 d e i j) = ((S d e i j : ℝ) : EReal) := by
  obtain ⟨p, h, rfl⟩ : ∃ p h, e = hd p h :=
    ⟨⟨e.val / 2, by omega⟩, ⟨e.val % 2, by omega⟩, Fin.ext (by show e.val = 2 * (e.val / 2) + e.val % 2; omega)⟩
  refine View.canon_apply_of_pieces (finG S) _ ?_ _ ?_
  · unfold fins
    simp only [List.forall_mem_cons]
    refine ⟨finG_pc hs 1 7 1, finG_pc hs 1 7 0, finG_pc hs 1 6 1, finG_pc hs 1 6 0, finG_pc hs 1 5 1, finG_pc hs 1 5 0,
      finG_pc hs 1 4 1, finG_pc hs 1 4 0, finG_pc hs 1 3 1, finG_pc hs 1 3 0, finG_pc hs 1 2 1, finG_pc hs 1 2 0,
      finG_pc hs 1 1 1, finG_pc hs 1 1 0, finG_pc hs 1 0 1, finG_pc hs 1 0 0, finG_pc hs 0 7 1, finG_pc hs 0 7 0,
      finG_pc hs 0 6 1, finG_pc hs 0 6 0, finG_pc hs 0 5 1, finG_pc hs 0 5 0, finG_pc hs 0 4 1, finG_pc hs 0 4 0,
      finG_pc hs 0 3 1, finG_pc hs 0 3 0, finG_pc hs 0 2 1, finG_pc hs 0 2 0, finG_pc hs 0 1 1, finG_pc hs 0 1 0,
      finG_pc hs 0 0 1, finG_pc hs 0 0 0, ?_⟩
    simp
  · have hm : ix5 0 d (hd p h) i j ∈ (RH d p h).set := by
      rw [← emb_RH]
      exact LoadRect.idx_mem (RH d p h).toLoadRect (ix5 0 0 0 i j)
    refine ⟨⟨RH d p h, blk (View.ld s (RD d p h))⟩,
      List.mem_of_getElem? (i := 16 * (1 - d.val) + 2 * (7 - p.val) + (1 - h.val)) ?_, hm⟩
    fin_cases d <;> fin_cases p <;> fin_cases h <;> rfl

end Cert.Kernel6Ideal.Scan

end
-- ==== Proof.ScanArray.lean ====
/- The scan's kernel: the carried state after every grid point, and the array of final states. -/
module

public import proofs.«01_k».proof.Proof.ScanCarry
public import proofs.«01_k».proof.Proof.Gen.Kernel6Ideal.Value

@[expose] public section

set_option maxRecDepth 65536

noncomputable section

namespace Cert.Kernel6Ideal.Scan

open Cert.Scan Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The projected tokens. -/
abbrev argP : FVec Ideal S16384x17664 .bf16 := m ((c : Thread nD τ).loc main_arg0)
/-- The keys' directions. -/
abbrev argKK : FVec Ideal S16384x1024 .f32 := m ((c : Thread nD τ).loc main_arg1)
/-- The logarithms of the decays. -/
abbrev argLW : FVec Ideal S2x16384x1024 .f32 := m ((c : Thread nD τ).loc main_arg2)
/-- The keys. -/
abbrev argKD : FVec Ideal S2x16384x1024 .f32 := m ((c : Thread nD τ).loc main_arg3)
/-- The gains. -/
abbrev argBD : FVec Ideal S2x16384x1024 .f32 := m ((c : Thread nD τ).loc main_arg4)

/-- Which block each window holds at each point. -/
theorem idx_facts : ∀ t : Fin grid0.N,
    (win0_1.index t = ![t.val, 15]) ∧ (win0_2.index t = ![t.val, 0]) ∧ (win0_3.index t = ![0, t.val, 0])
    ∧ (win0_4.index t = ![0, t.val, 0]) ∧ (win0_5.index t = ![0, t.val, 0])
    ∧ (win0_7.index t = ![4 * (t.val / 4) + (3 - t.val % 4), 15]) ∧ (win0_8.index t = ![4 * (t.val / 4) + (3 - t.val % 4), 0])
    ∧ (win0_9.index t = ![1, 4 * (t.val / 4) + (3 - t.val % 4), 0]) ∧ (win0_10.index t = ![1, 4 * (t.val / 4) + (3 - t.val % 4), 0])
    ∧ (win0_11.index t = ![1, 4 * (t.val / 4) + (3 - t.val % 4), 0]) ∧ (win0_14.index t = ![t.val / 4, 0, 0, 0, 0]) := by
  decide +kernel

/-! Each window's block at a point, entry by entry. -/
section
variable (t : Fin cfg0.N) (r : Fin 64) (j : Fin 1024) (R : Fin 16384)

theorem blk1 (hR : R.val = t.val * 64 + r.val) : (X0_1 m c t : FVec Ideal S64x1024 .bf16) (ix2 r j) = argP m c (ix2 R ⟨15360 + j.val, by omega⟩) := by
  have hi := (idx_facts t).1
  rw [show argP m c = V m c main_arg0 from (V_main_arg0 m c).symm]
  unfold X0_1
  unfold Pipeline.Window.fill
  rw [dif_pos (moved0_1 t _)]
  unfold iblk
  rw [View.read_apply]
  show V m c main_arg0 _ = V m c main_arg0 _
  congr 1
  funext a
  refine Fin.ext ?_
  match a with
  | ⟨0, _⟩ => show win0_1.index t 0 * 64 + 1 * r.val = R.val; rw [hi]; show t.val * 64 + 1 * r.val = _; omega
  | ⟨1, _⟩ => show win0_1.index t 1 * 1024 + 1 * j.val = 15360 + j.val; rw [hi]; show 15 * 1024 + 1 * j.val = _; omega

theorem blk2 (hR : R.val = t.val * 64 + r.val) : (iblk m c 2 t : FVec Ideal S64x1024 .f32) (ix2 r j) = argKK m c (ix2 R j) := by
  have hi := (idx_facts t).2.1
  rw [show argKK m c = V m c main_arg1 from (V_main_arg1 m c).symm]
  unfold iblk
  rw [View.read_apply]
  show V m c main_arg1 _ = V m c main_arg1 _
  congr 1
  funext a
  refine Fin.ext ?_
  match a with
  | ⟨0, _⟩ => show win0_2.index t 0 * 64 + 1 * r.val = R.val; rw [hi]; show t.val * 64 + 1 * r.val = _; omega
  | ⟨1, _⟩ => show win0_2.index t 1 * 1024 + 1 * j.val = j.val; rw [hi]; show 0 * 1024 + 1 * j.val = _; omega

theorem blk3 (hR : R.val = t.val * 64 + r.val) : (iblk m c 3 t : FVec Ideal S1x64x1024 .f32) (ix3 0 r j) = argLW m c (ix3 0 R j) := by
  have hi := (idx_facts t).2.2.1
  rw [show argLW m c = V m c main_arg2 from (V_main_arg2 m c).symm]
  unfold iblk
  rw [View.read_apply]
  show V m c main_arg2 _ = V m c main_arg2 _
  congr 1
  funext a
  refine Fin.ext ?_
  match a with
  | ⟨0, _⟩ => show win0_3.index t 0 * 1 + 1 * 0 = 0; rw [hi]; rfl
  | ⟨1, _⟩ => show win0_3.index t 1 * 64 + 1 * r.val = R.val; rw [hi]; show t.val * 64 + 1 * r.val = _; omega
  | ⟨2, _⟩ => show win0_3.index t 2 * 1024 + 1 * j.val = j.val; rw [hi]; show 0 * 1024 + 1 * j.val = _; omega

theorem blk4 (hR : R.val = t.val * 64 + r.val) : (iblk m c 4 t : FVec Ideal S1x64x1024 .f32) (ix3 0 r j) = argKD m c (ix3 0 R j) := by
  have hi := (idx_facts t).2.2.2.1
  rw [show argKD m c = V m c main_arg3 from (V_main_arg3 m c).symm]
  unfold iblk
  rw [View.read_apply]
  show V m c main_arg3 _ = V m c main_arg3 _
  congr 1
  funext a
  refine Fin.ext ?_
  match a with
  | ⟨0, _⟩ => show win0_4.index t 0 * 1 + 1 * 0 = 0; rw [hi]; rfl
  | ⟨1, _⟩ => show win0_4.index t 1 * 64 + 1 * r.val = R.val; rw [hi]; show t.val * 64 + 1 * r.val = _; omega
  | ⟨2, _⟩ => show win0_4.index t 2 * 1024 + 1 * j.val = j.val; rw [hi]; show 0 * 1024 + 1 * j.val = _; omega

theorem blk5 (hR : R.val = t.val * 64 + r.val) : (iblk m c 5 t : FVec Ideal S1x64x1024 .f32) (ix3 0 r j) = argBD m c (ix3 0 R j) := by
  have hi := (idx_facts t).2.2.2.2.1
  rw [show argBD m c = V m c main_arg4 from (V_main_arg4 m c).symm]
  unfold iblk
  rw [View.read_apply]
  show V m c main_arg4 _ = V m c main_arg4 _
  congr 1
  funext a
  refine Fin.ext ?_
  match a with
  | ⟨0, _⟩ => show win0_5.index t 0 * 1 + 1 * 0 = 0; rw [hi]; rfl
  | ⟨1, _⟩ => show win0_5.index t 1 * 64 + 1 * r.val = R.val; rw [hi]; show t.val * 64 + 1 * r.val = _; omega
  | ⟨2, _⟩ => show win0_5.index t 2 * 1024 + 1 * j.val = j.val; rw [hi]; show 0 * 1024 + 1 * j.val = _; omega

theorem blk7 (hR : R.val = (4 * (t.val / 4) + (3 - t.val % 4)) * 64 + r.val) : (X0_7 m c t : FVec Ideal S64x1024 .bf16) (ix2 r j) = argP m c (ix2 R ⟨15360 + j.val, by omega⟩) := by
  have hi := (idx_facts t).2.2.2.2.2.1
  rw [show argP m c = V m c main_arg0 from (V_main_arg0 m c).symm]
  unfold X0_7
  unfold Pipeline.Window.fill
  rw [dif_pos (moved0_7 t _)]
  unfold iblk
  rw [View.read_apply]
  show V m c main_arg0 _ = V m c main_arg0 _
  congr 1
  funext a
  refine Fin.ext ?_
  match a with
  | ⟨0, _⟩ => show win0_7.index t 0 * 64 + 1 * r.val = R.val; rw [hi]; show (4 * (t.val / 4) + (3 - t.val % 4)) * 64 + 1 * r.val = _; omega
  | ⟨1, _⟩ => show win0_7.index t 1 * 1024 + 1 * j.val = 15360 + j.val; rw [hi]; show 15 * 1024 + 1 * j.val = _; omega

theorem blk8 (hR : R.val = (4 * (t.val / 4) + (3 - t.val % 4)) * 64 + r.val) : (iblk m c 8 t : FVec Ideal S64x1024 .f32) (ix2 r j) = argKK m c (ix2 R j) := by
  have hi := (idx_facts t).2.2.2.2.2.2.1
  rw [show argKK m c = V m c main_arg1 from (V_main_arg1 m c).symm]
  unfold iblk
  rw [View.read_apply]
  show V m c main_arg1 _ = V m c main_arg1 _
  congr 1
  funext a
  refine Fin.ext ?_
  match a with
  | ⟨0, _⟩ => show win0_8.index t 0 * 64 + 1 * r.val = R.val; rw [hi]; show (4 * (t.val / 4) + (3 - t.val % 4)) * 64 + 1 * r.val = _; omega
  | ⟨1, _⟩ => show win0_8.index t 1 * 1024 + 1 * j.val = j.val; rw [hi]; show 0 * 1024 + 1 * j.val = _; omega

theorem blk9 (hR : R.val = (4 * (t.val / 4) + (3 - t.val % 4)) * 64 + r.val) : (iblk m c 9 t : FVec Ideal S1x64x1024 .f32) (ix3 0 r j) = argLW m c (ix3 1 R j) := by
  have hi := (idx_facts t).2.2.2.2.2.2.2.1
  rw [show argLW m c = V m c main_arg2 from (V_main_arg2 m c).symm]
  unfold iblk
  rw [View.read_apply]
  show V m c main_arg2 _ = V m c main_arg2 _
  congr 1
  funext a
  refine Fin.ext ?_
  match a with
  | ⟨0, _⟩ => show win0_9.index t 0 * 1 + 1 * 0 = 1; rw [hi]; rfl
  | ⟨1, _⟩ => show win0_9.index t 1 * 64 + 1 * r.val = R.val; rw [hi]; show (4 * (t.val / 4) + (3 - t.val % 4)) * 64 + 1 * r.val = _; omega
  | ⟨2, _⟩ => show win0_9.index t 2 * 1024 + 1 * j.val = j.val; rw [hi]; show 0 * 1024 + 1 * j.val = _; omega

theorem blk10 (hR : R.val = (4 * (t.val / 4) + (3 - t.val % 4)) * 64 + r.val) : (iblk m c 10 t : FVec Ideal S1x64x1024 .f32) (ix3 0 r j) = argKD m c (ix3 1 R j) := by
  have hi := (idx_facts t).2.2.2.2.2.2.2.2.1
  rw [show argKD m c = V m c main_arg3 from (V_main_arg3 m c).symm]
  unfold iblk
  rw [View.read_apply]
  show V m c main_arg3 _ = V m c main_arg3 _
  congr 1
  funext a
  refine Fin.ext ?_
  match a with
  | ⟨0, _⟩ => show win0_10.index t 0 * 1 + 1 * 0 = 1; rw [hi]; rfl
  | ⟨1, _⟩ => show win0_10.index t 1 * 64 + 1 * r.val = R.val; rw [hi]; show (4 * (t.val / 4) + (3 - t.val % 4)) * 64 + 1 * r.val = _; omega
  | ⟨2, _⟩ => show win0_10.index t 2 * 1024 + 1 * j.val = j.val; rw [hi]; show 0 * 1024 + 1 * j.val = _; omega

theorem blk11 (hR : R.val = (4 * (t.val / 4) + (3 - t.val % 4)) * 64 + r.val) : (iblk m c 11 t : FVec Ideal S1x64x1024 .f32) (ix3 0 r j) = argBD m c (ix3 1 R j) := by
  have hi := (idx_facts t).2.2.2.2.2.2.2.2.2.1
  rw [show argBD m c = V m c main_arg4 from (V_main_arg4 m c).symm]
  unfold iblk
  rw [View.read_apply]
  show V m c main_arg4 _ = V m c main_arg4 _
  congr 1
  funext a
  refine Fin.ext ?_
  match a with
  | ⟨0, _⟩ => show win0_11.index t 0 * 1 + 1 * 0 = 1; rw [hi]; rfl
  | ⟨1, _⟩ => show win0_11.index t 1 * 64 + 1 * r.val = R.val; rw [hi]; show (4 * (t.val / 4) + (3 - t.val % 4)) * 64 + 1 * r.val = _; omega
  | ⟨2, _⟩ => show win0_11.index t 2 * 1024 + 1 * j.val = j.val; rw [hi]; show 0 * 1024 + 1 * j.val = _; omega

end

variable {v kk : Fin 8192 → Fin 1024 → ℝ} {lw k b : Fin 2 → Fin 8192 → Fin 1024 → ℝ}
  (H : RealArgs (fun R C => argP m c (ix2 R C)) (fun R j => argKK m c (ix2 R j)) (fun d R j => argLW m c (ix3 d R j))
    (fun d R j => argKD m c (ix3 d R j)) (fun d R j => argBD m c (ix3 d R j)) v kk lw k b)

/-- The sequence of a point. -/
def sq (t : Fin cfg0.N) : Fin 32 := ⟨t.val / 4, by have := t.isLt; have hN : cfg0.N = 128 := N_0; omega⟩

theorem row0 (t : Fin cfg0.N) (r : Fin 64) : (rowOf (sq t) 0 (64 * (t.val % 4) + r.val)).val = t.val * 64 + r.val := by
  show 256 * (t.val / 4) + (64 * (t.val % 4) + r.val) % 256 = _
  omega

theorem row1 (t : Fin cfg0.N) (r : Fin 64) :
    (rowOf (sq t) 1 (64 * (t.val % 4) + r.rev.val)).val = (4 * (t.val / 4) + (3 - t.val % 4)) * 64 + r.val := by
  show 256 * (t.val / 4) + (255 - (64 * (t.val % 4) + r.rev.val) % 256) = _
  rw [Fin.val_rev]
  omega

include H in
/-- The input blocks of a point hold the factors of its 64 tokens. -/
theorem ins (t : Fin cfg0.N) :
    Ins (X0_1 m c t) (iblk m c 2 t) (iblk m c 3 t) (iblk m c 4 t) (iblk m c 5 t) (X0_7 m c t) (iblk m c 8 t) (iblk m c 9 t)
      (iblk m c 10 t) (iblk m c 11 t) (shift (64 * (t.val % 4)) (seqF lw (sq t))) (shift (64 * (t.val % 4)) (seqF (fun _ => kk) (sq t)))
      (shift (64 * (t.val % 4)) (seqF b (sq t))) (shift (64 * (t.val % 4)) (seqF k (sq t)))
      (shift (64 * (t.val % 4)) (seqF (fun _ => v) (sq t))) where
  v0 r j := (blk1 m c t r j (up (rowOf (sq t) 0 (64 * (t.val % 4) + r.val))) (row0 t r)).trans (H.hv _ j)
  kk0 r j := (blk2 m c t r j (up (rowOf (sq t) 0 (64 * (t.val % 4) + r.val))) (row0 t r)).trans (H.hkk _ j)
  lw0 r j := (blk3 m c t r j (up (rowOf (sq t) 0 (64 * (t.val % 4) + r.val))) (row0 t r)).trans (H.hlw 0 _ j)
  k0 r j := (blk4 m c t r j (up (rowOf (sq t) 0 (64 * (t.val % 4) + r.val))) (row0 t r)).trans (H.hk 0 _ j)
  b0 r j := (blk5 m c t r j (up (rowOf (sq t) 0 (64 * (t.val % 4) + r.val))) (row0 t r)).trans (H.hb 0 _ j)
  v1 r j := (blk7 m c t r j (up (rowOf (sq t) 1 (64 * (t.val % 4) + r.rev.val))) (row1 t r)).trans (H.hv _ j)
  kk1 r j := (blk8 m c t r j (up (rowOf (sq t) 1 (64 * (t.val % 4) + r.rev.val))) (row1 t r)).trans (H.hkk _ j)
  lw1 r j := (blk9 m c t r j (up (rowOf (sq t) 1 (64 * (t.val % 4) + r.rev.val))) (row1 t r)).trans (H.hlw 1 _ j)
  k1 r j := (blk10 m c t r j (up (rowOf (sq t) 1 (64 * (t.val % 4) + r.rev.val))) (row1 t r)).trans (H.hk 1 _ j)
  b1 r j := (blk11 m c t r j (up (rowOf (sq t) 1 (64 * (t.val % 4) + r.rev.val))) (row1 t r)).trans (H.hb 1 _ j)

/-- The carried state after a sequence's first point. -/
theorem accA (t : Fin cfg0.N) (h0 : t.val % 4 = 0) : (outsAt0 m c t.val t.isLt).2.2.2
    = View.canon (nxt (X0_0 m c t) (X0_1 m c t) (iblk m c 2 t) (iblk m c 3 t) (iblk m c 4 t) (iblk m c 5 t) (X0_6 m c t) (X0_7 m c t) (iblk m c 8 t)
        (iblk m c 9 t) (iblk m c 10 t) (iblk m c 11 t) (k0_pay33 (F := Ideal)) ++ [zp]) := by
  rw [outsAt0_A m c t h0 (by omega)]
  dsimp only
  rw [stA]

/-- The carried state after a later point. -/
theorem accBC (t : Fin cfg0.N) (h0 : ¬t.val % 4 = 0) : (outsAt0 m c t.val t.isLt).2.2.2
    = View.canon (nxt (X0_0 m c t) (X0_1 m c t) (iblk m c 2 t) (iblk m c 3 t) (iblk m c 4 t) (iblk m c 5 t) (X0_6 m c t) (X0_7 m c t) (iblk m c 8 t)
        (iblk m c 9 t) (iblk m c 10 t) (iblk m c 11 t)
        (outsAt0 m c (t.val - 1) (Nat.lt_of_le_of_lt (Nat.sub_le _ _) t.isLt)).2.2.2 ++ []) := by
  rw [List.append_nil]
  by_cases h1 : t.val % 4 = 3
  · rw [outsAt0_C m c t h0 h1]
    dsimp only
    rw [stC]
  · rw [outsAt0_B m c t h0 h1]
    dsimp only
    rw [stB]

include H in
/-- The carried state after every point: 64 tokens more. -/
theorem carry (n : ℕ) : ∀ t : Fin cfg0.N, t.val = n →
    RepA (outsAt0 m c t.val t.isLt).2.2.2 (after v kk lw k b (sq t) (64 * (t.val % 4) + 64)) := by
  induction n with
  | zero =>
    intro t ht
    have ea : after v kk lw k b (sq t) (64 * (t.val % 4) + 64) = _ := sts_add _ _ _ _ _ _ (64 * (t.val % 4)) 64
    rw [ea, accA m c t (by omega)]
    refine nxt_rep (ins m c H t) ?_ [zp]
    rw [show t.val % 4 = 0 by omega]
    exact zero_rep
  | succ n ih =>
    intro t ht
    have ea : after v kk lw k b (sq t) (64 * (t.val % 4) + 64) = _ := sts_add _ _ _ _ _ _ (64 * (t.val % 4)) 64
    rw [ea]
    by_cases h0 : t.val % 4 = 0
    · rw [accA m c t h0]
      refine nxt_rep (ins m c H t) ?_ [zp]
      rw [h0]
      exact zero_rep
    · rw [accBC m c t h0]
      refine nxt_rep (ins m c H t) ?_ []
      let t' : Fin cfg0.N := ⟨t.val - 1, Nat.lt_of_le_of_lt (Nat.sub_le _ _) t.isLt⟩
      have hs := ih t' (by show t.val - 1 = n; omega)
      have e1 : sq t' = sq t := Fin.ext (by show (t.val - 1) / 4 = t.val / 4; omega)
      have e2 : 64 * (t'.val % 4) + 64 = 64 * (t.val % 4) := by show 64 * ((t.val - 1) % 4) + 64 = _; omega
      rw [e1, e2] at hs
      exact hs

include H in
/-- What a sequence's last point leaves in the block of final states. -/
theorem last (t : Fin cfg0.N) (h : t.val % 4 = 3) (d : Fin 2) (e : Fin 16) (i j : Fin 64) :
    (outsAt0 m c t.val t.isLt).2.2.1 (ix5 0 d e i j) = ((after v kk lw k b (sq t) 256 d e i j : ℝ) : EReal) := by
  have hs := carry m c H t.val t rfl
  have h0 : ¬t.val % 4 = 0 := by omega
  rw [outsAt0_C m c t h0 h] at hs ⊢
  dsimp only at hs ⊢
  rw [stC] at hs
  rw [outC]
  rw [h] at hs
  exact fins_rep hs d e i j

/-- Two points that write the final states back write different blocks. -/
theorem disjoint14 : ∀ t t' : Fin cfg0.N, (cfg0.win 14).flush t = true → (cfg0.win 14).flush t' = true → t ≠ t' →
    Disjoint ((cfg0.win 14).blk t).view.set ((cfg0.win 14).blk t').view.set := fun t t' ht ht' hne =>
  (cfg0.win 14).disjoint_blk fun h => hne (by
    have e : win0_14.index t = win0_14.index t' := h
    rw [(idx_facts t).2.2.2.2.2.2.2.2.2.2, (idx_facts t').2.2.2.2.2.2.2.2.2.2] at e
    have e0 : t.val / 4 = t'.val / 4 := congrFun e 0
    have f := (flush0_14 t).mp ht
    have f' := (flush0_14 t').mp ht'
    exact Fin.ext (by omega))

include H in
/-- THE ARRAY OF FINAL STATES: every sequence's state after its 256 tokens. -/
theorem final_apply (q : Fin 32) (d : Fin 2) (e : Fin 16) (i j : Fin 64) :
    ((dats m 0 c).arrAt 14 cfg0.N : FVec Ideal S32x2x16x64x64 .f32) (ix5 q d e i j)
      = ((after v kk lw k b q 256 d e i j : ℝ) : EReal) := by
  have hN : cfg0.N = 128 := N_0
  obtain ⟨t, htv⟩ : ∃ t : Fin cfg0.N, t.val = 4 * q.val + 3 := ⟨⟨4 * q.val + 3, by rw [hN]; omega⟩, rfl⟩
  let y : S1x2x16x64x64.Idx := ix5 0 d e i j
  have hi := (idx_facts t).2.2.2.2.2.2.2.2.2.2
  have hidx : ((cfg0.win 14).blk t).view.emb y = ix5 q d e i j := by
    funext a
    refine Fin.ext ?_
    match a with
    | ⟨0, _⟩ => show win0_14.index t 0 * 1 + 1 * 0 = q.val; rw [hi]; show t.val / 4 * 1 + 1 * 0 = _; omega
    | ⟨1, _⟩ => show win0_14.index t 1 * 2 + 1 * d.val = d.val; rw [hi]; show 0 * 2 + 1 * d.val = _; omega
    | ⟨2, _⟩ => show win0_14.index t 2 * 16 + 1 * e.val = e.val; rw [hi]; show 0 * 16 + 1 * e.val = _; omega
    | ⟨3, _⟩ => show win0_14.index t 3 * 64 + 1 * i.val = i.val; rw [hi]; show 0 * 64 + 1 * i.val = _; omega
    | ⟨4, _⟩ => show win0_14.index t 4 * 64 + 1 * j.val = j.val; rw [hi]; show 0 * 64 + 1 * j.val = _; omega
  have hm : t.val % 4 = 3 := by omega
  have hel := (dats m 0 c).arrAt_emb_eq_flushed 14 disjoint14 t ((flush0_14 t).mpr hm) y
  rw [hidx] at hel
  refine hel.trans ?_
  have hw := last m c H t hm d e i j
  have hq : sq t = q := Fin.ext (by show t.val / 4 = q.val; omega)
  rw [hq] at hw
  rw [Value.flushed14]
  generalize (outsAt0 m c t.val t.isLt).2.2.1 = o at hw ⊢
  exact hw

end Cert.Kernel6Ideal.Scan

end
-- ==== Proof.ScanTrip.lean ====
/- The scan's reference, piece by piece: the stacks of tokens and one token's update, entry by entry. -/
module

public import proofs.«01_k».proof.Proof.Gen.Reference6Ideal
public import proofs.«01_k».proof.Proof.ScanSpec
public import Idealize.ShloMosaic.Lib.Pointwise
public import Idealize.ShloMosaic.Lib.DynamicIndex

@[expose] public section

set_option maxRecDepth 65536

noncomputable section

namespace Cert.Reference6Ideal.Scan

open Cert.Reference6Ideal Cert.Reference6Ideal.Facts₀ Idealize.ShloMosaic Idealize.ShloMosaic.TcCoe Idealize.SL.Sem Cert.Scan

attribute [local instance] Cert.Reference6Ideal.Gen.facts₀ Cert.Reference6Ideal.Gen.facts

/-- The prompt's rows by token, sequence, head and lane. -/
def half (x : FVec Ideal S8192x1024 .f32) : FVec Ideal S256x32x16x64 .f32 :=
  transpose S256x32x16x64 [1, 0, 2, 3] (shapeCast S32x256x16x64 x shapeCasts_S8192x1024_S32x256x16x64) transposes_S32x256x16x64_S256x32x16x64_1_0_2_3

/-- One direction's rows as they are beside the other's backwards. -/
def stack (x y : FVec Ideal S8192x1024 .f32) : FVec Ideal S256x2x32x16x64 .f32 :=
  concatenate S256x2x32x16x64 1 [⟨S256x1x32x16x64, broadcastInDim S256x1x32x16x64 ![0, 2, 3, 4] bcast_S256x32x16x64_S256x1x32x16x64_0_2_3_4 (half x)⟩,
    ⟨S256x1x32x16x64, broadcastInDim S256x1x32x16x64 ![0, 2, 3, 4] bcast_S256x32x16x64_S256x1x32x16x64_0_2_3_4 (Host.reverse [0] (half y))⟩]
    concatenates_S256x1x32x16x64_S256x1x32x16x64_S256x2x32x16x64_d1

/-- An entry of the rows by token. -/
theorem half_apply (x : FVec Ideal S8192x1024 .f32) (n : Fin 256) (q : Fin 32) (e : Fin 16) (j : Fin 64) :
    half x (ix4 n q e j) = x (ix2 (⟨256 * q.val + n.val, by omega⟩ : Fin 8192) (ln e j)) := by
  unfold half
  pointwise
  refine congrArg x (funext fun a => Fin.ext ?_)
  match a with
  | ⟨0, _⟩ => show q.val * 256 + n.val = 256 * q.val + n.val; omega
  | ⟨1, _⟩ => show e.val * 64 + j.val = 64 * e.val + j.val; omega

/-- An entry of the stack: the token in the direction's own order. -/
theorem stack_apply (x y : FVec Ideal S8192x1024 .f32) (n : Fin 256) (d : Fin 2) (q : Fin 32) (e : Fin 16) (j : Fin 64) :
    stack x y (ix5 n d q e j) = (if d = 0 then x else y) (ix2 (rowOf q d n.val) (ln e j)) := by
  have h0 : stack x y (ix5 n 0 q e j) = half x (ix4 n q e j) := by
    unfold stack
    pointwise
  have h1 : stack x y (ix5 n 1 q e j) = half y (ix4 n.rev q e j) := by
    unfold stack
    pointwise
    rfl
  match d with
  | ⟨0, _⟩ =>
    refine h0.trans ((half_apply x n q e j).trans (congrArg x (congrArg (fun z => ix2 z (ln e j)) (Fin.ext ?_))))
    show 256 * q.val + n.val = 256 * q.val + n.val % 256
    omega
  | ⟨1, _⟩ =>
    refine h1.trans ((half_apply y n.rev q e j).trans (congrArg y (congrArg (fun z => ix2 z (ln e j)) (Fin.ext ?_))))
    show 256 * q.val + (256 - (n.val + 1)) = 256 * q.val + (255 - n.val % 256)
    omega

/-- The token the counter stands at. -/
def tokenAt (X : FVec Ideal S256x2x32x16x64 .f32) (c : IVec S_ 32) : FVec Ideal S2x32x16x64 .f32 :=
  shapeCast S2x32x16x64 (Host.dynamicSlice S1x2x32x16x64 X (fun k => (((![c, constantI S_ 32 0#32, constantI S_ 32 0#32, constantI S_ 32 0#32, constantI S_ 32 0#32] : Fin 5 → (⟨S_, .i32⟩ : BufTy).Contents (Elt Ideal))) k (Shape.Idx.first h_S_)).toInt) sliceFits_S256x2x32x16x64_S1x2x32x16x64) shapeCasts_S1x2x32x16x64_S2x32x16x64

/-- An entry of the token the counter stands at. -/
theorem tokenAt_apply (X : FVec Ideal S256x2x32x16x64 .f32) (n : Fin 256) (d : Fin 2) (q : Fin 32) (e : Fin 16) (j : Fin 64) :
    tokenAt X (fun _ => BitVec.ofNat 32 n.val) (ix4 d q e j) = X (ix5 n d q e j) := by
  have hn : (BitVec.ofNat 32 n.val).toInt = (n.val : ℤ) := by
    exact Idealize.ShloMosaic.toInt_ofNat_of_lt (by omega)
  unfold tokenAt
  rw [Host.dynamicSlice_eq_extractStridedSlice S1x2x32x16x64 X _ ![n.val, 0, 0, 0, 0] _
    ⟨rfl, fun a => by
      match a with
      | ⟨0, _⟩ => show n.val + 1 ≤ 256; omega
      | ⟨1, _⟩ => show 0 + 2 ≤ 2; omega
      | ⟨2, _⟩ => show 0 + 32 ≤ 32; omega
      | ⟨3, _⟩ => show 0 + 16 ≤ 16; omega
      | ⟨4, _⟩ => show 0 + 64 ≤ 64; omega⟩
    (fun a => by
      match a with
      | ⟨0, _⟩ => exact hn
      | ⟨1, _⟩ => rfl
      | ⟨2, _⟩ => rfl
      | ⟨3, _⟩ => rfl
      | ⟨4, _⟩ => rfl)]
  pointwise

/-- One token's update of every state. -/
def trip (S : FVec Ideal S2x32x16x64x64 .f32) (w k v kk b : FVec Ideal S2x32x16x64 .f32) : FVec Ideal S2x32x16x64x64 .f32 :=
  addf (addf (mulf S (broadcastInDim S2x32x16x64x64 ![0, 1, 2, 3, 4] bcast_S2x32x16x1x64_S2x32x16x64x64_0_1_2_3_4 (broadcastInDim S2x32x16x1x64 ![0, 1, 2, 4] bcast_S2x32x16x64_S2x32x16x1x64_0_1_2_4 w)))
    (mulf (broadcastInDim S2x32x16x64x64 ![0, 1, 2, 3, 4] bcast_S2x32x16x64x1_S2x32x16x64x64_0_1_2_3_4 (broadcastInDim S2x32x16x64x1 ![0, 1, 2, 3] bcast_S2x32x16x64_S2x32x16x64x1_0_1_2_3 (Host.dotGeneral dot_S2x32x16x64x64_S2x32x16x64_S2x32x16x64_4_3_3_n_012_012 none S (Host.negf kk))))
      (broadcastInDim S2x32x16x64x64 ![0, 1, 2, 3, 4] bcast_S2x32x16x1x64_S2x32x16x64x64_0_1_2_3_4 (broadcastInDim S2x32x16x1x64 ![0, 1, 2, 4] bcast_S2x32x16x64_S2x32x16x1x64_0_1_2_4 b))))
    (mulf (broadcastInDim S2x32x16x64x64 ![0, 1, 2, 3, 4] bcast_S2x32x16x64x1_S2x32x16x64x64_0_1_2_3_4 (broadcastInDim S2x32x16x64x1 ![0, 1, 2, 3] bcast_S2x32x16x64_S2x32x16x64x1_0_1_2_3 v))
      (broadcastInDim S2x32x16x64x64 ![0, 1, 2, 3, 4] bcast_S2x32x16x1x64_S2x32x16x64x64_0_1_2_3_4 (broadcastInDim S2x32x16x1x64 ![0, 1, 2, 4] bcast_S2x32x16x64_S2x32x16x1x64_0_1_2_4 k)))

/-- An entry of the state after one token. -/
theorem trip_apply (S : FVec Ideal S2x32x16x64x64 .f32) (w k v kk b : FVec Ideal S2x32x16x64 .f32) (d : Fin 2) (q : Fin 32) (e : Fin 16)
    (i j : Fin 64) : trip S w k v kk b (ix5 d q e i j)
      = S (ix5 d q e i j) * w (ix4 d q e j) + (∑ l : Fin 64, S (ix5 d q e i l) * -(kk (ix4 d q e l))) * b (ix4 d q e j)
        + v (ix4 d q e i) * k (ix4 d q e j) := by
  unfold trip
  pointwise [dot_S2x32x16x64x64_S2x32x16x64_S2x32x16x64_4_3_3_n_012_012]

end Cert.Reference6Ideal.Scan

end
-- ==== Proof.ScanRef.lean ====
/- The scan's reference: what its loop leaves, as the states of the recurrence. -/
module

public import proofs.«01_k».proof.Proof.Gen.Reference6Ideal.Run
public import proofs.«01_k».proof.Proof.ScanTrip
public import proofs.«01_k».proof.Proof.AttnMath

@[expose] public section

set_option maxRecDepth 65536

noncomputable section

namespace Cert.Reference6Ideal.Scan

open Cert.Reference6Ideal Cert.Reference6Ideal.Gen Cert.Reference6Ideal.Value Idealize.ShloMosaic
  Idealize.ShloMosaic.TcCoe Idealize.ShloMosaic.StableHlo Idealize.SL.Sem Cert.Scan

variable (m : (ℓ : Loc nD τ sig) → Buf (Elt Ideal) ℓ) (c : Dev nD)

/-- The projections. -/
abbrev argP : FVec Ideal S16384x17664 .bf16 := m ((c.tc : Thread nD τ).loc main_arg0)
/-- The keys' directions. -/
abbrev argKK : FVec Ideal S16384x1024 .f32 := m ((c.tc : Thread nD τ).loc main_arg1)
/-- The logarithms of the decays. -/
abbrev argLW : FVec Ideal S2x16384x1024 .f32 := m ((c.tc : Thread nD τ).loc main_arg2)
/-- The keys. -/
abbrev argKD : FVec Ideal S2x16384x1024 .f32 := m ((c.tc : Thread nD τ).loc main_arg3)
/-- The gains. -/
abbrev argBD : FVec Ideal S2x16384x1024 .f32 := m ((c.tc : Thread nD τ).loc main_arg4)

/-- The first direction of an argument. -/
def dir0 (x : FVec Ideal S2x16384x1024 .f32) : FVec Ideal S16384x1024 .f32 :=
  shapeCast S16384x1024 (extractStridedSlice S1x16384x1024 ![0, 0, 0] x slices_S2x16384x1024_S1x16384x1024_0_0_0) shapeCasts_S1x16384x1024_S16384x1024

/-- The second direction of an argument. -/
def dir1 (x : FVec Ideal S2x16384x1024 .f32) : FVec Ideal S16384x1024 .f32 :=
  shapeCast S16384x1024 (extractStridedSlice S1x16384x1024 ![1, 0, 0] x slices_S2x16384x1024_S1x16384x1024_1_0_0) shapeCasts_S1x16384x1024_S16384x1024

/-- The prompt's rows. -/
def rows (x : FVec Ideal S16384x1024 .f32) : FVec Ideal S8192x1024 .f32 :=
  extractStridedSlice S8192x1024 ![0, 0] x slices_S16384x1024_S8192x1024_0_0

/-- The prompt's values. -/
def vals (x : FVec Ideal S16384x17664 .bf16) : FVec Ideal S8192x1024 .f32 :=
  extf .f32 (extractStridedSlice S8192x1024 ![0, 0] (extractStridedSlice S16384x1024 ![0, 15360] x slices_S16384x17664_S16384x1024_0_15360)
    slices_S16384x1024_S8192x1024_0_0) bitsLt_bf16_f32

theorem dir0_apply (x : FVec Ideal S2x16384x1024 .f32) (R : Fin 16384) (j : Fin 1024) : dir0 x (ix2 R j) = x (ix3 0 R j) := by
  unfold dir0
  pointwise

theorem dir1_apply (x : FVec Ideal S2x16384x1024 .f32) (R : Fin 16384) (j : Fin 1024) : dir1 x (ix2 R j) = x (ix3 1 R j) := by
  unfold dir1
  pointwise

theorem rows_apply (x : FVec Ideal S16384x1024 .f32) (R : Fin 8192) (j : Fin 1024) : rows x (ix2 R j) = x (ix2 (up R) j) := by
  unfold rows
  pointwise
  rfl

theorem vals_apply (x : FVec Ideal S16384x17664 .bf16) (R : Fin 8192) (j : Fin 1024) :
    vals x (ix2 R j) = x (ix2 (up R) ⟨15360 + j.val, by omega⟩) := by
  unfold vals
  pointwise
  rfl

/-- A stack of both directions' rows at an entry. -/
theorem stack_dirs (x : FVec Ideal S2x16384x1024 .f32) (n : Fin 256) (d : Fin 2) (q : Fin 32) (e : Fin 16) (j : Fin 64) :
    stack (rows (dir0 x)) (rows (dir1 x)) (ix5 n d q e j) = x (ix3 d (up (rowOf q d n.val)) (ln e j)) := by
  rw [stack_apply]
  by_cases h : d = 0
  · rw [if_pos h, rows_apply, dir0_apply, h]
  · rw [if_neg h, rows_apply, dir1_apply]
    have h1 : d = 1 := by omega
    rw [h1]

/-- The stack of the decays at an entry. -/
theorem stack_exp (x : FVec Ideal S2x16384x1024 .f32) (n : Fin 256) (d : Fin 2) (q : Fin 32) (e : Fin 16) (j : Fin 64) :
    stack (rows (Host.exp (dir0 x))) (rows (Host.exp (dir1 x))) (ix5 n d q e j) = Ideal.exp (x (ix3 d (up (rowOf q d n.val)) (ln e j))) := by
  rw [stack_apply]
  by_cases h : d = 0
  · rw [if_pos h, rows_apply]
    refine congrArg Ideal.exp ?_
    rw [dir0_apply, h]
  · rw [if_neg h, rows_apply]
    refine congrArg Ideal.exp ?_
    have h1 : d = 1 := by omega
    rw [dir1_apply, h1]

/-- A stack of one array's rows at an entry. -/
theorem stack_same (x : FVec Ideal S8192x1024 .f32) (n : Fin 256) (d : Fin 2) (q : Fin 32) (e : Fin 16) (j : Fin 64) :
    stack x x (ix5 n d q e j) = x (ix2 (rowOf q d n.val) (ln e j)) := by
  rw [stack_apply]
  by_cases h : d = 0
  · rw [if_pos h]
  · rw [if_neg h]

/-- The loop starts with the stack of the decays, -/
theorem entry_w : entryContents preI m c (Proc.devRef .tc main_v68_0)
    = stack (rows (Host.exp (dir0 (argLW m c)))) (rows (Host.exp (dir1 (argLW m c)))) := by
  show StableHlo.after hostOps0 _ (Proc.devRef .tc main_v68_0) = _
  after_results
  rfl

/-- that of the keys, -/
theorem entry_k : entryContents preI m c (Proc.devRef .tc main_v68_1)
    = stack (rows (dir0 (argKD m c))) (rows (dir1 (argKD m c))) := by
  show StableHlo.after hostOps0 _ (Proc.devRef .tc main_v68_1) = _
  after_results
  rfl

/-- that of the values, -/
theorem entry_v : entryContents preI m c (Proc.devRef .tc main_v68_2) = stack (vals (argP m c)) (vals (argP m c)) := by
  show StableHlo.after hostOps0 _ (Proc.devRef .tc main_v68_2) = _
  after_results
  rfl

/-- that of the keys' directions, -/
theorem entry_kk : entryContents preI m c (Proc.devRef .tc main_v68_3) = stack (rows (argKK m c)) (rows (argKK m c)) := by
  show StableHlo.after hostOps0 _ (Proc.devRef .tc main_v68_3) = _
  after_results
  rfl

/-- that of the gains, -/
theorem entry_b : entryContents preI m c (Proc.devRef .tc main_v68_4)
    = stack (rows (dir0 (argBD m c))) (rows (dir1 (argBD m c))) := by
  show StableHlo.after hostOps0 _ (Proc.devRef .tc main_v68_4) = _
  after_results
  rfl

/-- and the states zero. -/
theorem entry_s : entryContents preI m c (Proc.devRef .tc main_v68_6)
    = broadcastInDim S2x32x16x64x64 ![] bcast_S_S2x32x16x64x64 (constant S_ .f32 0x00000000#32 : FVec Ideal S_ .f32) := by
  show StableHlo.after hostOps0 _ (Proc.devRef .tc main_v68_6) = _
  after_results
  rfl

/-- The contents after `n` trips. -/
abbrev it (n : ℕ) : Valuation τ sig (Elt Ideal) := STEP^[n] (entryContents preI m c)

/-- The states after `n` trips. -/
abbrev sv (n : ℕ) : FVec Ideal S2x32x16x64x64 .f32 := it m c n (Proc.devRef .tc main_v68_6)

theorem it_succ (n : ℕ) : it m c (n + 1) = STEP (it m c n) := Function.iterate_succ_apply' _ _ _

theorem it_w (n : ℕ) : it m c n (Proc.devRef .tc main_v68_0) = entryContents preI m c (Proc.devRef .tc main_v68_0) := by
  induction n with
  | zero => rfl
  | succ n ih => rw [it_succ, STEP_main_v68_0, ih]

theorem it_k (n : ℕ) : it m c n (Proc.devRef .tc main_v68_1) = entryContents preI m c (Proc.devRef .tc main_v68_1) := by
  induction n with
  | zero => rfl
  | succ n ih => rw [it_succ, STEP_main_v68_1, ih]

theorem it_v (n : ℕ) : it m c n (Proc.devRef .tc main_v68_2) = entryContents preI m c (Proc.devRef .tc main_v68_2) := by
  induction n with
  | zero => rfl
  | succ n ih => rw [it_succ, STEP_main_v68_2, ih]

theorem it_kk (n : ℕ) : it m c n (Proc.devRef .tc main_v68_3) = entryContents preI m c (Proc.devRef .tc main_v68_3) := by
  induction n with
  | zero => rfl
  | succ n ih => rw [it_succ, STEP_main_v68_3, ih]

theorem it_b (n : ℕ) : it m c n (Proc.devRef .tc main_v68_4) = entryContents preI m c (Proc.devRef .tc main_v68_4) := by
  induction n with
  | zero => rfl
  | succ n ih => rw [it_succ, STEP_main_v68_4, ih]

/-- The counter counts the trips. -/
theorem it_ctr (n : ℕ) : it m c n (Proc.devRef .tc main_v68_5) = fun _ => BitVec.ofNat 32 n := by
  induction n with
  | zero => exact ctr_entry m c
  | succ n ih =>
    rw [it_succ, STEP_main_v68_5]
    unfold step_main_v68_5
    rw [ih]
    funext i
    exact (BitVec.ofNat_add n 1).symm

/-- A trip's states are one token's update at the counter. -/
theorem it_state (n : ℕ) : sv m c (n + 1)
    = trip (sv m c n) (tokenAt (entryContents preI m c (Proc.devRef .tc main_v68_0)) (fun _ => BitVec.ofNat 32 n))
      (tokenAt (entryContents preI m c (Proc.devRef .tc main_v68_1)) (fun _ => BitVec.ofNat 32 n))
      (tokenAt (entryContents preI m c (Proc.devRef .tc main_v68_2)) (fun _ => BitVec.ofNat 32 n))
      (tokenAt (entryContents preI m c (Proc.devRef .tc main_v68_3)) (fun _ => BitVec.ofNat 32 n))
      (tokenAt (entryContents preI m c (Proc.devRef .tc main_v68_4)) (fun _ => BitVec.ofNat 32 n)) := by
  show it m c (n + 1) (Proc.devRef .tc main_v68_6) = trip (it m c n (Proc.devRef .tc main_v68_6)) _ _ _ _ _
  rw [it_succ, STEP_main_v68_6]
  unfold step_main_v68_6
  rw [it_w, it_k, it_v, it_kk, it_b, it_ctr]
  rfl

variable {v kk : Fin 8192 → Fin 1024 → ℝ} {lw k b : Fin 2 → Fin 8192 → Fin 1024 → ℝ}

variable (H : RealArgs (fun R C => argP m c (ix2 R C)) (fun R j => argKK m c (ix2 R j)) (fun d R j => argLW m c (ix3 d R j))
  (fun d R j => argKD m c (ix3 d R j)) (fun d R j => argBD m c (ix3 d R j)) v kk lw k b)

include H in
/-- The states after `n` tokens. -/
theorem state_apply (n : ℕ) (hn : n ≤ 256) : ∀ (d : Fin 2) (q : Fin 32) (e : Fin 16) (i j : Fin 64),
    sv m c n (ix5 d q e i j) = ((after v kk lw k b q n d e i j : ℝ) : EReal) := by
  induction n with
  | zero =>
    intro d q e i j
    show (entryContents preI m c (Proc.devRef .tc main_v68_6) : FVec Ideal S2x32x16x64x64 .f32) (ix5 d q e i j) = _
    rw [entry_s]
    exact Ideal.ofBits_zero_f32
  | succ n ih =>
    intro d q e i j
    have hs := ih (by omega)
    have hw : ∀ j, tokenAt (entryContents preI m c (Proc.devRef .tc main_v68_0)) (fun _ => BitVec.ofNat 32 n) (ix4 d q e j)
        = ((Real.exp (lw d (rowOf q d n) (ln e j)) : ℝ) : EReal) := fun j => by
      rw [entry_w]
      refine (tokenAt_apply _ ⟨n, by omega⟩ d q e j).trans ?_
      exact (stack_exp _ _ d q e j).trans ((congrArg Ideal.exp (H.hlw d _ _)).trans (Ideal.exp_coe _))
    have hk : ∀ j, tokenAt (entryContents preI m c (Proc.devRef .tc main_v68_1)) (fun _ => BitVec.ofNat 32 n) (ix4 d q e j)
        = ((k d (rowOf q d n) (ln e j) : ℝ) : EReal) := fun j => by
      rw [entry_k]
      refine (tokenAt_apply _ ⟨n, by omega⟩ d q e j).trans ?_
      exact (stack_dirs _ _ d q e j).trans (H.hk d _ _)
    have hb : ∀ j, tokenAt (entryContents preI m c (Proc.devRef .tc main_v68_4)) (fun _ => BitVec.ofNat 32 n) (ix4 d q e j)
        = ((b d (rowOf q d n) (ln e j) : ℝ) : EReal) := fun j => by
      rw [entry_b]
      refine (tokenAt_apply _ ⟨n, by omega⟩ d q e j).trans ?_
      exact (stack_dirs _ _ d q e j).trans (H.hb d _ _)
    have hv : ∀ j, tokenAt (entryContents preI m c (Proc.devRef .tc main_v68_2)) (fun _ => BitVec.ofNat 32 n) (ix4 d q e j)
        = ((v (rowOf q d n) (ln e j) : ℝ) : EReal) := fun j => by
      rw [entry_v]
      refine (tokenAt_apply _ ⟨n, by omega⟩ d q e j).trans ?_
      exact (stack_same _ _ d q e j).trans ((vals_apply _ _ _).trans (H.hv _ _))
    have hkk : ∀ j, tokenAt (entryContents preI m c (Proc.devRef .tc main_v68_3)) (fun _ => BitVec.ofNat 32 n) (ix4 d q e j)
        = ((kk (rowOf q d n) (ln e j) : ℝ) : EReal) := fun j => by
      rw [entry_kk]
      refine (tokenAt_apply _ ⟨n, by omega⟩ d q e j).trans ?_
      exact (stack_same _ _ d q e j).trans ((rows_apply _ _ _).trans (H.hkk _ _))
    have e0 : (∑ l : Fin 64, sv m c n (ix5 d q e i l)
        * -(tokenAt (entryContents preI m c (Proc.devRef .tc main_v68_3)) (fun _ => BitVec.ofNat 32 n) (ix4 d q e l)))
        = ((∑ l : Fin 64, after v kk lw k b q n d e i l * -(kk (rowOf q d n) (ln e l)) : ℝ) : EReal) := by
      rw [AttnMath.coe_sum]
      refine Finset.sum_congr rfl fun l _ => ?_
      rw [hs, hkk, ← EReal.coe_neg, ← EReal.coe_mul]
    rw [it_state, trip_apply, e0, hs, hw, hb, hv, hk, ← EReal.coe_mul, ← EReal.coe_mul, ← EReal.coe_mul, ← EReal.coe_add, ← EReal.coe_add]
    rfl

include H in
/-- The reference's result: every state after the 256 tokens. -/
theorem result_apply (q : Fin 32) (d : Fin 2) (e : Fin 16) (i j : Fin 64) :
    (out_main_v69 (it m c 256) : FVec Ideal S32x2x16x64x64 .f32) (ix5 q d e i j) = ((after v kk lw k b q 256 d e i j : ℝ) : EReal) := by
  refine Eq.trans ?_ (state_apply m c H 256 le_rfl d q e i j)
  unfold out_main_v69
  pointwise

end Cert.Reference6Ideal.Scan

end
-- ==== Proof.ScanPre.lean ====
/- What the precondition of the scan says of the arguments: the prompt's rows are reals. -/
module

public import proofs.«01_k».proof.Defs
public import proofs.«01_k».proof.Proof.Gen.Pre_finite6
public import proofs.«01_k».proof.Proof.AttnPre
public import proofs.«01_k».proof.Proof.ScanSpec
public import Idealize.ShloMosaic.Lib.ReduceAll

@[expose] public section

set_option maxRecDepth 65536

noncomputable section

namespace Cert.Pre_finite6.Scan

open Cert.Pre_finite6 Idealize.ShloMosaic Cert.Scan Cert.Pre_finite.Attn

attribute [local instance] Cert.Pre_finite6.Gen.facts

/-- Where the precondition holds, the prompt's rows of the five arguments are reals. -/
theorem reals (a0 : FVec Ideal S16384x17664 .bf16) (a1 : FVec Ideal S16384x1024 .f32) (a2 a3 a4 : FVec Ideal S2x16384x1024 .f32)
    (h : Cert.Pre_finite6.fn (F := Ideal) a0 a1 a2 a3 a4 = fun _ => 1#1) :
    ∃ v kk lw k b, RealArgs (fun R C => a0 (ix2 R C)) (fun R j => a1 (ix2 R j)) (fun d R j => a2 (ix3 d R j)) (fun d R j => a3 (ix3 d R j))
      (fun d R j => a4 (ix3 d R j)) v kk lw k b := by
  have h0 := congrFun h (fun i => i.elim0)
  unfold fn fn_part1 at h0
  dsimp only at h0
  obtain ⟨h0, k4⟩ := IntOp.andi_eq_one.1 h0
  obtain ⟨h0, k3⟩ := IntOp.andi_eq_one.1 h0
  obtain ⟨h0, k2⟩ := IntOp.andi_eq_one.1 h0
  obtain ⟨k0, k1⟩ := IntOp.andi_eq_one.1 h0
  have r0 : ∀ (R : Fin 8192) (j : Fin 1024), ∃ r : ℝ, a0 (ix2 (up R) ⟨15360 + j.val, by omega⟩) = (r : EReal) := fun R j => by
    obtain ⟨r, hr⟩ := real_of_cmp (Host.reduce_andi_all _ _ _ _ _ k0 (ix2 R j))
    refine ⟨r, Eq.trans (congrArg a0 ?_) hr⟩
    funext a
    apply Fin.ext
    match a with
    | ⟨0, _⟩ => exact (Nat.zero_add _).symm
    | ⟨1, _⟩ => rfl
  have r1 : ∀ (R : Fin 8192) (j : Fin 1024), ∃ r : ℝ, a1 (ix2 (up R) j) = (r : EReal) := fun R j => by
    obtain ⟨r, hr⟩ := real_of_cmp (Host.reduce_andi_all _ _ _ _ _ k1 (ix2 R j))
    refine ⟨r, Eq.trans (congrArg a1 ?_) hr⟩
    funext a
    apply Fin.ext
    match a with
    | ⟨0, _⟩ => exact (Nat.zero_add _).symm
    | ⟨1, _⟩ => exact (Nat.zero_add _).symm
  have r2 : ∀ (d : Fin 2) (R : Fin 8192) (j : Fin 1024), ∃ r : ℝ, a2 (ix3 d (up R) j) = (r : EReal) := fun d R j => by
    obtain ⟨r, hr⟩ := real_of_cmp (Host.reduce_andi_all _ _ _ _ _ k2 (ix3 d R j))
    refine ⟨r, Eq.trans (congrArg a2 ?_) hr⟩
    funext a
    apply Fin.ext
    match a with
    | ⟨0, _⟩ => exact (Nat.zero_add _).symm
    | ⟨1, _⟩ => exact (Nat.zero_add _).symm
    | ⟨2, _⟩ => exact (Nat.zero_add _).symm
  have r3 : ∀ (d : Fin 2) (R : Fin 8192) (j : Fin 1024), ∃ r : ℝ, a3 (ix3 d (up R) j) = (r : EReal) := fun d R j => by
    obtain ⟨r, hr⟩ := real_of_cmp (Host.reduce_andi_all _ _ _ _ _ k3 (ix3 d R j))
    refine ⟨r, Eq.trans (congrArg a3 ?_) hr⟩
    funext a
    apply Fin.ext
    match a with
    | ⟨0, _⟩ => exact (Nat.zero_add _).symm
    | ⟨1, _⟩ => exact (Nat.zero_add _).symm
    | ⟨2, _⟩ => exact (Nat.zero_add _).symm
  have r4 : ∀ (d : Fin 2) (R : Fin 8192) (j : Fin 1024), ∃ r : ℝ, a4 (ix3 d (up R) j) = (r : EReal) := fun d R j => by
    obtain ⟨r, hr⟩ := real_of_cmp (Host.reduce_andi_all _ _ _ _ _ k4 (ix3 d R j))
    refine ⟨r, Eq.trans (congrArg a4 ?_) hr⟩
    funext a
    apply Fin.ext
    match a with
    | ⟨0, _⟩ => exact (Nat.zero_add _).symm
    | ⟨1, _⟩ => exact (Nat.zero_add _).symm
    | ⟨2, _⟩ => exact (Nat.zero_add _).symm
  choose v hv using r0
  choose kk hkk using r1
  choose lw hlw using r2
  choose k hk using r3
  choose b hb using r4
  exact ⟨v, kk, lw, k, b, hv, hkk, hlw, hk, hb⟩

end Cert.Pre_finite6.Scan

end
-- ==== Proof.ScanClaim.lean ====
/- The claim that the chunked scan and the token-by-token reference end with the same states. -/
module

public import proofs.«01_k».proof.Defs
public import proofs.«01_k».proof.Proof.ScanArray
public import proofs.«01_k».proof.Proof.ScanRef
public import proofs.«01_k».proof.Proof.ScanPre

@[expose] public section

set_option maxRecDepth 65536

noncomputable section

namespace Cert.Proof

open Idealize.ShloMosaic Idealize.ShloMosaic.TcCoe Idealize.SL.Sem

attribute [local instance] Cert.Kernel6Ideal.Gen.facts Cert.Reference6Ideal.Gen.facts Cert.Pre_finite6.Gen.facts

/-- An index of the states by its five coordinates. -/
theorem ix5_eta (i : Cert.Kernel6Ideal.S32x2x16x64x64.Idx) :
    i = ix5 (⟨(i 0).val, (i 0).isLt⟩ : Fin 32) (⟨(i 1).val, (i 1).isLt⟩ : Fin 2) (⟨(i 2).val, (i 2).isLt⟩ : Fin 16)
      (⟨(i 3).val, (i 3).isLt⟩ : Fin 64) (⟨(i 4).val, (i 4).isLt⟩ : Fin 64) := by
  funext a
  match a with
  | ⟨0, _⟩ => rfl
  | ⟨1, _⟩ => rfl
  | ⟨2, _⟩ => rfl
  | ⟨3, _⟩ => rfl
  | ⟨4, _⟩ => rfl

/-- The kernel's final states and the reference's, from equal finite arguments, end equal. -/
theorem algebraic_scan : Cert.algebraic_Kernel6Ideal_Reference6Ideal_pre_finite6 := by
  intro m g m' g' hpre hag
  refine ⟨fun c => (Cert.Kernel6Ideal.Gen.dats m 0 c).arrAt 14 Cert.Kernel6Ideal.cfg0.N,
    (θ_run _ _ _).mono (fun r h c => (h c).2.2) (Cert.Kernel6Ideal.Value.run_blocks m g), ?_⟩
  refine (θ_run _ _ _).mono (fun r h c => ⟨(h c).1.trans ?_, (h c).2⟩) (Cert.Reference6Ideal.Value.run m' g')
  obtain ⟨g0, g1, g2, g3, g4⟩ := hag c
  obtain ⟨v, kk, lw, k, b, H⟩ := Cert.Pre_finite6.Scan.reals _ _ _ _ _ (hpre c)
  have H' := H
  rw [← g0, ← g1, ← g2, ← g3, ← g4] at H'
  funext i
  rw [ix5_eta i]
  refine (Cert.Reference6Ideal.Scan.result_apply m' c H' _ _ _ _ _).trans ?_
  exact (Cert.Kernel6Ideal.Scan.final_apply m c H _ _ _ _ _).symm

/-- The reference's states end, with its arguments unchanged. -/
theorem frame_scan_reference : Cert.quiescent_Reference6Ideal := fun m ρ _ =>
  (θ_run Cert.Reference6Ideal.defs _ _).mono (fun r h => And.intro (fun c => (h c).2) (sem_eq_zero_of_no_sems (by decide) r.2))
    (Cert.Reference6Ideal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference4Ideal
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Pre_finite6
public import proofs.«01_k».proof.Proof.Gen.Reference6Ideal
public import proofs.«01_k».proof.Proof.Gen.Reference6Ideal.Run
public import proofs.«01_k».proof.Proof.Gen.Kernel6Ideal.Value
public import proofs.«01_k».proof.Proof.Gen.Pre_finite
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel5Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.AttnClaim
public import proofs.«01_k».proof.Proof.InClaim
public import proofs.«01_k».proof.Proof.MergeClaim
public import proofs.«01_k».proof.Proof.OutFrame
public import proofs.«01_k».proof.Proof.OutFrameIdeal
public import proofs.«01_k».proof.Proof.OutClaim
public import proofs.«01_k».proof.Proof.KvClaim
public import proofs.«01_k».proof.Proof.ScanClaim
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Kernel2.Gen.facts Cert.Kernel2Ideal.Gen.facts Cert.Reference2Ideal.Gen.facts Cert.Kernel3.Gen.facts Cert.Kernel3Ideal.Gen.facts Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Pre_finite.Gen.facts Cert.Pre_finite6.Gen.facts

/-- The attention's reference ends with its arguments unchanged and, having no semaphore, with every counter at zero. -/
theorem frame_attn_reference : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts, Cert.Pre_finite6.Gen.facts,
  fun m ρ _ => Cert.Kernel.Gen.frame m ρ,
  fun m ρ _ => Cert.KernelIdeal.Gen.frame m ρ,
  fun m ρ _ => Cert.KernelIdeal.Gen.frame m ρ,
  frame_attn_reference,
  fun m ρ _ => frame_attn_reference m ρ True.intro,
  fun m ρ _ => Cert.Kernel2.Gen.frame m ρ,
  fun m ρ _ => Cert.Kernel2Ideal.Gen.frame m ρ,
  frame_in_reference,
  fun m ρ _ => Cert.Kernel3.Gen.frame m ρ,
  fun m ρ _ => Cert.Kernel3Ideal.Gen.frame m ρ,
  frame_merge_reference,
  fun m ρ _ => Cert.OutFrame.frame m ρ,
  fun m ρ _ => Cert.OutFrameIdeal.frame m ρ,
  frame_out_reference,
  fun m ρ _ => Cert.Kernel5.Gen.frame m ρ,
  fun m ρ _ => Cert.Kernel5Ideal.Gen.frame m ρ,
  frame_kv_reference,
  fun m ρ _ => Cert.Kernel6.Gen.frame m ρ,
  fun m ρ _ => Cert.Kernel6Ideal.Gen.frame m ρ,
  fun m ρ _ => Cert.Kernel6Ideal.Gen.frame m ρ,
  frame_scan_reference,
  fun m ρ _ => frame_scan_reference m ρ True.intro,
  trivial,
  algebraic_attn,
  trivial,
  algebraic_in,
  trivial,
  algebraic_merge,
  trivial,
  algebraic_out,
  trivial,
  algebraic_kv,
  trivial,
  algebraic_scan⟩

end Cert.Proof

end
